-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "gelu_ka" .f32 0x3D122279#32 ((80338380498831 / 2251799813685248 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2048x1024 : Shape := ⟨3, ![8, 2048, 1024]⟩
abbrev S136x12288 : Shape := ⟨2, ![136, 12288]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S8x2x1024 : Shape := ⟨3, ![8, 2, 1024]⟩
abbrev S1x512x1024 : Shape := ⟨3, ![1, 512, 1024]⟩
abbrev S8x3072 : Shape := ⟨2, ![8, 3072]⟩
abbrev S1x2x1024 : Shape := ⟨3, ![1, 2, 1024]⟩
abbrev S4x2x8x128 : Shape := ⟨4, ![4, 2, 8, 128]⟩
abbrev S512x1024 : Shape := ⟨2, ![512, 1024]⟩
abbrev S2x3x512x256 : Shape := ⟨4, ![2, 3, 512, 256]⟩
abbrev S2x520x128 : Shape := ⟨3, ![2, 520, 128]⟩
abbrev S2x512x1024 : Shape := ⟨3, ![2, 512, 1024]⟩
abbrev S512 : Shape := ⟨1, ![512]⟩
abbrev S512x1 : Shape := ⟨2, ![512, 1]⟩
abbrev S1x3072 : Shape := ⟨2, ![1, 3072]⟩
abbrev S1024x256 : Shape := ⟨2, ![1024, 256]⟩
abbrev S512x256 : Shape := ⟨2, ![512, 256]⟩
abbrev S1x1x512x256 : Shape := ⟨4, ![1, 1, 512, 256]⟩
abbrev S1x1x8x128 : Shape := ⟨4, ![1, 1, 8, 128]⟩
abbrev S8x128 : Shape := ⟨2, ![8, 128]⟩
abbrev S1x520x128 : Shape := ⟨3, ![1, 520, 128]⟩
abbrev S520x128 : Shape := ⟨2, ![520, 128]⟩
abbrev S1x1x512x128 : Shape := ⟨4, ![1, 1, 512, 128]⟩
abbrev S512x128 : Shape := ⟨2, ![512, 128]⟩
abbrev S3x128 : Shape := ⟨2, ![3, 128]⟩
abbrev S1x128 : Shape := ⟨2, ![1, 128]⟩
abbrev S1x512x128 : Shape := ⟨3, ![1, 512, 128]⟩
abbrev S1x1x2x128 : Shape := ⟨4, ![1, 1, 2, 128]⟩
abbrev S2x128 : Shape := ⟨2, ![2, 128]⟩
abbrev S1x2x128 : Shape := ⟨3, ![1, 2, 128]⟩

abbrev nBuf : Space → Nat
  | .hbm => 9
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S136x12288, .f32⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S8x2048x1024, .f32⟩
  | .hbm, ⟨8, _⟩ => ⟨S8x2x1024, .f32⟩
  | .local _ .vmem, ⟨0, _⟩ => ⟨S1x512x1024, .f32⟩
  | .local _ .vmem, ⟨1, _⟩ => ⟨S1x512x1024, .f32⟩
  | .local _ .vmem, ⟨2, _⟩ => ⟨S8x3072, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x2x1024, .f32⟩
  | .local _ .vmem, ⟨11, _⟩ => ⟨S1x2x1024, .f32⟩
  | .local _ .vmem, ⟨12, _⟩ => ⟨S4x2x8x128, .f32⟩
  | .local _ .vmem, ⟨13, _⟩ => ⟨S512x1024, .bf16⟩
  | .local _ .vmem, ⟨14, _⟩ => ⟨S2x3x512x256, .f32⟩
  | .local _ .vmem, ⟨15, _⟩ => ⟨S2x520x128, .f32⟩
  | .local _ .vmem, ⟨16, _⟩ => ⟨S2x512x1024, .bf16⟩
  | .local _ .vmem, ⟨17, _⟩ => ⟨S512x1024, .f32⟩
  | .local _ .vmem, ⟨18, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c32_i32_14 : BitVec 32 := 32#32
  let v36 : BitVec 1 := Scalar.cmpi .slt arg0 c32_i32_14
  let v37 : BitVec 32 := Scalar.extui v36
  let c0_i32_15 : BitVec 32 := 0#32
  let v38 : BitVec 1 := Scalar.cmpi .ne v37 c0_i32_15
  v38

def k0_off1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let v73 : Index := Scalar.indexCast v17
  let c0_32 : Index := 0#32
  ![v73.toNat, 0]
def k0_cond5 (i : grid0.Coords) : BitVec 1 :=
  let arg0 : BitVec 32 := BitVec.ofNat 32 (i 0).val
  let c32_i32_18 : BitVec 32 := 32#32
  let v44 : BitVec 1 := Scalar.cmpi .eq arg0 c32_i32_18
  let v45 : BitVec 32 := Scalar.extui v44
  let c0_i32_19 : BitVec 32 := 0#32
  let v46 : BitVec 1 := Scalar.cmpi .ne v45 c0_i32_19
  v46

def k0_cond4 (i : grid0.Coords) : BitVec 1 :=
  let arg0 : BitVec 32 := BitVec.ofNat 32 (i 0).val
  let c32_i32_16 : BitVec 32 := 32#32
  let v39 : BitVec 1 := Scalar.cmpi .slt arg0 c32_i32_16
  let c31_i32 : BitVec 32 := 31#32
  let v0 : BitVec 32 := Scalar.minsi arg0 c31_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c3_i32 : BitVec 32 := 3#32
  let v40 : BitVec 1 := Scalar.cmpi .eq v27 c3_i32
  let v41 : BitVec 1 := Scalar.andi v39 v40
  let v42 : BitVec 32 := Scalar.extui v41
  let c0_i32_17 : BitVec 32 := 0#32
  let v43 : BitVec 1 := Scalar.cmpi .ne v42 c0_i32_17
  v43

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c16_i32 : BitVec 32 := 16#32
  let c2_i32 : BitVec 32 := 2#32
  let c0_i32 : BitVec 32 := 0#32
  ![c16_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x2048x1024 : Shape := ⟨3, ![8, 2048, 1024]⟩
abbrev S136x12288 : Shape := ⟨2, ![136, 12288]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S8x12288 : Shape := ⟨2, ![8, 12288]⟩
abbrev S8x2x2x3x1024 : Shape := ⟨5, ![8, 2, 2, 3, 1024]⟩
abbrev S8x1x1x1x1024 : Shape := ⟨5, ![8, 1, 1, 1, 1024]⟩
abbrev S8x1024 : Shape := ⟨2, ![8, 1024]⟩
abbrev S8x1x1024 : Shape := ⟨3, ![8, 1, 1024]⟩
abbrev S_ : Shape := ⟨0, ![]⟩
abbrev S8x2x1024 : Shape := ⟨3, ![8, 2, 1024]⟩
abbrev S8x2048x3072 : Shape := ⟨3, ![8, 2048, 3072]⟩
abbrev S8x2050x1024 : Shape := ⟨3, ![8, 2050, 1024]⟩
abbrev S1024 : Shape := ⟨1, ![1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S136x12288, .f32⟩
  | .hbm, ⟨2, _⟩ => ⟨S1024x3072, .bf16⟩
  | .hbm, ⟨3, _⟩ => ⟨S3x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S8x12288, .f32⟩
  | .hbm, ⟨8, _⟩ => ⟨S8x2x2x3x1024, .f32⟩
  | .hbm, ⟨9, _⟩ => ⟨S8x1x1x1x1024, .f32⟩
  | .hbm, ⟨10, _⟩ => ⟨S8x1024, .f32⟩
  | .hbm, ⟨11, _⟩ => ⟨S8x1x1x1x1024, .f32⟩
  | .hbm, ⟨12, _⟩ => ⟨S8x1024, .f32⟩
  | .hbm, ⟨13, _⟩ => ⟨S8x1x1x1x1024, .f32⟩
  | .hbm, ⟨14, _⟩ => ⟨S8x1024, .f32⟩
  | .hbm, ⟨15, _⟩ => ⟨S8x1x1024, .f32⟩
  | .hbm, ⟨16, _⟩ => ⟨S_, .f32⟩
  | .hbm, ⟨17, _⟩ => ⟨S8x1x1024, .f32⟩
  | .hbm, ⟨18, _⟩ => ⟨S8x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2x1024, .f32⟩
  | .hbm, ⟨26, _⟩ => ⟨S1024x3072, .f32⟩
  | .hbm, ⟨27, _⟩ => ⟨S1024x1024, .f32⟩
  | .hbm, ⟨28, _⟩ => ⟨S8x2048x3072, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2050x1024, .f32⟩
  | .hbm, ⟨34, _⟩ => ⟨S1x1024, .f32⟩
  | .hbm, ⟨35, _⟩ => ⟨S1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S1x1024, .f32⟩
  | .hbm, ⟨51, _⟩ => ⟨S1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048x1024, .f32⟩
  | .hbm, ⟨62, _⟩ => ⟨S8x2048x1024, .f32⟩
  | .hbm, ⟨63, _⟩ => ⟨S8x1x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S1x1x1024, .f32⟩
  | .hbm, ⟨96, _⟩ => ⟨S8x2048x1024, .f32⟩
  | .hbm, ⟨97, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_cst_4 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_5 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Kernel2.lean ====
abbrev S8x2048x1024 : Shape := ⟨3, ![8, 2048, 1024]⟩
abbrev S136x12288 : Shape := ⟨2, ![136, 12288]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S8x2x5632 : Shape := ⟨3, ![8, 2, 5632]⟩
abbrev S1x512x1024 : Shape := ⟨3, ![1, 512, 1024]⟩
abbrev S8x3072 : Shape := ⟨2, ![8, 3072]⟩
abbrev S1x2x5632 : Shape := ⟨3, ![1, 2, 5632]⟩
abbrev S22x2x8x128 : Shape := ⟨4, ![22, 2, 8, 128]⟩
abbrev S512x1024 : Shape := ⟨2, ![512, 1024]⟩
abbrev S2x2x2x520x128 : Shape := ⟨5, ![2, 2, 2, 520, 128]⟩
abbrev S2x512x2816 : Shape := ⟨3, ![2, 512, 2816]⟩
abbrev S512 : Shape := ⟨1, ![512]⟩
abbrev S512x1 : Shape := ⟨2, ![512, 1]⟩
abbrev S1x3072 : Shape := ⟨2, ![1, 3072]⟩
abbrev S1024x256 : Shape := ⟨2, ![1024, 256]⟩
abbrev S512x256 : Shape := ⟨2, ![512, 256]⟩
abbrev S512x128 : Shape := ⟨2, ![512, 128]⟩
abbrev S1x1x1x512x128 : Shape := ⟨5, ![1, 1, 1, 512, 128]⟩
abbrev S1x1x8x128 : Shape := ⟨4, ![1, 1, 8, 128]⟩
abbrev S8x128 : Shape := ⟨2, ![8, 128]⟩
abbrev S1x1x1x520x128 : Shape := ⟨5, ![1, 1, 1, 520, 128]⟩
abbrev S520x128 : Shape := ⟨2, ![520, 128]⟩
abbrev S3x128 : Shape := ⟨2, ![3, 128]⟩
abbrev S1x128 : Shape := ⟨2, ![1, 128]⟩
abbrev S1x512x128 : Shape := ⟨3, ![1, 512, 128]⟩
abbrev S1x512x2816 : Shape := ⟨3, ![1, 512, 2816]⟩
abbrev S512x2816 : Shape := ⟨2, ![512, 2816]⟩
abbrev S1x1x2x128 : Shape := ⟨4, ![1, 1, 2, 128]⟩
abbrev S2x128 : Shape := ⟨2, ![2, 128]⟩
abbrev S1x2x128 : Shape := ⟨3, ![1, 2, 128]⟩

abbrev nBuf : Space → Nat
  | .hbm => 10
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S136x12288, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S8x2048x1024, .f32⟩
  | .hbm, ⟨9, _⟩ => ⟨S8x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S8x3072, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x2x5632, .f32⟩
  | .local _ .vmem, ⟨12, _⟩ => ⟨S1x2x5632, .f32⟩
  | .local _ .vmem, ⟨13, _⟩ => ⟨S22x2x8x128, .f32⟩
  | .local _ .vmem, ⟨14, _⟩ => ⟨S512x1024, .bf16⟩
  | .local _ .vmem, ⟨15, _⟩ => ⟨S2x2x2x520x128, .f32⟩
  | .local _ .vmem, ⟨16, _⟩ => ⟨S2x512x2816, .bf16⟩
  | .local _ .vmem, ⟨17, _⟩ => ⟨S512x1024, .f32⟩
  | .local _ .vmem, ⟨18, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c32_i32_14 : BitVec 32 := 32#32
  let v36 : BitVec 1 := Scalar.cmpi .slt arg0 c32_i32_14
  let v37 : BitVec 32 := Scalar.extui v36
  let c0_i32_15 : BitVec 32 := 0#32
  let v38 : BitVec 1 := Scalar.cmpi .ne v37 c0_i32_15
  v38

def k0_off1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let v1 : BitVec 32 := Scalar.divsi v0 c4_i32
  let c1_i32 : BitVec 32 := 1#32
  let v16 : BitVec 32 := Scalar.subi v1 c1_i32
  let v17 : BitVec 32 := Scalar.select v15 v16 v1
  let v73 : Index := Scalar.indexCast v17
  let c0_32 : Index := 0#32
  ![v73.toNat, 0]
def k0_cond5 (i : grid0.Coords) : BitVec 1 :=
  let arg0 : BitVec 32 := BitVec.ofNat 32 (i 0).val
  let c32_i32_18 : BitVec 32 := 32#32
  let v44 : BitVec 1 := Scalar.cmpi .eq arg0 c32_i32_18
  let v45 : BitVec 32 := Scalar.extui v44
  let c0_i32_19 : BitVec 32 := 0#32
  let v46 : BitVec 1 := Scalar.cmpi .ne v45 c0_i32_19
  v46

def k0_cond4 (i : grid0.Coords) : BitVec 1 :=
  let arg0 : BitVec 32 := BitVec.ofNat 32 (i 0).val
  let c32_i32_16 : BitVec 32 := 32#32
  let v39 : BitVec 1 := Scalar.cmpi .slt arg0 c32_i32_16
  let c31_i32 : BitVec 32 := 31#32
  let v0 : BitVec 32 := Scalar.minsi arg0 c31_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c3_i32 : BitVec 32 := 3#32
  let v40 : BitVec 1 := Scalar.cmpi .eq v27 c3_i32
  let v41 : BitVec 1 := Scalar.andi v39 v40
  let v42 : BitVec 32 := Scalar.extui v41
  let c0_i32_17 : BitVec 32 := 0#32
  let v43 : BitVec 1 := Scalar.cmpi .ne v42 c0_i32_17
  v43

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c16_i32 : BitVec 32 := 16#32
  let c3_i32 : BitVec 32 := 3#32
  let c0_i32 : BitVec 32 := 0#32
  ![c16_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "gelu_ka" => some ((80338380498831 / 2251799813685248 : ℝ) : EReal)
  | _ => none
-- ==== Reference2Ideal.lean ====
abbrev S8x2048x1024 : Shape := ⟨3, ![8, 2048, 1024]⟩
abbrev S136x12288 : Shape := ⟨2, ![136, 12288]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S8x12288 : Shape := ⟨2, ![8, 12288]⟩
abbrev S8x2x2x3x1024 : Shape := ⟨5, ![8, 2, 2, 3, 1024]⟩
abbrev S8x1x1x1x1024 : Shape := ⟨5, ![8, 1, 1, 1, 1024]⟩
abbrev S8x1024 : Shape := ⟨2, ![8, 1024]⟩
abbrev S8x1x1024 : Shape := ⟨3, ![8, 1, 1024]⟩
abbrev S_ : Shape := ⟨0, ![]⟩
abbrev S8x2x5632 : Shape := ⟨3, ![8, 2, 5632]⟩
abbrev S5632 : Shape := ⟨1, ![5632]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S136x12288, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S8x12288, .f32⟩
  | .hbm, ⟨9, _⟩ => ⟨S8x2x2x3x1024, .f32⟩
  | .hbm, ⟨10, _⟩ => ⟨S8x1x1x1x1024, .f32⟩
  | .hbm, ⟨11, _⟩ => ⟨S8x1024, .f32⟩
  | .hbm, ⟨12, _⟩ => ⟨S8x1x1x1x1024, .f32⟩
  | .hbm, ⟨13, _⟩ => ⟨S8x1024, .f32⟩
  | .hbm, ⟨14, _⟩ => ⟨S8x1x1x1x1024, .f32⟩
  | .hbm, ⟨15, _⟩ => ⟨S8x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2x5632, .f32⟩
  | .hbm, ⟨27, _⟩ => ⟨S1024x5632, .f32⟩
  | .hbm, ⟨28, _⟩ => ⟨S5632, .f32⟩
  | .hbm, ⟨29, _⟩ => ⟨S2816x1024, .f32⟩
  | .hbm, ⟨30, _⟩ => ⟨S8x2048x5632, .f32⟩
  | .hbm, ⟨31, _⟩ => ⟨S8x2050x5632, .f32⟩
  | .hbm, ⟨32, _⟩ => ⟨S1x5632, .f32⟩
  | .hbm, ⟨33, _⟩ => ⟨S5632, .f32⟩
  | .hbm, ⟨34, _⟩ => ⟨S8x2048x5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S_, .f32⟩
  | .hbm, ⟨39, _⟩ => ⟨S8x2048x5632, .f32⟩
  | .hbm, ⟨40, _⟩ => ⟨S8x2048x5632, .f32⟩
  | .hbm, ⟨41, _⟩ => ⟨S1x5632, .f32⟩
  | .hbm, ⟨42, _⟩ => ⟨S5632, .f32⟩
  | .hbm, ⟨43, _⟩ => ⟨S8x2048x5632, .f32⟩
  | .hbm, ⟨44, _⟩ => ⟨S1x1x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S1x5632, .f32⟩
  | .hbm, ⟨49, _⟩ => ⟨S5632, .f32⟩
  | .hbm, ⟨50, _⟩ => ⟨S8x2048x5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S8x2x5632, .f32⟩
  | .hbm, ⟨56, _⟩ => ⟨S1x1x5632, .f32⟩
  | .hbm, ⟨57, _⟩ => ⟨S8x2048x5632, .f32⟩
  | .hbm, ⟨58, _⟩ => ⟨S8x2048x5632, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S_, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S_, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S8x2048x1024, .f32⟩
  | .hbm, ⟨80, _⟩ => ⟨S_, .f32⟩
  | .hbm, ⟨81, _⟩ => ⟨S8x2048x1024, .f32⟩
  | .hbm, ⟨82, _⟩ => ⟨S8x2048x1024, .f32⟩
  | .hbm, ⟨83, _⟩ => ⟨S8x1x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S8x2048, .f32⟩
  | .hbm, ⟨91, _⟩ => ⟨S8x2048x1, .f32⟩
  | .hbm, ⟨92, _⟩ => ⟨S_, .f32⟩
  | .hbm, ⟨93, _⟩ => ⟨S8x2048x1, .f32⟩
  | .hbm, ⟨94, _⟩ => ⟨S8x2048x1, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S_, .f32⟩
  | .hbm, ⟨99, _⟩ => ⟨S8x2048, .f32⟩
  | .hbm, ⟨100, _⟩ => ⟨S8x2048x1, .f32⟩
  | .hbm, ⟨101, _⟩ => ⟨S_, .f32⟩
  | .hbm, ⟨102, _⟩ => ⟨S8x2048x1, .f32⟩
  | .hbm, ⟨103, _⟩ => ⟨S8x2048x1, .f32⟩
  | .hbm, ⟨104, _⟩ => ⟨S8x2048x1024, .f32⟩
  | .hbm, ⟨105, _⟩ => ⟨S8x2048x1024, .f32⟩
  | .hbm, ⟨106, _⟩ => ⟨S_, .f32⟩
  | .hbm, ⟨107, _⟩ => ⟨S8x2048x1, .f32⟩
  | .hbm, ⟨108, _⟩ => ⟨S8x2048x1, .f32⟩
  | .hbm, ⟨109, _⟩ => ⟨S8x2048x1, .f32⟩
  | .hbm, ⟨110, _⟩ => ⟨S8x2048x1024, .f32⟩
  | .hbm, ⟨111, _⟩ => ⟨S8x2048x1024, .f32⟩
  | .hbm, ⟨112, _⟩ => ⟨S1x1x1024, .f32⟩
  | .hbm, ⟨113, _⟩ => ⟨S8x2048x1024, .f32⟩
  | .hbm, ⟨114, _⟩ => ⟨S8x2048x1024, .f32⟩
  | .hbm, ⟨115, _⟩ => ⟨S1x1x1024, .f32⟩
  | .hbm, ⟨116, _⟩ => ⟨S8x2048x1024, .f32⟩
  | .hbm, ⟨117, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩

abbrev nD : Nat := 1
abbrev τ : Topo := Topo.v7x

variable {F : FTy → Type} [FloatOps F]
-- ==== Kernel3.lean ====
abbrev S128x1024 : Shape := ⟨2, ![128, 1024]⟩
abbrev S136x12288 : Shape := ⟨2, ![136, 12288]⟩
abbrev S1024x3072 : Shape := ⟨2, ![1024, 3072]⟩
abbrev S3x1024 : Shape := ⟨2, ![3, 1024]⟩
abbrev S1x128x2x1024 : Shape := ⟨4, ![1, 128, 2, 1024]⟩
abbrev S1024x1024 : Shape := ⟨2, ![1024, 1024]⟩
abbrev S1x1024 : Shape := ⟨2, ![1, 1024]⟩
abbrev S1x128x1x1024 : Shape := ⟨4, ![1, 128, 1, 1024]⟩
abbrev S128x3072 : Shape := ⟨2, ![128, 3072]⟩
abbrev S128 : Shape := ⟨1, ![128]⟩
abbrev S128x1 : Shape := ⟨2, ![128, 1]⟩
abbrev S128x1x1024 : Shape := ⟨3, ![128, 1, 1024]⟩
abbrev S128x2x1024 : Shape := ⟨3, ![128, 2, 1024]⟩

abbrev nBuf : Space → Nat
  | .hbm => 18
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S136x12288, .f32⟩
  | .hbm, ⟨2, _⟩ => ⟨S1024x3072, .bf16⟩
  | .hbm, ⟨3, _⟩ => ⟨S3x1024, .f32⟩
  | .hbm, ⟨4, _⟩ => ⟨S1x128x2x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1x128x1x1024, .f32⟩
  | .hbm, ⟨9, _⟩ => ⟨S128x1024, .f32⟩
  | .hbm, ⟨10, _⟩ => ⟨S1x128x1x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1x1024, .f32⟩
  | .hbm, ⟨15, _⟩ => ⟨S128x1x1024, .f32⟩
  | .hbm, ⟨16, _⟩ => ⟨S128x2x1024, .f32⟩
  | .hbm, ⟨17, _⟩ => ⟨S1x128x2x1024, .f32⟩
  | .local _ .vmem, ⟨0, _⟩ => ⟨S128x1024, .f32⟩
  | .local _ .vmem, ⟨1, _⟩ => ⟨S128x3072, .f32⟩
  | .local _ .vmem, ⟨2, _⟩ => ⟨S1024x3072, .bf16⟩
  | .local _ .vmem, ⟨3, _⟩ => ⟨S3x1024, .f32⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S128x1024 : Shape := ⟨2, ![128, 1024]⟩
abbrev S136x12288 : Shape := ⟨2, ![136, 12288]⟩
abbrev S1024x3072 : Shape := ⟨2, ![1024, 3072]⟩
abbrev S3x1024 : Shape := ⟨2, ![3, 1024]⟩
abbrev S1x128x2x1024 : Shape := ⟨4, ![1, 128, 2, 1024]⟩
abbrev S1024x1024 : Shape := ⟨2, ![1024, 1024]⟩
abbrev S1x1024 : Shape := ⟨2, ![1, 1024]⟩
abbrev S128x12288 : Shape := ⟨2, ![128, 12288]⟩
abbrev S128x2x2x3x1024 : Shape := ⟨5, ![128, 2, 2, 3, 1024]⟩
abbrev S128x1x1x1x1024 : Shape := ⟨5, ![128, 1, 1, 1, 1024]⟩
abbrev S128x1x1024 : Shape := ⟨3, ![128, 1, 1024]⟩
abbrev S_ : Shape := ⟨0, ![]⟩
abbrev S128x2x1024 : Shape := ⟨3, ![128, 2, 1024]⟩
abbrev S128x1x3072 : Shape := ⟨3, ![128, 1, 3072]⟩
abbrev S128x3x1024 : Shape := ⟨3, ![128, 3, 1024]⟩
abbrev S1024 : Shape := ⟨1, ![1024]⟩
abbrev S1x1x1024 : Shape := ⟨3, ![1, 1, 1024]⟩
abbrev S128x1 : Shape := ⟨2, ![128, 1]⟩
abbrev S128x1x1 : Shape := ⟨3, ![128, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S136x12288, .f32⟩
  | .hbm, ⟨2, _⟩ => ⟨S1024x3072, .bf16⟩
  | .hbm, ⟨3, _⟩ => ⟨S3x1024, .f32⟩
  | .hbm, ⟨4, _⟩ => ⟨S1x128x2x1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S128x12288, .f32⟩
  | .hbm, ⟨9, _⟩ => ⟨S128x2x2x3x1024, .f32⟩
  | .hbm, ⟨10, _⟩ => ⟨S128x1x1x1x1024, .f32⟩
  | .hbm, ⟨11, _⟩ => ⟨S128x1024, .f32⟩
  | .hbm, ⟨12, _⟩ => ⟨S128x1x1x1x1024, .f32⟩
  | .hbm, ⟨13, _⟩ => ⟨S128x1024, .f32⟩
  | .hbm, ⟨14, _⟩ => ⟨S128x1x1x1x1024, .f32⟩
  | .hbm, ⟨15, _⟩ => ⟨S128x1024, .f32⟩
  | .hbm, ⟨16, _⟩ => ⟨S128x1x1024, .f32⟩
  | .hbm, ⟨17, _⟩ => ⟨S128x1x1024, .f32⟩
  | .hbm, ⟨18, _⟩ => ⟨S_, .f32⟩
  | .hbm, ⟨19, _⟩ => ⟨S128x1x1024, .f32⟩
  | .hbm, ⟨20, _⟩ => ⟨S128x1x1024, .f32⟩
  | .hbm, ⟨21, _⟩ => ⟨S128x1x1024, .f32⟩
  | .hbm, ⟨22, _⟩ => ⟨S128x1x1024, .f32⟩
  | .hbm, ⟨23, _⟩ => ⟨S128x1x1024, .f32⟩
  | .hbm, ⟨24, _⟩ => ⟨S128x2x1024, .f32⟩
  | .hbm, ⟨25, _⟩ => ⟨S1024x3072, .f32⟩
  | .hbm, ⟨26, _⟩ => ⟨S1024x1024, .f32⟩
  | .hbm, ⟨27, _⟩ => ⟨S128x1x3072, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S128x3x1024, .f32⟩
  | .hbm, ⟨33, _⟩ => ⟨S1x1024, .f32⟩
  | .hbm, ⟨34, _⟩ => ⟨S1024, .f32⟩
  | .hbm, ⟨35, _⟩ => ⟨S128x1x1024, .f32⟩
  | .hbm, ⟨36, _⟩ => ⟨S1x1x1024, .f32⟩
  | .hbm, ⟨37, _⟩ => ⟨S128x1x1024, .f32⟩
  | .hbm, ⟨38, _⟩ => ⟨S128x1x1024, .f32⟩
  | .hbm, ⟨39, _⟩ => ⟨S_, .f32⟩
  | .hbm, ⟨40, _⟩ => ⟨S128x1x1024, .f32⟩
  | .hbm, ⟨41, _⟩ => ⟨S128x1x1024, .f32⟩
  | .hbm, ⟨42, _⟩ => ⟨S1x1024, .f32⟩
  | .hbm, ⟨43, _⟩ => ⟨S1024, .f32⟩
  | .hbm, ⟨44, _⟩ => ⟨S128x1x1024, .f32⟩
  | .hbm, ⟨45, _⟩ => ⟨S1x1x1024, .f32⟩
  | .hbm, ⟨46, _⟩ => ⟨S128x1x1024, .f32⟩
  | .hbm, ⟨47, _⟩ => ⟨S128x1x1024, .f32⟩
  | .hbm, ⟨48, _⟩ => ⟨S128x1x1024, .f32⟩
  | .hbm, ⟨49, _⟩ => ⟨S1x1024, .f32⟩
  | .hbm, ⟨50, _⟩ => ⟨S1024, .f32⟩
  | .hbm, ⟨51, _⟩ => ⟨S128x1x1024, .f32⟩
  | .hbm, ⟨52, _⟩ => ⟨S1x1x1024, .f32⟩
  | .hbm, ⟨53, _⟩ => ⟨S128x1x1024, .f32⟩
  | .hbm, ⟨54, _⟩ => ⟨S128x1x1024, .f32⟩
  | .hbm, ⟨55, _⟩ => ⟨S128x1x1024, .f32⟩
  | .hbm, ⟨56, _⟩ => ⟨S128x2x1024, .f32⟩
  | .hbm, ⟨57, _⟩ => ⟨S128x1x1024, .f32⟩
  | .hbm, ⟨58, _⟩ => ⟨S128x1x1024, .f32⟩
  | .hbm, ⟨59, _⟩ => ⟨S_, .f32⟩
  | .hbm, ⟨60, _⟩ => ⟨S128x1x1024, .f32⟩
  | .hbm, ⟨61, _⟩ => ⟨S128x1x1024, .f32⟩
  | .hbm, ⟨62, _⟩ => ⟨S128x1x1024, .f32⟩
  | .hbm, ⟨63, _⟩ => ⟨S128x1x1024, .f32⟩
  | .hbm, ⟨64, _⟩ => ⟨S128x1x1024, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S128x1, .f32⟩
  | .hbm, ⟨69, _⟩ => ⟨S128x1x1, .f32⟩
  | .hbm, ⟨70, _⟩ => ⟨S_, .f32⟩
  | .hbm, ⟨71, _⟩ => ⟨S128x1x1, .f32⟩
  | .hbm, ⟨72, _⟩ => ⟨S128x1x1, .f32⟩
  | .hbm, ⟨73, _⟩ => ⟨S128x1x1024, .f32⟩
  | .hbm, ⟨74, _⟩ => ⟨S128x1x1024, .f32⟩
  | .hbm, ⟨75, _⟩ => ⟨S128x1x1024, .f32⟩
  | .hbm, ⟨76, _⟩ => ⟨S_, .f32⟩
  | .hbm, ⟨77, _⟩ => ⟨S128x1, .f32⟩
  | .hbm, ⟨78, _⟩ => ⟨S128x1x1, .f32⟩
  | .hbm, ⟨79, _⟩ => ⟨S_, .f32⟩
  | .hbm, ⟨80, _⟩ => ⟨S128x1x1, .f32⟩
  | .hbm, ⟨81, _⟩ => ⟨S128x1x1, .f32⟩
  | .hbm, ⟨82, _⟩ => ⟨S128x1x1024, .f32⟩
  | .hbm, ⟨83, _⟩ => ⟨S128x1x1024, .f32⟩
  | .hbm, ⟨84, _⟩ => ⟨S_, .f32⟩
  | .hbm, ⟨85, _⟩ => ⟨S128x1x1, .f32⟩
  | .hbm, ⟨86, _⟩ => ⟨S128x1x1, .f32⟩
  | .hbm, ⟨87, _⟩ => ⟨S128x1x1, .f32⟩
  | .hbm, ⟨88, _⟩ => ⟨S128x1x1024, .f32⟩
  | .hbm, ⟨89, _⟩ => ⟨S128x1x1024, .f32⟩
  | .hbm, ⟨90, _⟩ => ⟨S1x1x1024, .f32⟩
  | .hbm, ⟨91, _⟩ => ⟨S128x1x1024, .f32⟩
  | .hbm, ⟨92, _⟩ => ⟨S128x1x1024, .f32⟩
  | .hbm, ⟨93, _⟩ => ⟨S1x1x1024, .f32⟩
  | .hbm, ⟨94, _⟩ => ⟨S128x1x1024, .f32⟩
  | .hbm, ⟨95, _⟩ => ⟨S128x1x1024, .f32⟩
  | .hbm, ⟨96, _⟩ => ⟨S128x1024, .f32⟩
  | .hbm, ⟨97, _⟩ => ⟨S1x128x2x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_1 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_4 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Proof.SConv.Free.lean ====
/- The printed kernel's frame: it runs, ends, and leaves its arguments as they were. Nothing is said of what it computes, so nothing
   is kept of the outputs or of the scratch buffers between points: each is owned at some contents throughout. -/
module

public import proofs.«01_k».proof.Proof.Gen.Kernel.Skeleton
public import proofs.«01_k».proof.Proof.Gen.Kernel.Frame
public import Idealize.ShloMosaic.Lib.Claim

@[expose] public section

set_option maxRecDepth 16384

noncomputable section

namespace Cert.SConv.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body, and where they hold -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)
abbrev cond0_1 (i : grid0.Coords) : Prop := (Scalar.cmpi .ne (Scalar.extui (Scalar.andi (Scalar.cmpi .slt (BitVec.ofNat 32 (i 0).val) 32#32) (Scalar.cmpi .eq (Scalar.select (Scalar.andi (Scalar.xori (Scalar.cmpi .slt (Scalar.remsi (Scalar.minsi (BitVec.ofNat 32 (i 0).val) 31#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.minsi (BitVec.ofNat 32 (i 0).val) 31#32) (Scalar.select (Scalar.cmpi .eq 4#32 0#32) 1#32 4#32)) 0#32)) (Scalar.addi (Scalar.remsi (Scalar.minsi (BitVec.ofNat 32 (i 0).val) 31#32) (Scalar.select (Scalar.cmpi .eq 4#32 0#32) 1#32 4#32)) (Scalar.select (Scalar.cmpi .eq 4#32 0#32) 1#32 4#32)) (Scalar.remsi (Scalar.minsi (BitVec.ofNat 32 (i 0).val) 31#32) (Scalar.select (Scalar.cmpi .eq 4#32 0#32) 1#32 4#32))) 0#32))) 0#32) = 1#1
theorem hcond0_1 : ∀ t : Fin cfg0.N, cond0_1 (grid0.coords t) ↔ (t.val % 33 = 0 ∨ t.val % 33 = 4 ∨ t.val % 33 = 8 ∨ t.val % 33 = 12 ∨ t.val % 33 = 16 ∨ t.val % 33 = 20 ∨ t.val % 33 = 24 ∨ t.val % 33 = 28) :=
  (by decide +kernel : ∀ t : Fin grid0.N, cond0_1 (grid0.coords t) ↔ (t.val % 33 = 0 ∨ t.val % 33 = 4 ∨ t.val % 33 = 8 ∨ t.val % 33 = 12 ∨ t.val % 33 = 16 ∨ t.val % 33 = 20 ∨ t.val % 33 = 24 ∨ t.val % 33 = 28))
abbrev cond0_2 (i : grid0.Coords) : Prop := k0_cond3 i = 1#1
theorem hcond0_2 : ∀ t : Fin cfg0.N, cond0_2 (grid0.coords t) ↔ t.val < 32 :=
  (by decide +kernel : ∀ t : Fin grid0.N, cond0_2 (grid0.coords t) ↔ t.val < 32)
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)
abbrev cond0_4 (i : grid0.Coords) : Prop := k0_cond5 i = 1#1
theorem hcond0_4 : ∀ t : Fin cfg0.N, cond0_4 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_4, k0_cond5, e0]
    word_cmp
   : ∀ t : Fin grid0.N, cond0_4 (grid0.coords t) ↔ t.val % 33 = 32)

/-- The conditions a point can meet: the first point, a point inside a sequence, a sequence's last tile, a later sequence's first
    tile, and the point past the last tile. -/
def Case (i : grid0.Coords) : Prop :=
  (cond0_0 i ∧ cond0_1 i ∧ cond0_2 i ∧ ¬cond0_3 i ∧ ¬cond0_4 i) ∨ (¬cond0_0 i ∧ ¬cond0_1 i ∧ cond0_2 i ∧ ¬cond0_3 i ∧ ¬cond0_4 i) ∨ (¬cond0_0 i ∧ ¬cond0_1 i ∧ cond0_2 i ∧ cond0_3 i ∧ ¬cond0_4 i) ∨ (¬cond0_0 i ∧ cond0_1 i ∧ cond0_2 i ∧ ¬cond0_3 i ∧ ¬cond0_4 i) ∨ (¬cond0_0 i ∧ ¬cond0_1 i ∧ ¬cond0_2 i ∧ ¬cond0_3 i ∧ cond0_4 i)

theorem case_at (t : Fin cfg0.N) : Case (grid0.coords t) := by
  have hN : t.val < 33 := lt_of_lt_of_eq t.isLt (show cfg0.N = 33 from N_0)
  unfold Case
  simp only [hcond0_0 t, hcond0_1 t, hcond0_2 t, hcond0_3 t, hcond0_4 t]
  omega

/-! ## The memrefs -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x1024 .f32 := win0_8.stage (cfg0.slots t 8)
abbrev hs0_8 (t : Fin cfg0.N) : (ms0_8 t).IsWhole := hstage0_8 ((cfg0.slots t 8).cast nbuf0_8)
abbrev scM0_0 : Memref sig .tc .vmem S4x2x8x128 .f32 := Memref.whole cc0_scratch0
abbrev scM0_1 : Memref sig .tc .vmem S512x1024 .bf16 := Memref.whole cc0_scratch1
abbrev scM0_2 : Memref sig .tc .vmem S2x3x512x256 .f32 := Memref.whole cc0_scratch2
abbrev scM0_3 : Memref sig .tc .vmem S2x520x128 .f32 := Memref.whole cc0_scratch3
abbrev scM0_4 : Memref sig .tc .vmem S2x512x1024 .bf16 := Memref.whole cc0_scratch4
abbrev scM0_5 : Memref sig .tc .vmem S512x1024 .f32 := Memref.whole cc0_scratch5
abbrev scM0_6 : Memref sig .tc .vmem S512x1024 .f32 := Memref.whole cc0_scratch6

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- Before and after every point, each scratch buffer is owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## The body -/

set_option maxHeartbeats 40000000 in set_option sl_exec.squeezeSlice true in
/-- The body, at any point's conditions, leaves its inputs as they were and every other buffer at some contents. -/
theorem run_any (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole) (h : Case i)
    (x0 : Vec F S1x512x1024 .f32) (x1 : Vec F S8x3072 .f32) (x2 : Vec F S1024x3072 .bf16) (x3 : Vec F S3x1024 .f32) (x4 : Vec F S1024x1024 .bf16) (x5 : Vec F S1x1024 .f32) (x6 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_short_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_short_conv_eq_skeleton]; unfold cc0_short_conv_skel
  simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  rcases h with h | h | h | h | h <;> obtain ⟨hc0, hc1, hc2, hc3, hc4⟩ := h
  all_goals
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

/-! ## The pipeline -/

/-- The outputs, of which nothing is kept. -/
def forgets0 : Fin 9 → Bool := fun w => w.val == 7 || w.val == 8

/-- The pipeline's data: each input's block stays in its staging buffer, and the scratch buffers are at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [leaves0_0, leaves0_1, leaves0_2, leaves0_3, leaves0_4, leaves0_5, leaves0_6]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_any c (grid0.coords t) _ _ _ _ _ _ _ _ _ _ _ _ _ _ _ _ _ _ _ _ _ _ _ _ _ _ _ _ _ _ _ _ (case_at t) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run -/

-- the launch's implicit arguments are found by unifying types up to plain definitions
set_option backward.isDefEq.respectTransparency.types false in
/-- The program runs to its end, with every semaphore counter at zero and its input arrays as they were. -/
theorem run_all : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame, at any float format's values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hr => by
    obtain ⟨h, hs⟩ := hr
    have hA := A_eq m
    exact ⟨fun c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩, hs⟩) (run_all m ρ)

end Cert.SConv.Free

end
-- ==== Proof.SConv.Tile.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

/-! # The short convolution's body, cut into its parts

The printed body is four programs in a row: the resets, the tile, the saving of the state, the last block's
normalization.  Each is run once here, on whole buffers, whatever the grid point. -/

@[expose] public section

set_option maxRecDepth 16384

noncomputable section

namespace Cert.SConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The work of one tile: the block before is normalized, then this block's rows go through the mixer. -/
def tileProg (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole)
    (v17 : BitVec 32) (k0_h3 : k0_cond3 i = 1#1) : Prog (TpuEff nD τ sig (Elt F) Λ₀ .tc) PUnit := do
    let ⟨v77, v86⟩ : Σ' (v77 : FVec F S1x1024 .f32), FVec F S512x1024 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 k0_h3
    let v107 : FVec F S8x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v86
    let ⟨v136, v137⟩ : Σ' (v136 : FVec F S512x128 .f32), FVec F S1x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v107
    let v164 : Vec F S1x1x512x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v136 v137
    let v194 : FVec F S512x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v164
    let ⟨v208, v219⟩ : Σ' (v208 : Vec F S512x1024 .bf16), Vec F S1024x256 .bf16 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v194
    let ⟨v241, v242⟩ : Σ' (v241 : Vec F S3x128 .f32), FVec F S1x128 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v208 v219
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v241 v242
    let ⟨v292, v298, v299⟩ : Σ' (v292 : Vec F S3x128 .f32) (v298 : FVec F S512x128 .f32), FVec F S1x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    let ⟨v326, v328⟩ : Σ' (v326 : Vec F S512x1024 .bf16), FVec F S512x256 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v292 v298 v299
    let ⟨v350, v351⟩ : Σ' (v350 : FVec F S512x128 .f32), Vec F S1x1x512x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v326 v328
    let ⟨v379, v382⟩ : Σ' (v379 : FVec F S512x128 .f32), Vec F S8x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v350 v351
    let ⟨v404, v407⟩ : Σ' (v404 : FVec F S512x128 .f32), Vec F S512x128 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v379 v382
    let v430 : FVec F S512x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v404 v407
    let v461 : FVec F S8x128 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v430
    let ⟨v477, v483, v489⟩ : Σ' (v477 : Vec F S3x128 .f32) (v483 : FVec F S512x128 .f32), FVec F S512x128 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v461
    let v517 : FVec F S8x128 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v477 v483 v489
    let ⟨v541, v542, v545⟩ : Σ' (v541 : FVec F S512x128 .f32) (v542 : FVec F S1x128 .f32), Vec F S512x128 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v517
    let v572 : FVec F S512x1024 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v541 v542 v545
    let v573 : Vec F S512x1024 .f32 ← Prog.lift (.load arg15 (Rect.unit (s := S512x1024) ![0, 0] S512x1024.size inb_S512x1024_S512x1024_0_0).toLoadRect (View.loadsAt_vmem h_S512x1024))
    let v577 : Vec F S512x1024 .f32 ← Prog.lift (.load arg16 (Rect.unit (s := S512x1024) ![0, 0] S512x1024.size inb_S512x1024_S512x1024_0_0).toLoadRect (View.loadsAt_vmem h_S512x1024))
    Prog.lift (.store arg16 (Rect.unit (s := S512x1024) ![0, 0] S512x1024.size inb_S512x1024_S512x1024_0_0) (k0_pay1 v77 v572 v573) Finset.univ (View.stores_vmem_bits_univ h_S512x1024 rfl) (.inl rfl))
    pure ⟨⟩

/-- The last two rows of the carry go out as the sequence's state. -/
def saveProg (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole) : Prog (TpuEff nD τ sig (Elt F) Λ₀ .tc) PUnit := do
    let v68 : FVec F S2x128 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    let v69 : Vec F S1x2x128 .f32 ← Prog.lift (.load arg9 (Rect.unit (s := S1x2x1024) ![0, 0, 512] S1x2x128.size inb_S1x2x1024_S1x2x128_0_0_512).toLoadRect (View.loadsAt_vmem h_S1x2x128))
    Prog.lift (.store arg9 (Rect.unit (s := S1x2x1024) ![0, 0, 512] S1x2x128.size inb_S1x2x1024_S1x2x128_0_0_512) (k0_pay2 v68) Finset.univ (View.stores_vmem_bits_univ h_S1x2x128 rfl) (.inl rfl))
    let v72 : Vec F S1x1x2x128 .f32 ← Prog.lift (.load arg10 (Rect.unit (s := S4x2x8x128) ![2, 1, 6, 0] S1x1x2x128.size inb_S4x2x8x128_S1x1x2x128_2_1_6_0).toLoadRect (View.loadsAt_vmem h_S1x1x2x128))
    let v74 : Vec F S1x2x128 .f32 ← Prog.lift (.load arg9 (Rect.unit (s := S1x2x1024) ![0, 0, 640] S1x2x128.size inb_S1x2x1024_S1x2x128_0_0_640).toLoadRect (View.loadsAt_vmem h_S1x2x128))
    Prog.lift (.store arg9 (Rect.unit (s := S1x2x1024) ![0, 0, 640] S1x2x128.size inb_S1x2x1024_S1x2x128_0_0_640) (k0_pay3 v72) Finset.univ (View.stores_vmem_bits_univ h_S1x2x128 rfl) (.inl rfl))
    let v77 : Vec F S1x1x2x128 .f32 ← Prog.lift (.load arg10 (Rect.unit (s := S4x2x8x128) ![3, 0, 6, 0] S1x1x2x128.size inb_S4x2x8x128_S1x1x2x128_3_0_6_0).toLoadRect (View.loadsAt_vmem h_S1x1x2x128))
    let v79 : Vec F S1x2x128 .f32 ← Prog.lift (.load arg9 (Rect.unit (s := S1x2x1024) ![0, 0, 768] S1x2x128.size inb_S1x2x1024_S1x2x128_0_0_768).toLoadRect (View.loadsAt_vmem h_S1x2x128))
    Prog.lift (.store arg9 (Rect.unit (s := S1x2x1024) ![0, 0, 768] S1x2x128.size inb_S1x2x1024_S1x2x128_0_0_768) (k0_pay4 v77) Finset.univ (View.stores_vmem_bits_univ h_S1x2x128 rfl) (.inl rfl))
    let v82 : Vec F S1x1x2x128 .f32 ← Prog.lift (.load arg10 (Rect.unit (s := S4x2x8x128) ![3, 1, 6, 0] S1x1x2x128.size inb_S4x2x8x128_S1x1x2x128_3_1_6_0).toLoadRect (View.loadsAt_vmem h_S1x1x2x128))
    let v84 : Vec F S1x2x128 .f32 ← Prog.lift (.load arg9 (Rect.unit (s := S1x2x1024) ![0, 0, 896] S1x2x128.size inb_S1x2x1024_S1x2x128_0_0_896).toLoadRect (View.loadsAt_vmem h_S1x2x128))
    Prog.lift (.store arg9 (Rect.unit (s := S1x2x1024) ![0, 0, 896] S1x2x128.size inb_S1x2x1024_S1x2x128_0_0_896) (k0_pay5 v82) Finset.univ (View.stores_vmem_bits_univ h_S1x2x128 rfl) (.inl rfl))
    pure ⟨⟩

/-- The block before is normalized. -/
def finProg (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole) : Prog (TpuEff nD τ sig (Elt F) Λ₀ .tc) PUnit := do
    let v47 : Vec F S512x1024 .f32 ← Prog.lift (.load arg16 (Rect.unit (s := S512x1024) ![0, 0] S512x1024.size inb_S512x1024_S512x1024_0_0).toLoadRect (View.loadsAt_vmem h_S512x1024))
    let v48 : Vec F S1x1024 .f32 ← Prog.lift (.load arg6 (Rect.unit (s := S1x1024) ![0, 0] S1x1024.size inb_S1x1024_S1x1024_0_0).toLoadRect (View.loadsAt_vmem h_S1x1024))
    let v49 : Vec F S1x1024 .f32 ← Prog.lift (.load arg7 (Rect.unit (s := S1x1024) ![0, 0] S1x1024.size inb_S1x1024_S1x1024_0_0).toLoadRect (View.loadsAt_vmem h_S1x1024))
    let v70 : Vec F S1x512x1024 .f32 ← Prog.lift (.load arg8 (Rect.unit (s := S1x512x1024) ![0, 0, 0] S1x512x1024.size inb_S1x512x1024_S1x512x1024_0_0_0).toLoadRect (View.loadsAt_vmem h_S1x512x1024))
    Prog.lift (.store arg8 (Rect.unit (s := S1x512x1024) ![0, 0, 0] S1x512x1024.size inb_S1x512x1024_S1x512x1024_0_0_0) (k0_pay6 v47 v48 v49) Finset.univ (View.stores_vmem_bits_univ h_S1x512x1024 rfl) (.inl rfl))
    pure ⟨⟩

/-- The printed body is the four programs in a row. -/
theorem body_eq (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole) :
    cc0_short_conv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (do
  let ⟨arg0, v17, v27, v36⟩ : Σ' (arg0 : BitVec 32) (v17 : BitVec 32) (v27 : BitVec 32), BitVec 1 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  if h : k0_cond3 i = 1#1 then tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 h else pure ⟨⟩
  if h : k0_cond4 i = 1#1 then saveProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩
  if h : k0_cond5 i = 1#1 then finProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩
  pure ⟨⟩) := by
  rw [cc0_short_conv_eq_skeleton]; rfl

set_option maxHeartbeats 1796000 in set_option sl_exec.squeezeSlice true in
/-- The tile on whole buffers: what its stores leave in the block window, the carry and the pending block, as pieces. -/
def tileRun (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole) (v17 : BitVec 32) (hc2 : k0_cond3 i = 1#1)
    (x0 : Vec F S1x512x1024 .f32) (x1 : Vec F S8x3072 .f32) (x2 : Vec F S1024x3072 .bf16) (x3 : Vec F S3x1024 .f32) (x4 : Vec F S1024x1024 .bf16) (x5 : Vec F S1x1024 .f32) (x6 : Vec F S1x1024 .f32) (xs0 : Vec F S4x2x8x128 .f32) (xs6 : Vec F S512x1024 .f32) :
    Σ' (LO : List (View.Piece (Elt F) S1x512x1024 .f32)), Σ' (LC : List (View.Piece (Elt F) S4x2x8x128 .f32)), { LP : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f LO) ∗ (∃ f, arg10.view.loc (c : Thread nD τ) ↦[arg10.view.set]{fullShare} arg10.view.writes (Elt F) f LC) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LP)) -∗ K ⟨⟩))
          ⊢ wp frame (wpE (defs₀ (F := F)) Variants.none c none) E (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2) K } := by
  refine ⟨?_, ?_, ?_, fun E K => ?run⟩
  case run =>
    unfold tileProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg16.eq_unread hf16
    sl_exec (disch := sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H10]; · iexists _; iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _; iexact H16

set_option maxHeartbeats 1796000 in set_option sl_exec.squeezeSlice true in
/-- The saving of the state on whole buffers. -/
def saveRun (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole)
    (xs0 : Vec F S4x2x8x128 .f32) :
    { LV : List (View.Piece (Elt F) S1x2x1024 .f32) //
      ∀ (E : Set ℕ) (K : PUnit → sProp 𝕄),
        iprop((∃ d, owns (c : Thread nD τ) arg9 fullShare d) ∗ owns (c : Thread nD τ) arg10 fullShare xs0
            ∗ (iprop((∃ f, arg9.view.loc (c : Thread nD τ) ↦[arg9.view.set]{fullShare} arg9.view.writes (Elt F) f LV) ∗ owns (c : Thread nD τ) arg10 fullShare xs0) -∗ K ⟨⟩))
          ⊢ wp frame (wpE (defs₀ (F := F)) Variants.none c none) E (saveProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    unfold saveProg
    simp only [k0_part20_eq_skeleton]
    unfold owns
    iintro ⟨⟨%d9, %f9, -, H9⟩, ⟨%f10, %hf10, H10⟩, Hk⟩
    obtain rfl := harg10.eq_unread hf10
    sl_exec
    sl_step
    iapply Hk
    isplitl [H9]; · iexists _; iexact H9
    iexists _; isplitr; · ipureintro; exact harg10.read_unread _
    iexact H10

set_option maxHeartbeats 1796000 in set_option sl_exec.squeezeSlice true in
/-- The normalization of the pending block on whole buffers. -/
def finRun (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x3072 .bf16) (harg3 : arg3.IsWhole) (arg4 : Memref sig .tc .vmem S3x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x2x1024 .f32) (harg9 : arg9.IsWhole) (arg10 : Memref sig .tc .vmem S4x2x8x128 .f32) (harg10 : arg10.IsWhole) (arg11 : Memref sig .tc .vmem S512x1024 .bf16) (harg11 : arg11.IsWhole) (arg12 : Memref sig .tc .vmem S2x3x512x256 .f32) (harg12 : arg12.IsWhole) (arg13 : Memref sig .tc .vmem S2x520x128 .f32) (harg13 : arg13.IsWhole) (arg14 : Memref sig .tc .vmem S2x512x1024 .bf16) (harg14 : arg14.IsWhole) (arg15 : Memref sig .tc .vmem S512x1024 .f32) (harg15 : arg15.IsWhole) (arg16 : Memref sig .tc .vmem S512x1024 .f32) (harg16 : arg16.IsWhole)
    (x5 : Vec F S1x1024 .f32) (x6 : Vec F S1x1024 .f32) (xs6 : Vec F S512x1024 .f32) :
    { LO : List (View.Piece (Elt F) S1x512x1024 .f32) //
      ∀ (E : Set ℕ) (K : PUnit → sProp 𝕄),
        iprop(owns (c : Thread nD τ) arg6 fullShare x5 ∗ owns (c : Thread nD τ) arg7 fullShare x6 ∗ (∃ d, owns (c : Thread nD τ) arg8 fullShare d) ∗ owns (c : Thread nD τ) arg16 fullShare xs6
            ∗ (iprop(owns (c : Thread nD τ) arg6 fullShare x5 ∗ owns (c : Thread nD τ) arg7 fullShare x6 ∗ (∃ f, arg8.view.loc (c : Thread nD τ) ↦[arg8.view.set]{fullShare} arg8.view.writes (Elt F) f LO) ∗ owns (c : Thread nD τ) arg16 fullShare xs6) -∗ K ⟨⟩))
          ⊢ wp frame (wpE (defs₀ (F := F)) Variants.none c none) E (finProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    unfold finProg
    unfold owns
    iintro ⟨⟨%f6, %hf6, H6⟩, ⟨%f7, %hf7, H7⟩, ⟨%d8, %f8, -, H8⟩, ⟨%f16, %hf16, H16⟩, Hk⟩
    obtain rfl := harg6.eq_unread hf6; obtain rfl := harg7.eq_unread hf7; obtain rfl := harg16.eq_unread hf16
    sl_exec
    sl_step
    iapply Hk
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg16.read_unread _
    iexact H16

end Cert.SConv

end
-- ==== Proof.SConv.Read.lean ====
module

public import proofs.«01_k».proof.Proof.SConv.Tile
public import Idealize.ShloMosaic.Lib.Pointwise
public import Idealize.ShloMosaic.Lib.Pipeline.ValueKit
public import Idealize.ShloMosaic.Lib.Pipeline.ReadBack

/-! # Reading the tile's buffers back

A slab is written in two pieces per lane tile, the carried rows and the block's own; a block of projections in
three.  These lemmas say what one entry of such a buffer is, for any payloads. -/

@[expose] public section

set_option maxRecDepth 16384

noncomputable section

namespace Cert.SConv

open Cert.KernelIdeal Cert.KernelIdeal.Gen
open Idealize.ShloMosaic Idealize.ShloMosaic.TcCoe Idealize.ShloMosaic.Tactic

section Slab

variable {q o n : ℕ} {inb : ∀ a, (![q, 0, 0] : Fin 3 → ℕ) a + S1x520x128.size a ≤ S2x520x128.size a}
  {inb' : ∀ a, (![o, 0] : Fin 2 → ℕ) a + (![n, 128] : Fin 2 → ℕ) a ≤ S520x128.size a}
  {h0 : (![1, 520, 128] : Fin 3 → ℕ) 0 = 1} {hs : ∀ i, (![1, 520, 128] : Fin 3 → ℕ) i.succ = S520x128.size i}
  {hst : ∀ a, (Rect.unit (s := S2x520x128) ![q, 0, 0] S1x520x128.size inb).stride a = 1}

/-- An entry inside a stored block of rows is the block's. -/
theorem slab_hit {e : EltTy} (w : (Rect.unit (s := S520x128) ![o, 0] ![n, 128] inb').shape.Idx → Elt Ideal e)
    (L : List (View.Piece (Elt Ideal) S2x520x128 e))
    (hR : ((Rect.unit (s := S520x128) ![o, 0] ![n, 128] inb').consLift ![1, 520, 128] h0 hs).shape.numel
      = (Rect.unit (s := S520x128) ![o, 0] ![n, 128] inb').shape.numel)
    (y : S2x520x128.Idx) (r : Fin n) (l : Fin 128) (hy0 : (y 0).val = q) (hy1 : (y 1).val = o + r.val) (hy2 : (y 2).val = l.val) :
    View.canon (⟨(Rect.unit (s := S2x520x128) ![q, 0, 0] S1x520x128.size inb).within
        ((Rect.unit (s := S520x128) ![o, 0] ![n, 128] inb').consLift ![1, 520, 128] h0 hs) hst, Rect.payAlong hR w⟩ :: L) y
      = w (ix2 r l) := by
  let x : ((Rect.unit (s := S520x128) ![o, 0] ![n, 128] inb').consLift ![1, 520, 128] h0 hs).shape.Idx :=
    Fin.cons (⟨0, Nat.one_pos⟩ : Fin 1) (ix2 r l)
  have hx := View.canon_cons_emb (Val := Elt Ideal) ((Rect.unit (s := S2x520x128) ![q, 0, 0] S1x520x128.size inb).within
        ((Rect.unit (s := S520x128) ![o, 0] ![n, 128] inb').consLift ![1, 520, 128] h0 hs) hst) (Rect.payAlong hR w) L x
  have hy : y = ((Rect.unit (s := S2x520x128) ![q, 0, 0] S1x520x128.size inb).within
        ((Rect.unit (s := S520x128) ![o, 0] ![n, 128] inb').consLift ![1, 520, 128] h0 hs) hst).emb x := by
    funext a
    apply Fin.ext
    refine Eq.trans ?_ (Rect.emb_apply ((Rect.unit (s := S2x520x128) ![q, 0, 0] S1x520x128.size inb).within
        ((Rect.unit (s := S520x128) ![o, 0] ![n, 128] inb').consLift ![1, 520, 128] h0 hs) hst) x a).symm
    match a with
    | 0 => show (y 0).val = q + 0 + 1 * 0; omega
    | 1 => show (y 1).val = 0 + o + 1 * r.val; omega
    | 2 => show (y 2).val = 0 + 0 + 1 * l.val; omega
  rw [hy, hx]
  refine Rect.payAlong_consLift (Rect.unit (s := S520x128) ![o, 0] ![n, 128] inb') ![1, 520, 128] h0 hs w hR x (ix2 r l) ?_
  intro i
  match i with
  | 0 => rfl
  | 1 => rfl

/-- An entry outside a stored block of rows is what was there before. -/
theorem slab_miss {e : EltTy} {w} {L : List (View.Piece (Elt Ideal) S2x520x128 e)}
    (y : S2x520x128.Idx) (hy : (y 0).val ≠ q ∨ (y 1).val < o ∨ o + n ≤ (y 1).val) :
    View.canon (⟨(Rect.unit (s := S2x520x128) ![q, 0, 0] S1x520x128.size inb).within
        ((Rect.unit (s := S520x128) ![o, 0] ![n, 128] inb').consLift ![1, 520, 128] h0 hs) hst, w⟩ :: L) y
      = View.canon L y := by
  refine View.canon_cons_of_not_mem _ _ fun hm => ?_
  rw [LoadRect.mem_set] at hm
  obtain ⟨j0, hj0, e0⟩ := hm 0
  obtain ⟨j1, hj1, e1⟩ := hm 1
  change j0 < 1 at hj0
  change j1 < n at hj1
  change (y 0).val = q + 0 + 1 * j0 at e0
  change (y 1).val = 0 + o + 1 * j1 at e1
  omega

/-- A load of rows of one lane tile reads the slabs' entries there. -/
theorem slab_read {e : EltTy} {arg : Memref sig .tc .vmem S2x520x128 e} (L : List (View.Piece (Elt Ideal) S2x520x128 e))
    (hR : (Rect.unit (s := S520x128) ![o, 0] ![n, 128] inb').toLoadRect.shape.numel
      = ((Rect.unit (s := S520x128) ![o, 0] ![n, 128] inb').toLoadRect.consLift ![1, 520, 128] h0 hs).shape.numel)
    (y : S2x520x128.Idx) (r : Fin n) (l : Fin 128) (hy0 : (y 0).val = q) (hy1 : (y 1).val = o + r.val) (hy2 : (y 2).val = l.val) :
    LoadRect.valAlong hR (arg.view.readCov L ((Rect.unit (s := S2x520x128) ![q, 0, 0] S1x520x128.size inb).withinL
        ((Rect.unit (s := S520x128) ![o, 0] ![n, 128] inb').toLoadRect.consLift ![1, 520, 128] h0 hs) hst)) (ix2 r l)
      = View.canon L y := by
  rw [View.readCov_eq_canon']
  show View.canon L _ = View.canon L y
  congr 1
  have hz := fun i => Rect.reshapeEquiv_consLift_succ (Rect.unit (s := S520x128) ![o, 0] ![n, 128] inb') ![1, 520, 128] h0 hs
    (Shape.reshapeEquiv hR (ix2 r l)) i
  have hback : Shape.reshapeEquiv ((Rect.unit (s := S520x128) ![o, 0] ![n, 128] inb').numel_consLift ![1, 520, 128] h0 hs)
      (Shape.reshapeEquiv hR (ix2 r l)) = ix2 r l := by
    have := (Shape.reshapeEquiv hR).symm_apply_apply (ix2 r l)
    rw [Shape.reshapeEquiv_symm] at this
    exact this
  funext a
  apply Fin.ext
  refine (LoadRect.idx_apply _ _ a).trans ?_
  have hlt := ((Shape.reshapeEquiv hR (ix2 r l)) 0).isLt
  change ((Shape.reshapeEquiv hR (ix2 r l)) 0).val < 1 at hlt
  match a with
  | 0 => show q + 0 + 1 * ((Shape.reshapeEquiv hR (ix2 r l)) 0).val = (y 0).val; omega
  | 1 =>
    have h1 := hz 0
    rw [hback] at h1
    change ((Shape.reshapeEquiv hR (ix2 r l)) 1).val = r.val at h1
    show 0 + o + 1 * ((Shape.reshapeEquiv hR (ix2 r l)) 1).val = (y 1).val; omega
  | 2 =>
    have h1 := hz 1
    rw [hback] at h1
    change ((Shape.reshapeEquiv hR (ix2 r l)) 2).val = l.val at h1
    show 0 + 0 + 1 * ((Shape.reshapeEquiv hR (ix2 r l)) 2).val = (y 2).val; omega

end Slab

section Up

variable {s k : ℕ} {inb : ∀ a, (![s, k, 0, 0] : Fin 4 → ℕ) a + S1x1x512x256.size a ≤ S2x3x512x256.size a}

/-- An entry of a stored projection is the projection's. -/
theorem up_hit {e : EltTy} (w : (Rect.unit (s := S2x3x512x256) ![s, k, 0, 0] S1x1x512x256.size inb).shape.Idx → Elt Ideal e)
    (L : List (View.Piece (Elt Ideal) S2x3x512x256 e)) (y : S2x3x512x256.Idx) (hy0 : (y 0).val = s) (hy1 : (y 1).val = k) :
    View.canon (⟨Rect.unit (s := S2x3x512x256) ![s, k, 0, 0] S1x1x512x256.size inb, w⟩ :: L) y
      = w (ix4 (n0 := 1) (n1 := 1) 0 0 (y 2) (y 3)) := by
  let x : (Rect.unit (s := S2x3x512x256) ![s, k, 0, 0] S1x1x512x256.size inb).shape.Idx := ix4 (n0 := 1) (n1 := 1) 0 0 (y 2) (y 3)
  have hx := View.canon_cons_emb (Val := Elt Ideal) (Rect.unit (s := S2x3x512x256) ![s, k, 0, 0] S1x1x512x256.size inb) w L x
  have hy : y = (Rect.unit (s := S2x3x512x256) ![s, k, 0, 0] S1x1x512x256.size inb).emb x := by
    funext a
    apply Fin.ext
    refine Eq.trans ?_ (Rect.emb_apply (Rect.unit (s := S2x3x512x256) ![s, k, 0, 0] S1x1x512x256.size inb) x a).symm
    match a with
    | 0 => show (y 0).val = s + 1 * 0; omega
    | 1 => show (y 1).val = k + 1 * 0; omega
    | 2 => show (y 2).val = 0 + 1 * (y 2).val; omega
    | 3 => show (y 3).val = 0 + 1 * (y 3).val; omega
  exact (congrArg _ hy).trans hx

/-- An entry of another projection is what was there before. -/
theorem up_miss {e : EltTy} {w} {L : List (View.Piece (Elt Ideal) S2x3x512x256 e)} (y : S2x3x512x256.Idx)
    (hy : (y 0).val ≠ s ∨ (y 1).val ≠ k) :
    View.canon (⟨Rect.unit (s := S2x3x512x256) ![s, k, 0, 0] S1x1x512x256.size inb, w⟩ :: L) y = View.canon L y := by
  refine View.canon_cons_of_not_mem _ _ fun hm => ?_
  rw [LoadRect.mem_set] at hm
  obtain ⟨j0, hj0, e0⟩ := hm 0
  obtain ⟨j1, hj1, e1⟩ := hm 1
  change j0 < 1 at hj0
  change j1 < 1 at hj1
  change (y 0).val = s + 1 * j0 at e0
  change (y 1).val = k + 1 * j1 at e1
  omega

/-- A load of a lane tile of a projection reads the buffer's entries there. -/
theorem up_read {e : EltTy} {o : ℕ} {inb : ∀ a, (![s, k, 0, o] : Fin 4 → ℕ) a + S1x1x512x128.size a ≤ S2x3x512x256.size a}
    {arg : Memref sig .tc .vmem S2x3x512x256 e} (L : List (View.Piece (Elt Ideal) S2x3x512x256 e)) (y : S2x3x512x256.Idx)
    (r : Fin 512) (l : Fin 128) (hy0 : (y 0).val = s) (hy1 : (y 1).val = k) (hy2 : (y 2).val = r.val) (hy3 : (y 3).val = o + l.val) :
    arg.view.readCov L (Rect.unit (s := S2x3x512x256) ![s, k, 0, o] S1x1x512x128.size inb).toLoadRect (ix4 (n0 := 1) (n1 := 1) 0 0 r l)
      = View.canon L y := by
  rw [View.readCov_eq_canon']
  show View.canon L _ = View.canon L y
  congr 1
  funext a
  apply Fin.ext
  refine (LoadRect.idx_apply _ _ a).trans ?_
  match a with
  | 0 => show s + 1 * 0 = (y 0).val; omega
  | 1 => show k + 1 * 0 = (y 1).val; omega
  | 2 => show 0 + 1 * r.val = (y 2).val; omega
  | 3 => show o + 1 * l.val = (y 3).val; omega

end Up

section Payload

theorem hpay_apply (m : Vec Ideal S1x3072 .f32) (x : Vec Ideal S1x512x1024 .f32) (r : Fin 512) (k : Fin 1024) :
    k0_pay10 (k0_pay9 m x) (ix2 r k)
      = x (ix3 0 r k) * (1 + m (ix2 0 ⟨1024 + k.val, by omega⟩)) + m (ix2 0 ⟨k.val, by omega⟩) := by
  pointwise [k0_pay10, k0_pay9]

theorem zpay_apply (h : Vec Ideal S512x1024 .bf16) (w : Vec Ideal S1024x256 .bf16) (r : Fin 512) (l : Fin 256) :
    k0_pay11 h w (ix4 0 0 r l) = ∑ k : Fin 1024, h (ix2 r k) * w (ix2 k l) := by
  pointwise [k0_pay11]

theorem ppay_apply (a b : Vec Ideal S1x1x512x128 .f32) (r : Fin 512) (l : Fin 128) :
    k0_pay16 a b (ix2 r l) = a (ix4 0 0 r l) * b (ix4 0 0 r l) := by
  pointwise [k0_pay16]

theorem cpay_apply (a : Vec Ideal S1x1x8x128 .f32) (r : Fin 8) (l : Fin 128) :
    k0_pay15 (k0_pay14 a) (ix2 r l) = a (ix4 0 0 r l) := by
  pointwise [k0_pay15, k0_pay14]

theorem apay_apply (cw : Vec Ideal S3x128 .f32) (s6 s7 s8 : Vec Ideal S512x128 .f32) (u : Vec Ideal S1x1x512x128 .f32)
    (r : Fin 512) (l : Fin 128) :
    k0_pay20 (k0_pay17 cw s6 s7) (k0_pay18 cw) s8 u (ix3 0 r l)
      = u (ix4 0 0 r l) * (cw (ix2 0 l) * s6 (ix2 r l) + cw (ix2 1 l) * s7 (ix2 r l) + cw (ix2 2 l) * s8 (ix2 r l)) := by
  pointwise [k0_pay20, k0_pay17, k0_pay18]

theorem vpay_apply (a : Vec Ideal S8x128 .f32) (r : Fin 8) (l : Fin 128) : k0_pay19 a (ix4 0 0 r l) = a (ix2 r l) := by
  pointwise [k0_pay19]

theorem prepay_apply (m : Vec Ideal S1x3072 .f32) (x : Vec Ideal S1x512x1024 .f32) (a : Vec Ideal S1x512x1024 .bf16)
    (w : Vec Ideal S1024x1024 .bf16) (r : Fin 512) (j : Fin 1024) :
    k0_pay1 (k0_pay8 m) (k0_pay73 x) (k0_pay72 a w) (ix2 r j)
      = Ideal.ofBits FTy.f32 1068827891#32 * x (ix3 0 r j) + m (ix2 0 ⟨2048 + j.val, by omega⟩) * ∑ k : Fin 1024, a (ix3 0 r k) * w (ix2 k j) := by
  pointwise [k0_pay1, k0_pay8, k0_pay73, k0_pay72]

end Payload

section Spec

/-- A load of a rectangle of a whole buffer reads the buffer's entries there. -/
theorem read_at {s : Shape} {e : EltTy} {arg : Memref sig .tc .vmem s e} (harg : arg.IsWhole) (x : Vec Ideal s e)
    {off size : Fin s.rank → ℕ} {inb : ∀ a, off a + size a ≤ s.size a} (j : (Rect.unit off size inb).toLoadRect.shape.Idx)
    (y : s.Idx) (h : ∀ a, (y a).val = off a + (j a).val) :
    View.readAt (Elt Ideal) arg.view (Rect.unit off size inb).toLoadRect (harg.unread x) j = x y := by
  show arg.view.read (Elt Ideal) (harg.unread x) _ = x y
  rw [harg.read_unread]
  congr 1
  funext a
  apply Fin.ext
  refine (LoadRect.idx_apply _ _ a).trans ?_
  show off a + 1 * (j a).val = _
  rw [h a, Nat.one_mul]

/-- One entry of the input projection of a block of rows. -/
def zS (h : Vec Ideal S512x1024 .bf16) (w : Vec Ideal S1024x3072 .bf16) (r j : ℕ) : EReal :=
  ∑ k : Fin 1024, h (ix2 (Fin.ofNat 512 r) k) * w (ix2 k (Fin.ofNat 3072 j))

/-- The rows a block's convolution reads: eight carried ones, then the block's own. -/
def extS (h : Vec Ideal S512x1024 .bf16) (w : Vec Ideal S1024x3072 .bf16) (cy : Vec Ideal S4x2x8x128 .f32) (ρ j : ℕ) : EReal :=
  if ρ < 8 then cy (ix4 (Fin.ofNat 4 (j / 256)) (Fin.ofNat 2 (j / 128)) (Fin.ofNat 8 ρ) (Fin.ofNat 128 j))
  else zS h w (ρ - 8) (1024 + j) * zS h w (ρ - 8) (2048 + j)

/-- The gated convolution of a block of rows. -/
def actS (h : Vec Ideal S512x1024 .bf16) (w : Vec Ideal S1024x3072 .bf16) (cw : Vec Ideal S3x1024 .f32) (cy : Vec Ideal S4x2x8x128 .f32)
    (r j : ℕ) : EReal :=
  zS h w r j * (cw (ix2 0 (Fin.ofNat 1024 j)) * extS h w cy (6 + r) j + cw (ix2 1 (Fin.ofNat 1024 j)) * extS h w cy (7 + r) j
    + cw (ix2 2 (Fin.ofNat 1024 j)) * extS h w cy (8 + r) j)

/-- Three stored projections of one chunk. -/
theorem up3 (s c : ℕ) (hc : c < 4) (h : Vec Ideal S512x1024 .bf16) (w : Vec Ideal S1024x3072 .bf16)
    {arg3 : Memref sig .tc .vmem S1024x3072 .bf16} (harg3 : arg3.IsWhole) {o0 o1 o2 : ℕ}
    (e0 : o0 = 256 * c) (e1 : o1 = 1024 + 256 * c) (e2 : o2 = 2048 + 256 * c) {i0 i1 i2 j0 j1 j2}
    (L : List (View.Piece (Elt Ideal) S2x3x512x256 .f32)) (y : S2x3x512x256.Idx) (hy : (y 0).val = s) :
    View.canon
      (⟨Rect.unit (s := S2x3x512x256) ![s, 2, 0, 0] S1x1x512x256.size i2,
          k0_pay11 h (View.readAt (Elt Ideal) arg3.view (Rect.unit (s := S1024x3072) ![0, o2] S1024x256.size j2).toLoadRect (harg3.unread w))⟩
        :: ⟨Rect.unit (s := S2x3x512x256) ![s, 1, 0, 0] S1x1x512x256.size i1,
          k0_pay11 h (View.readAt (Elt Ideal) arg3.view (Rect.unit (s := S1024x3072) ![0, o1] S1024x256.size j1).toLoadRect (harg3.unread w))⟩
        :: ⟨Rect.unit (s := S2x3x512x256) ![s, 0, 0, 0] S1x1x512x256.size i0,
          k0_pay11 h (View.readAt (Elt Ideal) arg3.view (Rect.unit (s := S1024x3072) ![0, o0] S1024x256.size j0).toLoadRect (harg3.unread w))⟩
        :: L) y
      = zS h w (y 2).val (1024 * (y 1).val + 256 * c + (y 3).val) := by
  have hread : ∀ (o : ℕ) (j : ∀ a, (![0, o] : Fin 2 → ℕ) a + S1024x256.size a ≤ S1024x3072.size a) (k : Fin 1024) (l : Fin 256),
      o + l.val < 3072 →
      View.readAt (Elt Ideal) arg3.view (Rect.unit (s := S1024x3072) ![0, o] S1024x256.size j).toLoadRect (harg3.unread w) (ix2 k l)
        = w (ix2 k (Fin.ofNat 3072 (o + l.val))) := fun o j k l ho => by
    refine read_at harg3 w _ _ fun a => ?_
    match a with
    | 0 => show k.val = 0 + k.val; omega
    | 1 => show (o + l.val) % 3072 = o + l.val; omega
  have hfin : ∀ (o : ℕ) (j : ∀ a, (![0, o] : Fin 2 → ℕ) a + S1024x256.size a ≤ S1024x3072.size a),
      o + 256 ≤ 3072 → o = 1024 * (y 1).val + 256 * c →
      k0_pay11 h (View.readAt (Elt Ideal) arg3.view (Rect.unit (s := S1024x3072) ![0, o] S1024x256.size j).toLoadRect (harg3.unread w))
        (ix4 (n0 := 1) (n1 := 1) 0 0 (y 2) (y 3)) = zS h w (y 2).val (1024 * (y 1).val + 256 * c + (y 3).val) := fun o j h1 h2 => by
    refine (zpay_apply h _ (y 2) (y 3)).trans (Finset.sum_congr rfl fun k _ => ?_)
    have hl : (y 3).val < 256 := (y 3).isLt
    rw [hread o j k (y 3) (by omega), h2]
    congr 2
    exact congrArg (fun z => ix2 z k) (Fin.ext (Nat.mod_eq_of_lt (y 2).isLt).symm)
  have h1 : (y 1).val < 3 := (y 1).isLt
  by_cases hk2 : (y 1).val = 2
  · rw [up_hit _ _ y hy hk2]
    exact hfin o2 j2 (by omega) (by omega)
  rw [up_miss y (.inr hk2)]
  by_cases hk1 : (y 1).val = 1
  · rw [up_hit _ _ y hy hk1]
    exact hfin o1 j1 (by omega) (by omega)
  rw [up_miss y (.inr hk1)]
  rw [up_hit _ _ y hy (by omega)]
  exact hfin o0 j0 (by omega) (by omega)

/-- A slab of one lane tile. -/
theorem slab2 (q k s c oo : ℕ) (hk : k < 8) (hs : c = k / 2) (hq : q = k % 2) (hoo : oo = 128 * q)
    (h : Vec Ideal S512x1024 .bf16) (w : Vec Ideal S1024x3072 .bf16) (cy : Vec Ideal S4x2x8x128 .f32)
    {arg10 : Memref sig .tc .vmem S4x2x8x128 .f32} (harg10 : arg10.IsWhole) {arg12 : Memref sig .tc .vmem S2x3x512x256 .f32}
    (U : List (View.Piece (Elt Ideal) S2x3x512x256 .f32))
    (hU : ∀ y : S2x3x512x256.Idx, (y 0).val = s → View.canon U y = zS h w (y 2).val (1024 * (y 1).val + 256 * c + (y 3).val))
    {inb : ∀ a, (![q, 0, 0] : Fin 3 → ℕ) a + S1x520x128.size a ≤ S2x520x128.size a}
    {inb' : ∀ a, (![8, 0] : Fin 2 → ℕ) a + S512x128.size a ≤ S520x128.size a}
    {inb'' : ∀ a, (![0, 0] : Fin 2 → ℕ) a + S8x128.size a ≤ S520x128.size a}
    {h0 : (![1, 520, 128] : Fin 3 → ℕ) 0 = 1} {hs' : ∀ i, (![1, 520, 128] : Fin 3 → ℕ) i.succ = S520x128.size i}
    {hst : ∀ a, (Rect.unit (s := S2x520x128) ![q, 0, 0] S1x520x128.size inb).stride a = 1}
    {hR : ((Rect.unit (s := S520x128) ![8, 0] S512x128.size inb').consLift ![1, 520, 128] h0 hs').shape.numel
      = (Rect.unit (s := S520x128) ![8, 0] S512x128.size inb').shape.numel}
    {hR' : ((Rect.unit (s := S520x128) ![0, 0] S8x128.size inb'').consLift ![1, 520, 128] h0 hs').shape.numel
      = (Rect.unit (s := S520x128) ![0, 0] S8x128.size inb'').shape.numel} {j1 j2 j3}
    (L : List (View.Piece (Elt Ideal) S2x520x128 .f32)) (y : S2x520x128.Idx) (hy : (y 0).val = q) :
    View.canon
      (⟨(Rect.unit (s := S2x520x128) ![q, 0, 0] S1x520x128.size inb).within
          ((Rect.unit (s := S520x128) ![8, 0] S512x128.size inb').consLift ![1, 520, 128] h0 hs') hst,
          Rect.payAlong hR (k0_pay16
            (arg12.view.readCov U (Rect.unit (s := S2x3x512x256) ![s, 1, 0, oo] S1x1x512x128.size j1).toLoadRect)
            (arg12.view.readCov U (Rect.unit (s := S2x3x512x256) ![s, 2, 0, oo] S1x1x512x128.size j2).toLoadRect))⟩
        :: ⟨(Rect.unit (s := S2x520x128) ![q, 0, 0] S1x520x128.size inb).within
          ((Rect.unit (s := S520x128) ![0, 0] S8x128.size inb'').consLift ![1, 520, 128] h0 hs') hst,
          Rect.payAlong hR' (k0_pay15 (k0_pay14 (View.readAt (Elt Ideal) arg10.view
            (Rect.unit (s := S4x2x8x128) ![c, q, 0, 0] S1x1x8x128.size j3).toLoadRect (harg10.unread cy))))⟩
        :: L) y
      = extS h w cy (y 1).val (128 * k + (y 2).val) := by
  have h1 : (y 1).val < 520 := (y 1).isLt
  have h2 : (y 2).val < 128 := (y 2).isLt
  by_cases hρ : (y 1).val < 8
  · have hm := slab_miss (q := q) (o := 8) (n := 512) (inb := inb) (inb' := inb') (h0 := h0) (hs := hs') (hst := hst)
      (w := Rect.payAlong hR (k0_pay16
            (arg12.view.readCov U (Rect.unit (s := S2x3x512x256) ![s, 1, 0, oo] S1x1x512x128.size j1).toLoadRect)
            (arg12.view.readCov U (Rect.unit (s := S2x3x512x256) ![s, 2, 0, oo] S1x1x512x128.size j2).toLoadRect)))
      (L := ⟨(Rect.unit (s := S2x520x128) ![q, 0, 0] S1x520x128.size inb).within
          ((Rect.unit (s := S520x128) ![0, 0] S8x128.size inb'').consLift ![1, 520, 128] h0 hs') hst,
          Rect.payAlong hR' (k0_pay15 (k0_pay14 (View.readAt (Elt Ideal) arg10.view
            (Rect.unit (s := S4x2x8x128) ![c, q, 0, 0] S1x1x8x128.size j3).toLoadRect (harg10.unread cy))))⟩ :: L) y (.inr (.inl hρ))
    refine hm.trans ((slab_hit (n := 8) (inb' := inb'') _ L hR' y ⟨(y 1).val, hρ⟩ (y 2) hy (Nat.zero_add _).symm rfl).trans ?_)
    refine (cpay_apply _ ⟨(y 1).val, hρ⟩ (y 2)).trans ?_
    rw [extS, if_pos hρ]
    refine read_at harg10 cy _ _ fun a => ?_
    match a with
    | 0 => show (128 * k + (y 2).val) / 256 % 4 = c + 0; omega
    | 1 => show (128 * k + (y 2).val) / 128 % 2 = q + 0; omega
    | 2 => show (y 1).val % 8 = 0 + (y 1).val; omega
    | 3 => show (128 * k + (y 2).val) % 128 = 0 + (y 2).val; omega
  · refine (slab_hit (n := 512) (inb' := inb') _ _ hR y ⟨(y 1).val - 8, by omega⟩ (y 2) hy (show (y 1).val = 8 + ((y 1).val - 8) by omega) rfl).trans ?_
    refine (ppay_apply _ _ ⟨(y 1).val - 8, by omega⟩ (y 2)).trans ?_
    have hs2 : s < 2 := by have := j1 0; change s + 1 ≤ 2 at this; omega
    rw [extS, if_neg hρ]
    congr 1
    · refine (up_read U (ix4 (n0 := 2) (n1 := 3) (n2 := 512) (n3 := 256) ⟨s, hs2⟩ 1 ⟨(y 1).val - 8, by omega⟩ ⟨oo + (y 2).val, by omega⟩)
        ⟨(y 1).val - 8, by omega⟩ (y 2) rfl rfl rfl rfl).trans ((hU _ rfl).trans ?_)
      exact congrArg (zS h w ((y 1).val - 8))
        (show 1024 * 1 + 256 * c + (oo + (y 2).val) = 1024 * 1 + (128 * k + (y 2).val) by omega)
    · refine (up_read U (ix4 (n0 := 2) (n1 := 3) (n2 := 512) (n3 := 256) ⟨s, hs2⟩ 2 ⟨(y 1).val - 8, by omega⟩ ⟨oo + (y 2).val, by omega⟩)
        ⟨(y 1).val - 8, by omega⟩ (y 2) rfl rfl rfl rfl).trans ((hU _ rfl).trans ?_)
      exact congrArg (zS h w ((y 1).val - 8))
        (show 1024 * 2 + 256 * c + (oo + (y 2).val) = 1024 * 2 + (128 * k + (y 2).val) by omega)

/-- The product of a lane tile's gate with its convolution. -/
theorem act_val (q k s c oo oc : ℕ) (hk : k < 8) (hs : c = k / 2) (hoo : oo = 128 * (k % 2)) (hoc : oc = 128 * k)
    (h : Vec Ideal S512x1024 .bf16) (w : Vec Ideal S1024x3072 .bf16) (cw : Vec Ideal S3x1024 .f32) (cy : Vec Ideal S4x2x8x128 .f32)
    {arg4 : Memref sig .tc .vmem S3x1024 .f32} (harg4 : arg4.IsWhole) {arg12 : Memref sig .tc .vmem S2x3x512x256 .f32}
    {arg13 : Memref sig .tc .vmem S2x520x128 .f32}
    (U : List (View.Piece (Elt Ideal) S2x3x512x256 .f32))
    (hU : ∀ y : S2x3x512x256.Idx, (y 0).val = s → View.canon U y = zS h w (y 2).val (1024 * (y 1).val + 256 * c + (y 3).val))
    (L : List (View.Piece (Elt Ideal) S2x520x128 .f32))
    (hL : ∀ y : S2x520x128.Idx, (y 0).val = q → View.canon L y = extS h w cy (y 1).val (128 * k + (y 2).val))
    {inb : ∀ a, (![q, 0, 0] : Fin 3 → ℕ) a + S1x520x128.size a ≤ S2x520x128.size a}
    {i6 : ∀ a, (![6, 0] : Fin 2 → ℕ) a + S512x128.size a ≤ S520x128.size a}
    {i7 : ∀ a, (![7, 0] : Fin 2 → ℕ) a + S512x128.size a ≤ S520x128.size a}
    {i8 : ∀ a, (![8, 0] : Fin 2 → ℕ) a + S512x128.size a ≤ S520x128.size a}
    {h0 : (![1, 520, 128] : Fin 3 → ℕ) 0 = 1} {hs' : ∀ i, (![1, 520, 128] : Fin 3 → ℕ) i.succ = S520x128.size i}
    {hst : ∀ a, (Rect.unit (s := S2x520x128) ![q, 0, 0] S1x520x128.size inb).stride a = 1}
    {hR6 : (Rect.unit (s := S520x128) ![6, 0] S512x128.size i6).toLoadRect.shape.numel
      = ((Rect.unit (s := S520x128) ![6, 0] S512x128.size i6).toLoadRect.consLift ![1, 520, 128] h0 hs').shape.numel}
    {hR7 : (Rect.unit (s := S520x128) ![7, 0] S512x128.size i7).toLoadRect.shape.numel
      = ((Rect.unit (s := S520x128) ![7, 0] S512x128.size i7).toLoadRect.consLift ![1, 520, 128] h0 hs').shape.numel}
    {hR8 : (Rect.unit (s := S520x128) ![8, 0] S512x128.size i8).toLoadRect.shape.numel
      = ((Rect.unit (s := S520x128) ![8, 0] S512x128.size i8).toLoadRect.consLift ![1, 520, 128] h0 hs').shape.numel}
    {jc : ∀ a, (![0, oc] : Fin 2 → ℕ) a + S3x128.size a ≤ S3x1024.size a}
    {ju : ∀ a, (![s, 0, 0, oo] : Fin 4 → ℕ) a + S1x1x512x128.size a ≤ S2x3x512x256.size a} (r : Fin 512) (l : Fin 128) :
    k0_pay20
      (k0_pay17 (View.readAt (Elt Ideal) arg4.view (Rect.unit (s := S3x1024) ![0, oc] S3x128.size jc).toLoadRect (harg4.unread cw))
        (LoadRect.valAlong hR6 (arg13.view.readCov L ((Rect.unit (s := S2x520x128) ![q, 0, 0] S1x520x128.size inb).withinL
          ((Rect.unit (s := S520x128) ![6, 0] S512x128.size i6).toLoadRect.consLift ![1, 520, 128] h0 hs') hst)))
        (LoadRect.valAlong hR7 (arg13.view.readCov L ((Rect.unit (s := S2x520x128) ![q, 0, 0] S1x520x128.size inb).withinL
          ((Rect.unit (s := S520x128) ![7, 0] S512x128.size i7).toLoadRect.consLift ![1, 520, 128] h0 hs') hst))))
      (k0_pay18 (View.readAt (Elt Ideal) arg4.view (Rect.unit (s := S3x1024) ![0, oc] S3x128.size jc).toLoadRect (harg4.unread cw)))
      (LoadRect.valAlong hR8 (arg13.view.readCov L ((Rect.unit (s := S2x520x128) ![q, 0, 0] S1x520x128.size inb).withinL
          ((Rect.unit (s := S520x128) ![8, 0] S512x128.size i8).toLoadRect.consLift ![1, 520, 128] h0 hs') hst)))
      (arg12.view.readCov U (Rect.unit (s := S2x3x512x256) ![s, 0, 0, oo] S1x1x512x128.size ju).toLoadRect)
      (ix3 (n0 := 1) 0 r l) = actS h w cw cy r.val (128 * k + l.val) := by
  have hs2 : s < 2 := by have := ju 0; change s + 1 ≤ 2 at this; omega
  have hq2 : q < 2 := by have := inb 0; change q + 1 ≤ 2 at this; omega
  have hcw : ∀ t : Fin 3, View.readAt (Elt Ideal) arg4.view (Rect.unit (s := S3x1024) ![0, oc] S3x128.size jc).toLoadRect (harg4.unread cw)
      (ix2 t l) = cw (ix2 t (Fin.ofNat 1024 (128 * k + l.val))) := fun t => by
    refine read_at harg4 cw _ _ fun a => ?_
    match a with
    | 0 => show t.val = 0 + t.val; omega
    | 1 => show (128 * k + l.val) % 1024 = oc + l.val; omega
  have hu : arg12.view.readCov U (Rect.unit (s := S2x3x512x256) ![s, 0, 0, oo] S1x1x512x128.size ju).toLoadRect
      (ix4 (n0 := 1) (n1 := 1) 0 0 r l) = zS h w r.val (128 * k + l.val) :=
    (up_read U (ix4 (n0 := 2) (n1 := 3) (n2 := 512) (n3 := 256) ⟨s, hs2⟩ 0 r ⟨oo + l.val, by omega⟩) r l rfl rfl rfl rfl).trans
      ((hU _ rfl).trans (congrArg (zS h w r.val) (show 1024 * 0 + 256 * c + (oo + l.val) = 128 * k + l.val by omega)))
  refine (apay_apply _ _ _ _ _ r l).trans ?_
  rw [hcw 0, hcw 1, hcw 2, hu]
  have e6 := (slab_read (q := q) (o := 6) (n := 512) (inb := inb) (inb' := i6) (h0 := h0) (hs := hs') (hst := hst) (arg := arg13) L hR6
    (ix3 (n0 := 2) (n1 := 520) (n2 := 128) ⟨q, hq2⟩ ⟨6 + r.val, by omega⟩ l) r l rfl rfl rfl).trans (hL _ rfl)
  have e7 := (slab_read (q := q) (o := 7) (n := 512) (inb := inb) (inb' := i7) (h0 := h0) (hs := hs') (hst := hst) (arg := arg13) L hR7
    (ix3 (n0 := 2) (n1 := 520) (n2 := 128) ⟨q, hq2⟩ ⟨7 + r.val, by omega⟩ l) r l rfl rfl rfl).trans (hL _ rfl)
  have e8 := (slab_read (q := q) (o := 8) (n := 512) (inb := inb) (inb' := i8) (h0 := h0) (hs := hs') (hst := hst) (arg := arg13) L hR8
    (ix3 (n0 := 2) (n1 := 520) (n2 := 128) ⟨q, hq2⟩ ⟨8 + r.val, by omega⟩ l) r l rfl rfl rfl).trans (hL _ rfl)
  unfold actS
  exact congrArg (zS h w r.val (128 * k + l.val) * ·) (congr (congrArg _ (congr (congrArg _ (congrArg _ e6)) (congrArg _ e7))) (congrArg _ e8))

/-- The rows a lane tile leaves to the next block. -/
theorem keep_val (q k : ℕ) (h : Vec Ideal S512x1024 .bf16) (w : Vec Ideal S1024x3072 .bf16) (cy : Vec Ideal S4x2x8x128 .f32)
    {arg13 : Memref sig .tc .vmem S2x520x128 .f32}
    (L : List (View.Piece (Elt Ideal) S2x520x128 .f32))
    (hL : ∀ y : S2x520x128.Idx, (y 0).val = q → View.canon L y = extS h w cy (y 1).val (128 * k + (y 2).val))
    {inb : ∀ a, (![q, 0, 0] : Fin 3 → ℕ) a + S1x520x128.size a ≤ S2x520x128.size a}
    {i6 : ∀ a, (![512, 0] : Fin 2 → ℕ) a + S8x128.size a ≤ S520x128.size a}
    {h0 : (![1, 520, 128] : Fin 3 → ℕ) 0 = 1} {hs' : ∀ i, (![1, 520, 128] : Fin 3 → ℕ) i.succ = S520x128.size i}
    {hst : ∀ a, (Rect.unit (s := S2x520x128) ![q, 0, 0] S1x520x128.size inb).stride a = 1}
    {hR6 : (Rect.unit (s := S520x128) ![512, 0] S8x128.size i6).toLoadRect.shape.numel
      = ((Rect.unit (s := S520x128) ![512, 0] S8x128.size i6).toLoadRect.consLift ![1, 520, 128] h0 hs').shape.numel}
    (r : Fin 8) (l : Fin 128) :
    k0_pay19 (LoadRect.valAlong hR6 (arg13.view.readCov L ((Rect.unit (s := S2x520x128) ![q, 0, 0] S1x520x128.size inb).withinL
          ((Rect.unit (s := S520x128) ![512, 0] S8x128.size i6).toLoadRect.consLift ![1, 520, 128] h0 hs') hst)))
      (ix4 (n0 := 1) (n1 := 1) 0 0 r l) = extS h w cy (512 + r.val) (128 * k + l.val) := by
  have hq2 : q < 2 := by have := inb 0; change q + 1 ≤ 2 at this; omega
  refine (vpay_apply _ r l).trans ?_
  exact (slab_read (q := q) (o := 512) (n := 8) (inb := inb) (inb' := i6) (h0 := h0) (hs := hs') (hst := hst) (arg := arg13) L hR6
    (ix3 (n0 := 2) (n1 := 520) (n2 := 128) ⟨q, hq2⟩ ⟨512 + r.val, by omega⟩ l) r l rfl rfl rfl).trans (hL _ rfl)

end Spec

end Cert.SConv
-- ==== Proof.SConv.Value.lean ====
module

public import proofs.«01_k».proof.Proof.SConv.Read

/-! # What one tile leaves -/

@[expose] public section

set_option maxRecDepth 16384

noncomputable section

namespace Cert.SConv

open Cert.KernelIdeal Cert.KernelIdeal.Gen
open Idealize.ShloMosaic Idealize.ShloMosaic.TcCoe Idealize.ShloMosaic.Tactic

variable (c : Dev nD) (i : grid0.Coords)
  (arg1 : Memref sig .tc .vmem S1x512x1024 .f32) (harg1 : arg1.IsWhole)
  (arg2 : Memref sig .tc .vmem S8x3072 .f32) (harg2 : arg2.IsWhole)
  (arg3 : Memref sig .tc .vmem S1024x3072 .bf16) (harg3 : arg3.IsWhole)
  (arg4 : Memref sig .tc .vmem S3x1024 .f32) (harg4 : arg4.IsWhole)
  (arg5 : Memref sig .tc .vmem S1024x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x512x1024 .f32) (harg8 : arg8.IsWhole)
  (arg9 : Memref sig .tc .vmem S1x2x1024 .f32) (harg9 : arg9.IsWhole)
  (arg10 : Memref sig .tc .vmem S4x2x8x128 .f32) (harg10 : arg10.IsWhole)
  (arg11 : Memref sig .tc .vmem S512x1024 .bf16) (harg11 : arg11.IsWhole)
  (arg12 : Memref sig .tc .vmem S2x3x512x256 .f32) (harg12 : arg12.IsWhole)
  (arg13 : Memref sig .tc .vmem S2x520x128 .f32) (harg13 : arg13.IsWhole)
  (arg14 : Memref sig .tc .vmem S2x512x1024 .bf16) (harg14 : arg14.IsWhole)
  (arg15 : Memref sig .tc .vmem S512x1024 .f32) (harg15 : arg15.IsWhole)
  (arg16 : Memref sig .tc .vmem S512x1024 .f32) (harg16 : arg16.IsWhole)
  (hc2 : k0_cond3 i = 1#1) (x0 : Vec Ideal S1x512x1024 .f32) (x1 : Vec Ideal S8x3072 .f32) (x2 : Vec Ideal S1024x3072 .bf16)
  (x3 : Vec Ideal S3x1024 .f32) (x4 : Vec Ideal S1024x1024 .bf16) (x5 x6 : Vec Ideal S1x1024 .f32) (xs0 : Vec Ideal S4x2x8x128 .f32)
  (xs6 : Vec Ideal S512x1024 .f32)

theorem up_0 (y : S2x3x512x256.Idx) (hy : (y 0).val = 0) :
    View.canon (tileRun.sl.H12_3 (F := Ideal) c i arg1 harg1 arg2 harg2 arg3 harg3 arg11 hc2 x0 x1 x2) y
      = zS (tileRun.sl.v90 (F := Ideal) c i arg1 harg1 arg2 harg2 arg11 hc2 x0 x1) x2 (y 2).val (1024 * (y 1).val + 256 * 0 + (y 3).val) :=
  up3 0 0 (by omega) (tileRun.sl.v90 (F := Ideal) c i arg1 harg1 arg2 harg2 arg11 hc2 x0 x1) x2 harg3 (by omega) (by omega) (by omega) _ y hy

theorem up_1 (y : S2x3x512x256.Idx) (hy : (y 0).val = 1) :
    View.canon (tileRun.sl.H12_6 (F := Ideal) c i arg1 harg1 arg2 harg2 arg3 harg3 arg11 hc2 x0 x1 x2) y
      = zS (tileRun.sl.v90 (F := Ideal) c i arg1 harg1 arg2 harg2 arg11 hc2 x0 x1) x2 (y 2).val (1024 * (y 1).val + 256 * 1 + (y 3).val) :=
  up3 1 1 (by omega) (tileRun.sl.v90 (F := Ideal) c i arg1 harg1 arg2 harg2 arg11 hc2 x0 x1) x2 harg3 (by omega) (by omega) (by omega) _ y hy

theorem up_2 (y : S2x3x512x256.Idx) (hy : (y 0).val = 0) :
    View.canon (tileRun.sl.H12_9 (F := Ideal) c i arg1 harg1 arg2 harg2 arg3 harg3 arg11 hc2 x0 x1 x2) y
      = zS (tileRun.sl.v90 (F := Ideal) c i arg1 harg1 arg2 harg2 arg11 hc2 x0 x1) x2 (y 2).val (1024 * (y 1).val + 256 * 2 + (y 3).val) :=
  up3 0 2 (by omega) (tileRun.sl.v90 (F := Ideal) c i arg1 harg1 arg2 harg2 arg11 hc2 x0 x1) x2 harg3 (by omega) (by omega) (by omega) _ y hy

theorem up_3 (y : S2x3x512x256.Idx) (hy : (y 0).val = 1) :
    View.canon (tileRun.sl.H12_12 (F := Ideal) c i arg1 harg1 arg2 harg2 arg3 harg3 arg11 hc2 x0 x1 x2) y
      = zS (tileRun.sl.v90 (F := Ideal) c i arg1 harg1 arg2 harg2 arg11 hc2 x0 x1) x2 (y 2).val (1024 * (y 1).val + 256 * 3 + (y 3).val) :=
  up3 1 3 (by omega) (tileRun.sl.v90 (F := Ideal) c i arg1 harg1 arg2 harg2 arg11 hc2 x0 x1) x2 harg3 (by omega) (by omega) (by omega) _ y hy

theorem slab_0 (y : S2x520x128.Idx) (hy : (y 0).val = 0) :
    View.canon (tileRun.sl.H13_2 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 0 + (y 2).val) :=
  slab2 0 0 0 0 0 (by omega) (by omega) (by omega) (by omega) (tileRun.sl.v90 (F := Ideal) c i arg1 harg1 arg2 harg2 arg11 hc2 x0 x1) x2 xs0 harg10 (tileRun.sl.H12_3 (F := Ideal) c i arg1 harg1 arg2 harg2 arg3 harg3 arg11 hc2 x0 x1 x2)
    (fun y hy => up_0 (hc2 := hc2) (hy := hy) ..) _ y hy

theorem slab_1 (y : S2x520x128.Idx) (hy : (y 0).val = 1) :
    View.canon (tileRun.sl.H13_4 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 1 + (y 2).val) :=
  slab2 1 1 0 0 128 (by omega) (by omega) (by omega) (by omega) (tileRun.sl.v90 (F := Ideal) c i arg1 harg1 arg2 harg2 arg11 hc2 x0 x1) x2 xs0 harg10 (tileRun.sl.H12_3 (F := Ideal) c i arg1 harg1 arg2 harg2 arg3 harg3 arg11 hc2 x0 x1 x2)
    (fun y hy => up_0 (hc2 := hc2) (hy := hy) ..) _ y hy

theorem slab_2 (y : S2x520x128.Idx) (hy : (y 0).val = 0) :
    View.canon (tileRun.sl.H13_6 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 2 + (y 2).val) :=
  slab2 0 2 1 1 0 (by omega) (by omega) (by omega) (by omega) (tileRun.sl.v90 (F := Ideal) c i arg1 harg1 arg2 harg2 arg11 hc2 x0 x1) x2 xs0 harg10 (tileRun.sl.H12_6 (F := Ideal) c i arg1 harg1 arg2 harg2 arg3 harg3 arg11 hc2 x0 x1 x2)
    (fun y hy => up_1 (hc2 := hc2) (hy := hy) ..) _ y hy

theorem slab_3 (y : S2x520x128.Idx) (hy : (y 0).val = 1) :
    View.canon (tileRun.sl.H13_8 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 3 + (y 2).val) :=
  slab2 1 3 1 1 128 (by omega) (by omega) (by omega) (by omega) (tileRun.sl.v90 (F := Ideal) c i arg1 harg1 arg2 harg2 arg11 hc2 x0 x1) x2 xs0 harg10 (tileRun.sl.H12_6 (F := Ideal) c i arg1 harg1 arg2 harg2 arg3 harg3 arg11 hc2 x0 x1 x2)
    (fun y hy => up_1 (hc2 := hc2) (hy := hy) ..) _ y hy

theorem slab_4 (y : S2x520x128.Idx) (hy : (y 0).val = 0) :
    View.canon (tileRun.sl.H13_10 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 4 + (y 2).val) :=
  slab2 0 4 0 2 0 (by omega) (by omega) (by omega) (by omega) (tileRun.sl.v90 (F := Ideal) c i arg1 harg1 arg2 harg2 arg11 hc2 x0 x1) x2 xs0 harg10 (tileRun.sl.H12_9 (F := Ideal) c i arg1 harg1 arg2 harg2 arg3 harg3 arg11 hc2 x0 x1 x2)
    (fun y hy => up_2 (hc2 := hc2) (hy := hy) ..) _ y hy

theorem slab_5 (y : S2x520x128.Idx) (hy : (y 0).val = 1) :
    View.canon (tileRun.sl.H13_12 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 5 + (y 2).val) :=
  slab2 1 5 0 2 128 (by omega) (by omega) (by omega) (by omega) (tileRun.sl.v90 (F := Ideal) c i arg1 harg1 arg2 harg2 arg11 hc2 x0 x1) x2 xs0 harg10 (tileRun.sl.H12_9 (F := Ideal) c i arg1 harg1 arg2 harg2 arg3 harg3 arg11 hc2 x0 x1 x2)
    (fun y hy => up_2 (hc2 := hc2) (hy := hy) ..) _ y hy

theorem slab_6 (y : S2x520x128.Idx) (hy : (y 0).val = 0) :
    View.canon (tileRun.sl.H13_14 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 6 + (y 2).val) :=
  slab2 0 6 1 3 0 (by omega) (by omega) (by omega) (by omega) (tileRun.sl.v90 (F := Ideal) c i arg1 harg1 arg2 harg2 arg11 hc2 x0 x1) x2 xs0 harg10 (tileRun.sl.H12_12 (F := Ideal) c i arg1 harg1 arg2 harg2 arg3 harg3 arg11 hc2 x0 x1 x2)
    (fun y hy => up_3 (hc2 := hc2) (hy := hy) ..) _ y hy

theorem slab_7 (y : S2x520x128.Idx) (hy : (y 0).val = 1) :
    View.canon (tileRun.sl.H13_16 (F := Ideal) c i arg1 harg1 arg2 harg2 arg3 harg3 arg10 harg10 arg11 arg12 hc2 x0 x1 x2 xs0) y
      = extS (tileRun.sl.v90 (F := Ideal) c i arg1 harg1 arg2 harg2 arg11 hc2 x0 x1) x2 xs0 (y 1).val (128 * 7 + (y 2).val) :=
  slab2 1 7 1 3 128 (by omega) (by omega) (by omega) (by omega) (tileRun.sl.v90 (F := Ideal) c i arg1 harg1 arg2 harg2 arg11 hc2 x0 x1) x2 xs0 harg10 (tileRun.sl.H12_12 (F := Ideal) c i arg1 harg1 arg2 harg2 arg3 harg3 arg11 hc2 x0 x1 x2)
    (fun y hy => up_3 (hc2 := hc2) (hy := hy) ..) _ y hy

/-- The block's activations, entry by entry. -/
theorem act_step (h : Vec Ideal S512x1024 .bf16) (w : Vec Ideal S1024x3072 .bf16) (cw : Vec Ideal S3x1024 .f32) (cy : Vec Ideal S4x2x8x128 .f32)
    (k oc : ℕ) (hoc : oc = 128 * k) {inb : ∀ a, (![0, 0, oc] : Fin 3 → ℕ) a + S1x512x128.size a ≤ S2x512x1024.size a}
    (v : (Rect.unit (s := S2x512x1024) ![0, 0, oc] S1x512x128.size inb).shape.Idx → Elt Ideal .bf16)
    (hv : ∀ (r : Fin 512) (l : Fin 128), v (ix3 (n0 := 1) 0 r l) = actS h w cw cy r.val (128 * k + l.val))
    (L : List (View.Piece (Elt Ideal) S2x512x1024 .bf16)) (y : S2x512x1024.Idx) (hy : (y 0).val = 0)
    (hL : ¬((y 2).val / 128 = k) → View.canon L y = actS h w cw cy (y 1).val (y 2).val) :
    View.canon (⟨Rect.unit (s := S2x512x1024) ![0, 0, oc] S1x512x128.size inb, v⟩ :: L) y = actS h w cw cy (y 1).val (y 2).val := by
  by_cases hk : (y 2).val / 128 = k
  · let x : (Rect.unit (s := S2x512x1024) ![0, 0, oc] S1x512x128.size inb).shape.Idx :=
      ix3 (n0 := 1) 0 (y 1) (⟨(y 2).val % 128, by omega⟩ : Fin 128)
    have hx := View.canon_cons_emb (Val := Elt Ideal) (Rect.unit (s := S2x512x1024) ![0, 0, oc] S1x512x128.size inb) v L x
    have hyx : y = (Rect.unit (s := S2x512x1024) ![0, 0, oc] S1x512x128.size inb).emb x := by
      funext a
      apply Fin.ext
      refine Eq.trans ?_ (Rect.emb_apply (Rect.unit (s := S2x512x1024) ![0, 0, oc] S1x512x128.size inb) x a).symm
      match a with
      | 0 => show (y 0).val = 0 + 1 * 0; omega
      | 1 => show (y 1).val = 0 + 1 * (y 1).val; omega
      | 2 => show (y 2).val = oc + 1 * ((y 2).val % 128); omega
    refine ((congrArg _ hyx).trans hx).trans ((hv (y 1) ⟨(y 2).val % 128, by omega⟩).trans ?_)
    exact congrArg (actS h w cw cy (y 1).val) (show 128 * k + (y 2).val % 128 = (y 2).val by omega)
  · rw [View.canon_cons_of_not_mem, hL hk]
    intro hm
    rw [LoadRect.mem_set] at hm
    obtain ⟨j2, hj2, e2⟩ := hm 2
    change j2 < 128 at hj2
    change (y 2).val = oc + 1 * j2 at e2
    omega

/-- The rows left to the next block, entry by entry. -/
theorem keep_step (h : Vec Ideal S512x1024 .bf16) (w : Vec Ideal S1024x3072 .bf16) (cy : Vec Ideal S4x2x8x128 .f32)
    (k c q : ℕ) (hk : k = 2 * c + q) {inb : ∀ a, (![c, q, 0, 0] : Fin 4 → ℕ) a + S1x1x8x128.size a ≤ S4x2x8x128.size a}
    (v : (Rect.unit (s := S4x2x8x128) ![c, q, 0, 0] S1x1x8x128.size inb).shape.Idx → Elt Ideal .f32)
    (hv : ∀ (r : Fin 8) (l : Fin 128), v (ix4 (n0 := 1) (n1 := 1) 0 0 r l) = extS h w cy (512 + r.val) (128 * k + l.val))
    (L : List (View.Piece (Elt Ideal) S4x2x8x128 .f32)) (y : S4x2x8x128.Idx)
    (hL : ¬((y 0).val = c ∧ (y 1).val = q) → View.canon L y
      = extS h w cy (512 + (y 2).val) (128 * (2 * (y 0).val + (y 1).val) + (y 3).val)) :
    View.canon (⟨Rect.unit (s := S4x2x8x128) ![c, q, 0, 0] S1x1x8x128.size inb, v⟩ :: L) y
      = extS h w cy (512 + (y 2).val) (128 * (2 * (y 0).val + (y 1).val) + (y 3).val) := by
  by_cases hc : (y 0).val = c ∧ (y 1).val = q
  · let x : (Rect.unit (s := S4x2x8x128) ![c, q, 0, 0] S1x1x8x128.size inb).shape.Idx :=
      ix4 (n0 := 1) (n1 := 1) 0 0 (y 2) (y 3)
    have hx := View.canon_cons_emb (Val := Elt Ideal) (Rect.unit (s := S4x2x8x128) ![c, q, 0, 0] S1x1x8x128.size inb) v L x
    have hyx : y = (Rect.unit (s := S4x2x8x128) ![c, q, 0, 0] S1x1x8x128.size inb).emb x := by
      funext a
      apply Fin.ext
      refine Eq.trans ?_ (Rect.emb_apply (Rect.unit (s := S4x2x8x128) ![c, q, 0, 0] S1x1x8x128.size inb) x a).symm
      match a with
      | 0 => show (y 0).val = c + 1 * 0; omega
      | 1 => show (y 1).val = q + 1 * 0; omega
      | 2 => show (y 2).val = 0 + 1 * (y 2).val; omega
      | 3 => show (y 3).val = 0 + 1 * (y 3).val; omega
    refine ((congrArg _ hyx).trans hx).trans ((hv (y 2) (y 3)).trans ?_)
    exact congrArg (extS h w cy (512 + (y 2).val)) (show 128 * k + (y 3).val = 128 * (2 * (y 0).val + (y 1).val) + (y 3).val by omega)
  · rw [View.canon_cons_of_not_mem, hL hc]
    intro hm
    rw [LoadRect.mem_set] at hm
    obtain ⟨j0, hj0, e0⟩ := hm 0
    obtain ⟨j1, hj1, e1⟩ := hm 1
    change j0 < 1 at hj0
    change j1 < 1 at hj1
    change (y 0).val = c + 1 * j0 at e0
    change (y 1).val = q + 1 * j1 at e1
    omega

theorem act_val_all (y : S2x512x1024.Idx) (hy : (y 0).val = 0) :
    View.canon (tileRun.sl.H14_8 (F := Ideal) c i arg1 harg1 arg2 harg2 arg3 harg3 arg4 harg4 arg10 harg10 arg11 arg12 arg13 hc2 x0 x1 x2 x3 xs0) y
      = actS (tileRun.sl.v90 (F := Ideal) c i arg1 harg1 arg2 harg2 arg11 hc2 x0 x1) x2 x3 xs0 (y 1).val (y 2).val := by
  have h2 : (y 2).val < 1024 := (y 2).isLt
  unfold tileRun.sl.H14_8
  refine act_step _ x2 x3 xs0 7 896 (by omega) _ (fun r l => act_val 1 7 1 3 128 896 (by omega) (by omega) (by omega) (by omega)
    (tileRun.sl.v90 (F := Ideal) c i arg1 harg1 arg2 harg2 arg11 hc2 x0 x1) x2 x3 xs0 harg4 (tileRun.sl.H12_12 (F := Ideal) c i arg1 harg1 arg2 harg2 arg3 harg3 arg11 hc2 x0 x1 x2) (fun y hy => up_3 (hc2 := hc2) (hy := hy) ..)
    (tileRun.sl.H13_16 (F := Ideal) c i arg1 harg1 arg2 harg2 arg3 harg3 arg10 harg10 arg11 arg12 hc2 x0 x1 x2 xs0) (fun y hy => slab_7 (hc2 := hc2) (hy := hy) ..) r l) _ y hy fun n7 => ?_
  refine act_step _ x2 x3 xs0 6 768 (by omega) _ (fun r l => act_val 0 6 1 3 0 768 (by omega) (by omega) (by omega) (by omega)
    (tileRun.sl.v90 (F := Ideal) c i arg1 harg1 arg2 harg2 arg11 hc2 x0 x1) x2 x3 xs0 harg4 (tileRun.sl.H12_12 (F := Ideal) c i arg1 harg1 arg2 harg2 arg3 harg3 arg11 hc2 x0 x1 x2) (fun y hy => up_3 (hc2 := hc2) (hy := hy) ..)
    (tileRun.sl.H13_14 (F := Ideal) c i arg1 harg1 arg2 harg2 arg3 harg3 arg10 harg10 arg11 arg12 hc2 x0 x1 x2 xs0) (fun y hy => slab_6 (hc2 := hc2) (hy := hy) ..) r l) _ y hy fun n6 => ?_
  refine act_step _ x2 x3 xs0 5 640 (by omega) _ (fun r l => act_val 1 5 0 2 128 640 (by omega) (by omega) (by omega) (by omega)
    (tileRun.sl.v90 (F := Ideal) c i arg1 harg1 arg2 harg2 arg11 hc2 x0 x1) x2 x3 xs0 harg4 (tileRun.sl.H12_9 (F := Ideal) c i arg1 harg1 arg2 harg2 arg3 harg3 arg11 hc2 x0 x1 x2) (fun y hy => up_2 (hc2 := hc2) (hy := hy) ..)
    (tileRun.sl.H13_12 (F := Ideal) c i arg1 harg1 arg2 harg2 arg3 harg3 arg10 harg10 arg11 arg12 hc2 x0 x1 x2 xs0) (fun y hy => slab_5 (hc2 := hc2) (hy := hy) ..) r l) _ y hy fun n5 => ?_
  refine act_step _ x2 x3 xs0 4 512 (by omega) _ (fun r l => act_val 0 4 0 2 0 512 (by omega) (by omega) (by omega) (by omega)
    (tileRun.sl.v90 (F := Ideal) c i arg1 harg1 arg2 harg2 arg11 hc2 x0 x1) x2 x3 xs0 harg4 (tileRun.sl.H12_9 (F := Ideal) c i arg1 harg1 arg2 harg2 arg3 harg3 arg11 hc2 x0 x1 x2) (fun y hy => up_2 (hc2 := hc2) (hy := hy) ..)
    (tileRun.sl.H13_10 (F := Ideal) c i arg1 harg1 arg2 harg2 arg3 harg3 arg10 harg10 arg11 arg12 hc2 x0 x1 x2 xs0) (fun y hy => slab_4 (hc2 := hc2) (hy := hy) ..) r l) _ y hy fun n4 => ?_
  refine act_step _ x2 x3 xs0 3 384 (by omega) _ (fun r l => act_val 1 3 1 1 128 384 (by omega) (by omega) (by omega) (by omega)
    (tileRun.sl.v90 (F := Ideal) c i arg1 harg1 arg2 harg2 arg11 hc2 x0 x1) x2 x3 xs0 harg4 (tileRun.sl.H12_6 (F := Ideal) c i arg1 harg1 arg2 harg2 arg3 harg3 arg11 hc2 x0 x1 x2) (fun y hy => up_1 (hc2 := hc2) (hy := hy) ..)
    (tileRun.sl.H13_8 (F := Ideal) c i arg1 harg1 arg2 harg2 arg3 harg3 arg10 harg10 arg11 arg12 hc2 x0 x1 x2 xs0) (fun y hy => slab_3 (hc2 := hc2) (hy := hy) ..) r l) _ y hy fun n3 => ?_
  refine act_step _ x2 x3 xs0 2 256 (by omega) _ (fun r l => act_val 0 2 1 1 0 256 (by omega) (by omega) (by omega) (by omega)
    (tileRun.sl.v90 (F := Ideal) c i arg1 harg1 arg2 harg2 arg11 hc2 x0 x1) x2 x3 xs0 harg4 (tileRun.sl.H12_6 (F := Ideal) c i arg1 harg1 arg2 harg2 arg3 harg3 arg11 hc2 x0 x1 x2) (fun y hy => up_1 (hc2 := hc2) (hy := hy) ..)
    (tileRun.sl.H13_6 (F := Ideal) c i arg1 harg1 arg2 harg2 arg3 harg3 arg10 harg10 arg11 arg12 hc2 x0 x1 x2 xs0) (fun y hy => slab_2 (hc2 := hc2) (hy := hy) ..) r l) _ y hy fun n2 => ?_
  refine act_step _ x2 x3 xs0 1 128 (by omega) _ (fun r l => act_val 1 1 0 0 128 128 (by omega) (by omega) (by omega) (by omega)
    (tileRun.sl.v90 (F := Ideal) c i arg1 harg1 arg2 harg2 arg11 hc2 x0 x1) x2 x3 xs0 harg4 (tileRun.sl.H12_3 (F := Ideal) c i arg1 harg1 arg2 harg2 arg3 harg3 arg11 hc2 x0 x1 x2) (fun y hy => up_0 (hc2 := hc2) (hy := hy) ..)
    (tileRun.sl.H13_4 (F := Ideal) c i arg1 harg1 arg2 harg2 arg3 harg3 arg10 harg10 arg11 arg12 hc2 x0 x1 x2 xs0) (fun y hy => slab_1 (hc2 := hc2) (hy := hy) ..) r l) _ y hy fun n1 => ?_
  refine act_step _ x2 x3 xs0 0 0 (by omega) _ (fun r l => act_val 0 0 0 0 0 0 (by omega) (by omega) (by omega) (by omega)
    (tileRun.sl.v90 (F := Ideal) c i arg1 harg1 arg2 harg2 arg11 hc2 x0 x1) x2 x3 xs0 harg4 (tileRun.sl.H12_3 (F := Ideal) c i arg1 harg1 arg2 harg2 arg3 harg3 arg11 hc2 x0 x1 x2) (fun y hy => up_0 (hc2 := hc2) (hy := hy) ..)
    (tileRun.sl.H13_2 (F := Ideal) c i arg1 harg1 arg2 harg2 arg3 harg3 arg10 harg10 arg11 arg12 hc2 x0 x1 x2 xs0) (fun y hy => slab_0 (hc2 := hc2) (hy := hy) ..) r l) _ y hy fun n0 => ?_
  omega

variable (v17 : BitVec 32)

theorem keep_all (y : S4x2x8x128.Idx) :
    View.canon (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).2.1 y
      = extS (tileRun.sl.v90 (F := Ideal) c i arg1 harg1 arg2 harg2 arg11 hc2 x0 x1) x2 xs0 (512 + (y 2).val) (128 * (2 * (y 0).val + (y 1).val) + (y 3).val) := by
  have h0 : (y 0).val < 4 := (y 0).isLt
  have h1 : (y 1).val < 2 := (y 1).isLt
  unfold tileRun
  dsimp only
  refine keep_step _ x2 xs0 7 3 1 (by omega) _ (fun r l => keep_val 1 7
    (tileRun.sl.v90 (F := Ideal) c i arg1 harg1 arg2 harg2 arg11 hc2 x0 x1) x2 xs0 (tileRun.sl.H13_16 (F := Ideal) c i arg1 harg1 arg2 harg2 arg3 harg3 arg10 harg10 arg11 arg12 hc2 x0 x1 x2 xs0) (fun y hy => slab_7 (hc2 := hc2) (hy := hy) ..) r l) _ y fun n7 => ?_
  refine keep_step _ x2 xs0 6 3 0 (by omega) _ (fun r l => keep_val 0 6
    (tileRun.sl.v90 (F := Ideal) c i arg1 harg1 arg2 harg2 arg11 hc2 x0 x1) x2 xs0 (tileRun.sl.H13_14 (F := Ideal) c i arg1 harg1 arg2 harg2 arg3 harg3 arg10 harg10 arg11 arg12 hc2 x0 x1 x2 xs0) (fun y hy => slab_6 (hc2 := hc2) (hy := hy) ..) r l) _ y fun n6 => ?_
  refine keep_step _ x2 xs0 5 2 1 (by omega) _ (fun r l => keep_val 1 5
    (tileRun.sl.v90 (F := Ideal) c i arg1 harg1 arg2 harg2 arg11 hc2 x0 x1) x2 xs0 (tileRun.sl.H13_12 (F := Ideal) c i arg1 harg1 arg2 harg2 arg3 harg3 arg10 harg10 arg11 arg12 hc2 x0 x1 x2 xs0) (fun y hy => slab_5 (hc2 := hc2) (hy := hy) ..) r l) _ y fun n5 => ?_
  refine keep_step _ x2 xs0 4 2 0 (by omega) _ (fun r l => keep_val 0 4
    (tileRun.sl.v90 (F := Ideal) c i arg1 harg1 arg2 harg2 arg11 hc2 x0 x1) x2 xs0 (tileRun.sl.H13_10 (F := Ideal) c i arg1 harg1 arg2 harg2 arg3 harg3 arg10 harg10 arg11 arg12 hc2 x0 x1 x2 xs0) (fun y hy => slab_4 (hc2 := hc2) (hy := hy) ..) r l) _ y fun n4 => ?_
  refine keep_step _ x2 xs0 3 1 1 (by omega) _ (fun r l => keep_val 1 3
    (tileRun.sl.v90 (F := Ideal) c i arg1 harg1 arg2 harg2 arg11 hc2 x0 x1) x2 xs0 (tileRun.sl.H13_8 (F := Ideal) c i arg1 harg1 arg2 harg2 arg3 harg3 arg10 harg10 arg11 arg12 hc2 x0 x1 x2 xs0) (fun y hy => slab_3 (hc2 := hc2) (hy := hy) ..) r l) _ y fun n3 => ?_
  refine keep_step _ x2 xs0 2 1 0 (by omega) _ (fun r l => keep_val 0 2
    (tileRun.sl.v90 (F := Ideal) c i arg1 harg1 arg2 harg2 arg11 hc2 x0 x1) x2 xs0 (tileRun.sl.H13_6 (F := Ideal) c i arg1 harg1 arg2 harg2 arg3 harg3 arg10 harg10 arg11 arg12 hc2 x0 x1 x2 xs0) (fun y hy => slab_2 (hc2 := hc2) (hy := hy) ..) r l) _ y fun n2 => ?_
  refine keep_step _ x2 xs0 1 0 1 (by omega) _ (fun r l => keep_val 1 1
    (tileRun.sl.v90 (F := Ideal) c i arg1 harg1 arg2 harg2 arg11 hc2 x0 x1) x2 xs0 (tileRun.sl.H13_4 (F := Ideal) c i arg1 harg1 arg2 harg2 arg3 harg3 arg10 harg10 arg11 arg12 hc2 x0 x1 x2 xs0) (fun y hy => slab_1 (hc2 := hc2) (hy := hy) ..) r l) _ y fun n1 => ?_
  refine keep_step _ x2 xs0 0 0 0 (by omega) _ (fun r l => keep_val 0 0
    (tileRun.sl.v90 (F := Ideal) c i arg1 harg1 arg2 harg2 arg11 hc2 x0 x1) x2 xs0 (tileRun.sl.H13_2 (F := Ideal) c i arg1 harg1 arg2 harg2 arg3 harg3 arg10 harg10 arg11 arg12 hc2 x0 x1 x2 xs0) (fun y hy => slab_0 (hc2 := hc2) (hy := hy) ..) r l) _ y fun n0 => ?_
  omega

/-- What the block's modulated rows are. -/
def hB (x : Vec Ideal S1x512x1024 .f32) (m : Vec Ideal S8x3072 .f32) (n : Fin 8) : Vec Ideal S512x1024 .bf16 :=
  fun y => x (ix3 0 (y 0) (y 1)) * (1 + m (ix2 n ⟨1024 + (y 1).val, by have : (y 1).val < 1024 := (y 1).isLt; omega⟩))
    + m (ix2 n ⟨(y 1).val, by have : (y 1).val < 1024 := (y 1).isLt; omega⟩)

/-- A load of one row of the modulations reads that row. -/
theorem mod_read (hc2 : k0_cond3 i = 1#1) (n : Fin 8) (hn0 : k0_off1 i 0 = n.val) (hn1 : k0_off1 i 1 = 0) {inb} (t : Fin 3072) :
    View.readAt (Elt Ideal) arg2.view (Rect.unit (s := S8x3072) (k0_off1 i) S1x3072.size inb).toLoadRect (harg2.unread x1) (ix2 (n0 := 1) 0 t)
      = x1 (ix2 n t) := by
  refine read_at harg2 x1 _ _ fun a => ?_
  match a with
  | 0 => show n.val = k0_off1 i 0 + 0; omega
  | 1 => show t.val = k0_off1 i 1 + t.val; omega

theorem h_val (n : Fin 8) (hn0 : k0_off1 i 0 = n.val) (hn1 : k0_off1 i 1 = 0) : (tileRun.sl.v90 (F := Ideal) c i arg1 harg1 arg2 harg2 arg11 hc2 x0 x1) = hB x0 x1 n := by
  funext y
  obtain ⟨r, k, rfl⟩ : ∃ (r : Fin 512) (k : Fin 1024), y = ix2 r k := ⟨y 0, y 1, (ix2_eta y).symm⟩
  have e : (tileRun.sl.v90 (F := Ideal) c i arg1 harg1 arg2 harg2 arg11 hc2 x0 x1) = k0_pay10 (tileRun.sl.r_1 (F := Ideal) c i arg1 harg1 arg2 harg2 hc2 x0 x1) := View.readCov_cons_toLoadRect _ _ _ _
  rw [e]
  refine (hpay_apply _ _ r k).trans ?_
  rw [mod_read i arg2 harg2 x1 hc2 n hn0 hn1, mod_read i arg2 harg2 x1 hc2 n hn0 hn1]
  refine congrArg (· * _ + _) (read_at harg1 x0 _ (ix3 0 r k) fun a => ?_)
  match a with
  | 0 => rfl
  | 1 => show r.val = 0 + r.val; omega
  | 2 => show k.val = 0 + k.val; omega

/-- What a tile leaves to the next block. -/
def tileC (x : Vec Ideal S1x512x1024 .f32) (m : Vec Ideal S8x3072 .f32) (w : Vec Ideal S1024x3072 .bf16) (cy : Vec Ideal S4x2x8x128 .f32)
    (n : Fin 8) : Vec Ideal S4x2x8x128 .f32 :=
  fun y => extS (hB x m n) w cy (512 + (y 2).val) (128 * (2 * (y 0).val + (y 1).val) + (y 3).val)

/-- What a tile leaves pending: the block before its normalization. -/
def tileP (x : Vec Ideal S1x512x1024 .f32) (m : Vec Ideal S8x3072 .f32) (w : Vec Ideal S1024x3072 .bf16) (cw : Vec Ideal S3x1024 .f32)
    (wo : Vec Ideal S1024x1024 .bf16) (cy : Vec Ideal S4x2x8x128 .f32) (n : Fin 8) : Vec Ideal S512x1024 .f32 :=
  fun y => Ideal.ofBits FTy.f32 1068827891#32 * x (ix3 0 (y 0) (y 1))
    + m (ix2 n ⟨2048 + (y 1).val, by have : (y 1).val < 1024 := (y 1).isLt; omega⟩)
      * ∑ k : Fin 1024, actS (hB x m n) w cw cy (y 0).val k.val * wo (ix2 k (y 1))

theorem carry_val (n : Fin 8) (hn0 : k0_off1 i 0 = n.val) (hn1 : k0_off1 i 1 = 0) :
    View.canon (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).2.1 = tileC x0 x1 x2 xs0 n := by
  funext y
  rw [keep_all, h_val (n := n) (hn0 := hn0) (hn1 := hn1)]
  rfl

theorem pre_val (n : Fin 8) (hn0 : k0_off1 i 0 = n.val) (hn1 : k0_off1 i 1 = 0) :
    View.canon (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).2.2.1 = tileP x0 x1 x2 x3 x4 xs0 n := by
  funext y
  obtain ⟨r, j, rfl⟩ : ∃ (r : Fin 512) (k : Fin 1024), y = ix2 r k := ⟨y 0, y 1, (ix2_eta y).symm⟩
  unfold tileRun
  dsimp only
  rw [View.canon_cons_unit_lit (S := S512x1024) _ _ _ (fun a => by match a with | 0 => rfl | 1 => rfl)]
  have e : (tileRun.sl.v573 (F := Ideal) c i arg1 harg1 arg2 harg2 arg3 harg3 arg4 harg4 arg5 harg5 arg10 harg10 arg11 arg12 arg13 arg14 arg15 hc2 x0 x1 x2 x3 x4 xs0) = k0_pay72 (tileRun.sl.v562 (F := Ideal) c i arg1 harg1 arg2 harg2 arg3 harg3 arg4 harg4 arg10 harg10 arg11 arg12 arg13 arg14 hc2 x0 x1 x2 x3 xs0) (View.readAt (Elt Ideal) arg5.view (Rect.unit (s := S1024x1024) ![0, 0] S1024x1024.size inb_S1024x1024_S1024x1024_0_0).toLoadRect (harg5.unread x4)) :=
    View.readCov_cons_toLoadRect _ _ _ _
  rw [e]
  refine (prepay_apply _ _ _ _ r j).trans ?_
  rw [mod_read i arg2 harg2 x1 hc2 n hn0 hn1]
  refine congr (congrArg HAdd.hAdd (congrArg (_ * ·) (read_at harg1 x0 _ (ix3 0 r j) fun a => ?_))) (congrArg (_ * ·) (Finset.sum_congr rfl fun k _ => ?_))
  · match a with
    | 0 => rfl
    | 1 => show r.val = 0 + r.val; omega
    | 2 => show j.val = 0 + j.val; omega
  · refine congr (congrArg HMul.hMul ?_) (read_at harg5 x4 _ (ix2 k j) fun a => ?_)
    · have e1 : (tileRun.sl.v562 (F := Ideal) c i arg1 harg1 arg2 harg2 arg3 harg3 arg4 harg4 arg10 harg10 arg11 arg12 arg13 arg14 hc2 x0 x1 x2 x3 xs0) (ix3 (n0 := 1) 0 r k) = View.canon (tileRun.sl.H14_8 (F := Ideal) c i arg1 harg1 arg2 harg2 arg3 harg3 arg4 harg4 arg10 harg10 arg11 arg12 arg13 hc2 x0 x1 x2 x3 xs0) (ix3 (n0 := 2) 0 r k) := by
        unfold tileRun.sl.v562
        rw [View.readCov_eq_canon']
        show View.canon _ _ = View.canon _ _
        congr 1
        funext a
        apply Fin.ext
        refine (LoadRect.idx_apply _ _ a).trans ?_
        match a with
        | 0 => rfl
        | 1 => show 0 + 1 * r.val = r.val; omega
        | 2 => show 0 + 1 * k.val = k.val; omega
      refine e1.trans ((act_val_all (hy := rfl) ..).trans ?_)
      rw [h_val (n := n) (hn0 := hn0) (hn1 := hn1)]
      rfl
    · match a with
      | 0 => show k.val = 0 + k.val; omega
      | 1 => show j.val = 0 + j.val; omega

end Cert.SConv
-- ==== Proof.SConv.Body.lean ====
module

public import proofs.«01_k».proof.Proof.SConv.Value
public import Idealize.ShloMosaic.Lib.Ring

/-! # The body of the short convolution on whole buffers, whatever the grid point

What the resets, the tile, the saving and the last normalization leave, each buffer at named contents. -/

@[expose] public section

set_option maxRecDepth 16384

noncomputable section

namespace Cert.SConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The grid's first point, in the body's words. -/
abbrev runStart (i : grid0.Coords) : Prop := (Scalar.cmpi .ne (Scalar.extui (Scalar.cmpi .eq (BitVec.ofNat 32 (i 0).val) 0#32)) 0#32) = 1#1
/-- The first tile of a sequence, in the body's words. -/
abbrev seqStart (i : grid0.Coords) : Prop := (Scalar.cmpi .ne (Scalar.extui (Scalar.andi (Scalar.cmpi .slt (BitVec.ofNat 32 (i 0).val) 32#32) (Scalar.cmpi .eq (Scalar.select (Scalar.andi (Scalar.xori (Scalar.cmpi .slt (Scalar.remsi (Scalar.minsi (BitVec.ofNat 32 (i 0).val) 31#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.minsi (BitVec.ofNat 32 (i 0).val) 31#32) (Scalar.select (Scalar.cmpi .eq 4#32 0#32) 1#32 4#32)) 0#32)) (Scalar.addi (Scalar.remsi (Scalar.minsi (BitVec.ofNat 32 (i 0).val) 31#32) (Scalar.select (Scalar.cmpi .eq 4#32 0#32) 1#32 4#32)) (Scalar.select (Scalar.cmpi .eq 4#32 0#32) 1#32 4#32)) (Scalar.remsi (Scalar.minsi (BitVec.ofNat 32 (i 0).val) 31#32) (Scalar.select (Scalar.cmpi .eq 4#32 0#32) 1#32 4#32))) 0#32))) 0#32) = 1#1

/-- The pending block before the first tile. -/
abbrev pre0 : Vec Ideal S512x1024 .f32 := k0_pay79 (F := Ideal)
/-- The carry before the first tile of a sequence. -/
abbrev cy0 : Vec Ideal S4x2x8x128 .f32 := k0_pay80 (F := Ideal)

/-- The saved rows: the last two of the carry. -/
def saveV (cy : Vec Ideal S4x2x8x128 .f32) : Vec Ideal S1x2x1024 .f32 :=
  fun y => cy (ix4 (Fin.ofNat 4 ((y 2).val / 256)) (Fin.ofNat 2 ((y 2).val / 128)) (Fin.ofNat 8 (6 + (y 1).val)) (Fin.ofNat 128 (y 2).val))

/-- A stored pair of rows, entry by entry. -/
theorem save_step (cy : Vec Ideal S4x2x8x128 .f32) (k oc : ℕ) (hoc : oc = 128 * k)
    {inb : ∀ a, (![0, 0, oc] : Fin 3 → ℕ) a + S1x2x128.size a ≤ S1x2x1024.size a}
    (v : (Rect.unit (s := S1x2x1024) ![0, 0, oc] S1x2x128.size inb).shape.Idx → Elt Ideal .f32)
    (hv : ∀ (r : Fin 2) (l : Fin 128), v (ix3 (n0 := 1) 0 r l) = cy (ix4 (Fin.ofNat 4 (k / 2)) (Fin.ofNat 2 k) (Fin.ofNat 8 (6 + r.val)) l))
    (L : List (View.Piece (Elt Ideal) S1x2x1024 .f32)) (y : S1x2x1024.Idx)
    (hL : ¬((y 2).val / 128 = k) → View.canon L y = saveV cy y) :
    View.canon (⟨Rect.unit (s := S1x2x1024) ![0, 0, oc] S1x2x128.size inb, v⟩ :: L) y = saveV cy y := by
  by_cases hk : (y 2).val / 128 = k
  · let x : (Rect.unit (s := S1x2x1024) ![0, 0, oc] S1x2x128.size inb).shape.Idx :=
      ix3 (n0 := 1) 0 (y 1) (⟨(y 2).val % 128, by omega⟩ : Fin 128)
    have hx := View.canon_cons_emb (Val := Elt Ideal) (Rect.unit (s := S1x2x1024) ![0, 0, oc] S1x2x128.size inb) v L x
    have hyx : y = (Rect.unit (s := S1x2x1024) ![0, 0, oc] S1x2x128.size inb).emb x := by
      funext a
      apply Fin.ext
      refine Eq.trans ?_ (Rect.emb_apply (Rect.unit (s := S1x2x1024) ![0, 0, oc] S1x2x128.size inb) x a).symm
      have h0 : (y 0).val < 1 := (y 0).isLt
      match a with
      | 0 => show (y 0).val = 0 + 1 * 0; omega
      | 1 => show (y 1).val = 0 + 1 * (y 1).val; omega
      | 2 => show (y 2).val = oc + 1 * ((y 2).val % 128); omega
    refine ((congrArg _ hyx).trans hx).trans ((hv (y 1) ⟨(y 2).val % 128, by omega⟩).trans ?_)
    unfold saveV
    refine congrArg cy ?_
    funext a
    apply Fin.ext
    match a with
    | 0 => show k / 2 % 4 = (y 2).val / 256 % 4; omega
    | 1 => show k % 2 = (y 2).val / 128 % 2; omega
    | 2 => rfl
    | 3 => rfl
  · rw [View.canon_cons_of_not_mem, hL hk]
    intro hm
    rw [LoadRect.mem_set] at hm
    obtain ⟨j2, hj2, e2⟩ := hm 2
    change j2 < 128 at hj2
    change (y 2).val = oc + 1 * j2 at e2
    omega

theorem srow_apply (v : Vec Ideal S1x1x2x128 .f32) (r : Fin 2) (l : Fin 128) :
    k0_pay74 v (ix3 (n0 := 1) 0 r l) = v (ix4 (n0 := 1) (n1 := 1) 0 0 r l) := by
  pointwise [k0_pay74]

/-- A load of two carried rows reads them. -/
theorem row_read {a : Memref sig .tc .vmem S4x2x8x128 .f32} (ha : a.IsWhole) (cy : Vec Ideal S4x2x8x128 .f32) (p q : ℕ) (hp : p < 4) (hq : q < 2)
    {inb} (r : Fin 2) (l : Fin 128) :
    View.readAt (Elt Ideal) a.view (Rect.unit (s := S4x2x8x128) ![p, q, 6, 0] S1x1x2x128.size inb).toLoadRect (ha.unread cy) (ix4 (n0 := 1) (n1 := 1) 0 0 r l)
      = cy (ix4 (Fin.ofNat 4 p) (Fin.ofNat 2 q) (Fin.ofNat 8 (6 + r.val)) l) := by
  refine read_at ha cy _ _ fun b => ?_
  match b with
  | 0 => show p % 4 = p + 0; omega
  | 1 => show q % 2 = q + 0; omega
  | 2 => show (6 + r.val) % 8 = 6 + r.val; omega
  | 3 => exact (Nat.zero_add _).symm

variable {c : Dev nD} {i : grid0.Coords}
  {arg1 : Memref sig .tc .vmem S1x512x1024 .f32} (harg1 : arg1.IsWhole)
  {arg2 : Memref sig .tc .vmem S8x3072 .f32} (harg2 : arg2.IsWhole)
  {arg3 : Memref sig .tc .vmem S1024x3072 .bf16} (harg3 : arg3.IsWhole)
  {arg4 : Memref sig .tc .vmem S3x1024 .f32} (harg4 : arg4.IsWhole)
  {arg5 : Memref sig .tc .vmem S1024x1024 .bf16} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S1x512x1024 .f32} (harg8 : arg8.IsWhole)
  {arg9 : Memref sig .tc .vmem S1x2x1024 .f32} (harg9 : arg9.IsWhole)
  {arg10 : Memref sig .tc .vmem S4x2x8x128 .f32} (harg10 : arg10.IsWhole)
  {arg11 : Memref sig .tc .vmem S512x1024 .bf16} (harg11 : arg11.IsWhole)
  {arg12 : Memref sig .tc .vmem S2x3x512x256 .f32} (harg12 : arg12.IsWhole)
  {arg13 : Memref sig .tc .vmem S2x520x128 .f32} (harg13 : arg13.IsWhole)
  {arg14 : Memref sig .tc .vmem S2x512x1024 .bf16} (harg14 : arg14.IsWhole)
  {arg15 : Memref sig .tc .vmem S512x1024 .f32} (harg15 : arg15.IsWhole)
  {arg16 : Memref sig .tc .vmem S512x1024 .f32} (harg16 : arg16.IsWhole)

theorem save_val (xs0 : Vec Ideal S4x2x8x128 .f32) :
    View.canon (saveRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xs0).1 = saveV xs0 := by
  funext y
  have h2 : (y 2).val < 1024 := (y 2).isLt
  unfold saveRun
  dsimp only
  refine save_step xs0 7 896 (by omega) _ (fun r l => (srow_apply _ r l).trans (row_read harg10 xs0 3 1 (by omega) (by omega) r l)) _ y fun n7 => ?_
  refine save_step xs0 6 768 (by omega) _ (fun r l => (srow_apply _ r l).trans (row_read harg10 xs0 3 0 (by omega) (by omega) r l)) _ y fun n6 => ?_
  refine save_step xs0 5 640 (by omega) _ (fun r l => (srow_apply _ r l).trans (row_read harg10 xs0 2 1 (by omega) (by omega) r l)) _ y fun n5 => ?_
  refine save_step xs0 4 512 (by omega) _ (fun r l => (srow_apply _ r l).trans (row_read harg10 xs0 2 0 (by omega) (by omega) r l)) _ y fun n4 => ?_
  refine save_step xs0 3 384 (by omega) _ (fun r l => (srow_apply _ r l).trans (row_read harg10 xs0 1 1 (by omega) (by omega) r l)) _ y fun n3 => ?_
  refine save_step xs0 2 256 (by omega) _ (fun r l => (srow_apply _ r l).trans (row_read harg10 xs0 1 0 (by omega) (by omega) r l)) _ y fun n2 => ?_
  refine save_step xs0 1 128 (by omega) _ (fun r l => (srow_apply _ r l).trans (row_read harg10 xs0 0 1 (by omega) (by omega) r l)) _ y fun n1 => ?_
  refine save_step xs0 0 0 (by omega) _ (fun r l => (srow_apply _ r l).trans (row_read harg10 xs0 0 0 (by omega) (by omega) r l)) _ y fun n0 => ?_
  omega

set_option maxHeartbeats 1796000 in
open Classical in
/-- The resets, on whole buffers. -/
theorem resets (E : Set ℕ) (K : (Σ' (arg0 : BitVec 32) (v17 : BitVec 32) (v27 : BitVec 32), BitVec 1) → sProp 𝕄)
    (xs0 : Vec Ideal S4x2x8x128 .f32) (xs6 : Vec Ideal S512x1024 .f32) :
    iprop(owns (c : Thread nD τ) arg10 fullShare xs0 ∗ owns (c : Thread nD τ) arg16 fullShare xs6
        ∗ (∀ r, iprop(owns (c : Thread nD τ) arg10 fullShare (if seqStart i then cy0 else xs0) ∗ owns (c : Thread nD τ) arg16 fullShare (if runStart i then pre0 else xs6)) -∗ K r))
      ⊢ wp frame (wpE (defs₀ (F := Ideal)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h0 : runStart i <;> by_cases h1 : seqStart i
  all_goals
    first | rw [if_pos h0] | rw [if_neg h0]
    first | rw [if_pos h1] | rw [if_neg h1]
    simp only [k0_part21_eq_skeleton]
    unfold k0_part21_skel owns
    iintro ⟨⟨%f10, %hf10, H10⟩, ⟨%f16, %hf16, H16⟩, Hk⟩
    obtain rfl := harg10.eq_unread hf10
    obtain rfl := harg16.eq_unread hf16
    sl_exec (disch := first | sl_exact h0 | sl_exact h1)
    sl_step
    ispecialize Hk $$ %_
    iapply Hk
    isplitl [H10]
    · iexists _; isplitr; swap; · iexact H10
      ipureintro
      first
        | exact harg10.read_unread _
        | exact (View.read_writes_eq_canon _ _ _ (View.cover_of_tiledL _ S4x2x8x128.size (by sl_kernel_rfl))).trans
            (View.canon_cons_unit_lit (S := S4x2x8x128) (off := ![0, 0, 0, 0]) _ _ _ (fun a => by match a with | 0 => rfl | 1 => rfl | 2 => rfl | 3 => rfl))
    · iexists _; isplitr; swap; · iexact H16
      ipureintro
      first
        | exact harg16.read_unread _
        | exact (View.read_writes_eq_canon _ _ _ (View.cover_of_tiledL _ S512x1024.size (by sl_kernel_rfl))).trans
            (View.canon_cons_unit_lit (S := S512x1024) (off := ![0, 0]) _ _ _ (fun a => by match a with | 0 => rfl | 1 => rfl))

/-- A piece list kept as contents. -/
theorem owns_of_pieces {sp : Space} {S : Shape} {e : EltTy} (c : Dev nD) (a : Memref sig .tc sp S e) (L : List (View.Piece (Elt Ideal) S e))
    (x : Vec Ideal S e) (hc : ∀ y, ∃ p ∈ L, y ∈ p.1.set) (hx : View.canon L = x) :
    (iprop(∃ f, a.view.loc (c : Thread nD τ) ↦[a.view.set]{fullShare} a.view.writes (Elt Ideal) f L) : sProp 𝕄)
      ⊢ owns (c : Thread nD τ) a fullShare x := by
  unfold owns
  iintro ⟨%f, H⟩
  iexists _
  isplitr; swap; · iexact H
  ipureintro
  exact (View.read_writes_eq_canon _ _ _ hc).trans hx

set_option maxHeartbeats 1796000 in
/-- The tile, on whole buffers. -/
theorem tile_run (E : Set ℕ) (K : PUnit → sProp 𝕄) (v17 : BitVec 32) (hc2 : k0_cond3 i = 1#1)
    (n : Fin 8) (hn0 : k0_off1 i 0 = n.val) (hn1 : k0_off1 i 1 = 0)
    (x0 : Vec Ideal S1x512x1024 .f32) (x1 : Vec Ideal S8x3072 .f32) (x2 : Vec Ideal S1024x3072 .bf16)
    (x3 : Vec Ideal S3x1024 .f32) (x4 : Vec Ideal S1024x1024 .bf16) (x5 x6 : Vec Ideal S1x1024 .f32) (xs0 : Vec Ideal S4x2x8x128 .f32)
    (xs6 : Vec Ideal S512x1024 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 xs6 x5 x6) ∗ owns (c : Thread nD τ) arg10 fullShare (tileC x0 x1 x2 xs0 n) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (tileP x0 x1 x2 x3 x4 xs0 n)) -∗ K ⟨⟩))
      ⊢ wp frame (wpE (defs₀ (F := Ideal)) Variants.none c none) E (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2) K := by
  have hO := owns_of_pieces c arg8 (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).1 (k0_pay6 xs6 x5 x6)
    (View.cover_of_tiledL _ S1x512x1024.size (by sl_kernel_rfl)) (by
      unfold tileRun
      dsimp only
      rw [View.canon_cons_unit_lit (S := S1x512x1024) _ _ _ (fun a => by match a with | 0 => rfl | 1 => rfl | 2 => rfl)]
      have e16 : View.readAt (Elt Ideal) arg16.view (Rect.unit (s := S512x1024) ![0, 0] S512x1024.size inb_S512x1024_S512x1024_0_0).toLoadRect (harg16.unread xs6) = xs6 :=
        funext fun j => read_at harg16 xs6 j j fun a => by match a with | 0 => exact (Nat.zero_add _).symm | 1 => exact (Nat.zero_add _).symm
      have e6 : View.readAt (Elt Ideal) arg6.view (Rect.unit (s := S1x1024) ![0, 0] S1x1024.size inb_S1x1024_S1x1024_0_0).toLoadRect (harg6.unread x5) = x5 :=
        funext fun j => read_at harg6 x5 j j fun a => by match a with | 0 => exact (Nat.zero_add _).symm | 1 => exact (Nat.zero_add _).symm
      have e7 : View.readAt (Elt Ideal) arg7.view (Rect.unit (s := S1x1024) ![0, 0] S1x1024.size inb_S1x1024_S1x1024_0_0).toLoadRect (harg7.unread x6) = x6 :=
        funext fun j => read_at harg7 x6 j j fun a => by match a with | 0 => exact (Nat.zero_add _).symm | 1 => exact (Nat.zero_add _).symm
      rw [e16, e6, e7]
      rfl)
  have hC := owns_of_pieces c arg10 (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).2.1 (tileC x0 x1 x2 xs0 n)
    (View.cover_of_tiledL _ S1x1x8x128.size (by sl_kernel_rfl)) (carry_val (hn0 := hn0) (hn1 := hn1) ..)
  have hP := owns_of_pieces c arg16 (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).2.2.1 (tileP x0 x1 x2 x3 x4 xs0 n)
    (View.cover_of_tiledL _ S512x1024.size (by sl_kernel_rfl)) (pre_val (hn0 := hn0) (hn1 := hn1) ..)
  iintro ⟨H1, H2, H3, H4, H5, H6, H7, H8, H10, H11, H12, H13, H14, H15, H16, Hk⟩
  iapply ((tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 xs0 xs6).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H10, H11, H12, H13, H14, H15, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply hO; iexact H8
  isplitl [H10]; · iapply hC; iexact H10
  isplitl [H11]; · iexact H11
  isplitl [H12]; · iexact H12
  isplitl [H13]; · iexact H13
  isplitl [H14]; · iexact H14
  isplitl [H15]; · iexact H15
  iapply hP; iexact H16

set_option maxHeartbeats 1796000 in
/-- The saving, on whole buffers. -/
theorem save_run (E : Set ℕ) (K : PUnit → sProp 𝕄) (xs0 : Vec Ideal S4x2x8x128 .f32) :
    iprop((∃ d, owns (c : Thread nD τ) arg9 fullShare d) ∗ owns (c : Thread nD τ) arg10 fullShare xs0
        ∗ (iprop(owns (c : Thread nD τ) arg9 fullShare (saveV xs0) ∗ owns (c : Thread nD τ) arg10 fullShare xs0) -∗ K ⟨⟩))
      ⊢ wp frame (wpE (defs₀ (F := Ideal)) Variants.none c none) E (saveProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hO := owns_of_pieces c arg9 (saveRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xs0).1 (saveV xs0)
    (View.cover_of_tiledL _ S1x2x128.size (by sl_kernel_rfl)) (save_val ..)
  iintro ⟨H9, H10, Hk⟩
  iapply ((saveRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xs0).2 E K)
  isplitl [H9]; · iexact H9
  isplitl [H10]; · iexact H10
  iintro ⟨H9, H10⟩
  iapply Hk
  isplitl [H9]; · iapply hO; iexact H9
  iexact H10

set_option maxHeartbeats 1796000 in
/-- The last normalization, on whole buffers. -/
theorem fin_run (E : Set ℕ) (K : PUnit → sProp 𝕄) (x5 x6 : Vec Ideal S1x1024 .f32) (xs6 : Vec Ideal S512x1024 .f32) :
    iprop(owns (c : Thread nD τ) arg6 fullShare x5 ∗ owns (c : Thread nD τ) arg7 fullShare x6 ∗ (∃ d, owns (c : Thread nD τ) arg8 fullShare d) ∗ owns (c : Thread nD τ) arg16 fullShare xs6
        ∗ (iprop(owns (c : Thread nD τ) arg6 fullShare x5 ∗ owns (c : Thread nD τ) arg7 fullShare x6 ∗ owns (c : Thread nD τ) arg8 fullShare (k0_pay6 xs6 x5 x6) ∗ owns (c : Thread nD τ) arg16 fullShare xs6) -∗ K ⟨⟩))
      ⊢ wp frame (wpE (defs₀ (F := Ideal)) Variants.none c none) E (finProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hO := owns_of_pieces c arg8 (finRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x5 x6 xs6).1 (k0_pay6 xs6 x5 x6)
    (View.cover_of_tiledL _ S1x512x1024.size (by sl_kernel_rfl)) (by
      unfold finRun
      dsimp only
      rw [View.canon_cons_unit_lit (S := S1x512x1024) _ _ _ (fun a => by match a with | 0 => rfl | 1 => rfl | 2 => rfl)]
      have e16 : View.readAt (Elt Ideal) arg16.view (Rect.unit (s := S512x1024) ![0, 0] S512x1024.size inb_S512x1024_S512x1024_0_0).toLoadRect (harg16.unread xs6) = xs6 :=
        funext fun j => read_at harg16 xs6 j j fun a => by match a with | 0 => exact (Nat.zero_add _).symm | 1 => exact (Nat.zero_add _).symm
      have e6 : View.readAt (Elt Ideal) arg6.view (Rect.unit (s := S1x1024) ![0, 0] S1x1024.size inb_S1x1024_S1x1024_0_0).toLoadRect (harg6.unread x5) = x5 :=
        funext fun j => read_at harg6 x5 j j fun a => by match a with | 0 => exact (Nat.zero_add _).symm | 1 => exact (Nat.zero_add _).symm
      have e7 : View.readAt (Elt Ideal) arg7.view (Rect.unit (s := S1x1024) ![0, 0] S1x1024.size inb_S1x1024_S1x1024_0_0).toLoadRect (harg7.unread x6) = x6 :=
        funext fun j => read_at harg7 x6 j j fun a => by match a with | 0 => exact (Nat.zero_add _).symm | 1 => exact (Nat.zero_add _).symm
      rw [e16, e6, e7])
  iintro ⟨H6, H7, H8, H16, Hk⟩
  iapply ((finRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x5 x6 xs6).2 E K)
  isplitl [H6]; · iexact H6
  isplitl [H7]; · iexact H7
  isplitl [H8]; · iexact H8
  isplitl [H16]; · iexact H16
  iintro ⟨H6, H7, H8, H16⟩
  iapply Hk
  isplitl [H6]; · iexact H6
  isplitl [H7]; · iexact H7
  isplitl [H8]; · iapply hO; iexact H8
  iexact H16

end Cert.SConv
-- ==== Proof.SConv.Whole.lean ====
module

public import proofs.«01_k».proof.Proof.SConv.Body

/-! # The body at a tile and at the last point, its parts put together -/

@[expose] public section

set_option maxRecDepth 16384

noncomputable section

namespace Cert.SConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {c : Dev nD} {i : grid0.Coords}
  {arg1 : Memref sig .tc .vmem S1x512x1024 .f32} (harg1 : arg1.IsWhole)
  {arg2 : Memref sig .tc .vmem S8x3072 .f32} (harg2 : arg2.IsWhole)
  {arg3 : Memref sig .tc .vmem S1024x3072 .bf16} (harg3 : arg3.IsWhole)
  {arg4 : Memref sig .tc .vmem S3x1024 .f32} (harg4 : arg4.IsWhole)
  {arg5 : Memref sig .tc .vmem S1024x1024 .bf16} (harg5 : arg5.IsWhole)
  {arg6 : Memref sig .tc .vmem S1x1024 .f32} (harg6 : arg6.IsWhole)
  {arg7 : Memref sig .tc .vmem S1x1024 .f32} (harg7 : arg7.IsWhole)
  {arg8 : Memref sig .tc .vmem S1x512x1024 .f32} (harg8 : arg8.IsWhole)
  {arg9 : Memref sig .tc .vmem S1x2x1024 .f32} (harg9 : arg9.IsWhole)
  {arg10 : Memref sig .tc .vmem S4x2x8x128 .f32} (harg10 : arg10.IsWhole)
  {arg11 : Memref sig .tc .vmem S512x1024 .bf16} (harg11 : arg11.IsWhole)
  {arg12 : Memref sig .tc .vmem S2x3x512x256 .f32} (harg12 : arg12.IsWhole)
  {arg13 : Memref sig .tc .vmem S2x520x128 .f32} (harg13 : arg13.IsWhole)
  {arg14 : Memref sig .tc .vmem S2x512x1024 .bf16} (harg14 : arg14.IsWhole)
  {arg15 : Memref sig .tc .vmem S512x1024 .f32} (harg15 : arg15.IsWhole)
  {arg16 : Memref sig .tc .vmem S512x1024 .f32} (harg16 : arg16.IsWhole)

open Classical in
set_option maxHeartbeats 1000000 in
/-- The body at a point that has a tile. -/
theorem whole_tile (E : Set ℕ) (K : PUnit → sProp 𝕄) (hc2 : k0_cond3 i = 1#1) (hc4 : ¬k0_cond5 i = 1#1)
    (n : Fin 8) (hn0 : k0_off1 i 0 = n.val) (hn1 : k0_off1 i 1 = 0)
    (x0 : Vec Ideal S1x512x1024 .f32) (x1 : Vec Ideal S8x3072 .f32) (x2 : Vec Ideal S1024x3072 .bf16)
    (x3 : Vec Ideal S3x1024 .f32) (x4 : Vec Ideal S1024x1024 .bf16) (x5 x6 : Vec Ideal S1x1024 .f32) (xv : Vec Ideal S1x2x1024 .f32)
    (xs0 : Vec Ideal S4x2x8x128 .f32) (xs6 : Vec Ideal S512x1024 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xv ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 (if runStart i then pre0 else xs6) x5 x6)
            ∗ owns (c : Thread nD τ) arg9 fullShare (if k0_cond4 i = 1#1 then saveV (tileC x0 x1 x2 (if seqStart i then cy0 else xs0) n) else xv)
            ∗ owns (c : Thread nD τ) arg10 fullShare (tileC x0 x1 x2 (if seqStart i then cy0 else xs0) n) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (tileP x0 x1 x2 x3 x4 (if seqStart i then cy0 else xs0) n)) -∗ K ⟨⟩))
      ⊢ wp frame (wpE (defs₀ (F := Ideal)) Variants.none c none) E (cc0_short_conv (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind]
  iintro ⟨H1, H2, H3, H4, H5, H6, H7, H8, H9, H10, H11, H12, H13, H14, H15, H16, Hk⟩
  iapply (resets (c := c) (i := i) harg1 harg2 harg3 harg4 harg5 harg6 harg7 harg8 harg9 harg10 harg11 harg12 harg13 harg14 harg15 harg16 E _ _ _)
  isplitl [H10]; · iexact H10
  isplitl [H16]; · iexact H16
  iintro %r ⟨H10, H16⟩
  obtain ⟨a0, v17, v27, v36⟩ := r
  dsimp only
  rw [dif_pos hc2, wp_bind]
  iapply (tile_run (c := c) harg1 harg2 harg3 harg4 harg5 harg6 harg7 harg8 harg9 harg10 harg11 harg12 harg13 harg14 harg15 harg16 E _ v17 hc2 n hn0 hn1 x0 x1 x2 x3 x4 x5 x6 _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H10, H11, H12, H13, H14, H15, H16⟩
  rw [dif_neg hc4]
  by_cases hc3 : k0_cond4 i = 1#1
  · rw [dif_pos hc3, if_pos hc3, wp_bind]
    iapply (save_run (c := c) (i := i) harg1 harg2 harg3 harg4 harg5 harg6 harg7 harg8 harg9 harg10 harg11 harg12 harg13 harg14 harg15 harg16 E _ _)
    isplitl [H9]; · iexists _; iexact H9
    isplitl [H10]; · iexact H10
    iintro ⟨H9, H10⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg hc3, if_neg hc3]
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 1000000 in
/-- The body at the last point. -/
theorem whole_last (E : Set ℕ) (K : PUnit → sProp 𝕄) (hc0 : ¬runStart i) (hc1 : ¬seqStart i) (hc2 : ¬k0_cond3 i = 1#1) (hc3 : ¬k0_cond4 i = 1#1)
    (hc4 : k0_cond5 i = 1#1) (x5 x6 : Vec Ideal S1x1024 .f32) (xs0 : Vec Ideal S4x2x8x128 .f32) (xs6 : Vec Ideal S512x1024 .f32) :
    iprop(owns (c : Thread nD τ) arg6 fullShare x5 ∗ owns (c : Thread nD τ) arg7 fullShare x6 ∗ (∃ d, owns (c : Thread nD τ) arg8 fullShare d) ∗ owns (c : Thread nD τ) arg10 fullShare xs0 ∗ owns (c : Thread nD τ) arg16 fullShare xs6
        ∗ (iprop(owns (c : Thread nD τ) arg6 fullShare x5 ∗ owns (c : Thread nD τ) arg7 fullShare x6 ∗ owns (c : Thread nD τ) arg8 fullShare (k0_pay6 xs6 x5 x6) ∗ owns (c : Thread nD τ) arg10 fullShare xs0 ∗ owns (c : Thread nD τ) arg16 fullShare xs6) -∗ K ⟨⟩))
      ⊢ wp frame (wpE (defs₀ (F := Ideal)) Variants.none c none) E (cc0_short_conv (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind]
  iintro ⟨H6, H7, H8, H10, H16, Hk⟩
  iapply (resets (c := c) (i := i) harg1 harg2 harg3 harg4 harg5 harg6 harg7 harg8 harg9 harg10 harg11 harg12 harg13 harg14 harg15 harg16 E _ _ _)
  isplitl [H10]; · iexact H10
  isplitl [H16]; · iexact H16
  rw [if_neg hc0, if_neg hc1]
  iintro %r ⟨H10, H16⟩
  obtain ⟨a0, v17, v27, v36⟩ := r
  dsimp only
  rw [dif_neg hc2, dif_neg hc3, dif_pos hc4]
  rw [wp_bind]
  iapply (fin_run (c := c) (i := i) harg1 harg2 harg3 harg4 harg5 harg6 harg7 harg8 harg9 harg10 harg11 harg12 harg13 harg14 harg15 harg16 E _ _ _ _)
  isplitl [H6]; · iexact H6
  isplitl [H7]; · iexact H7
  isplitl [H8]; · iexact H8
  isplitl [H16]; · iexact H16
  iintro ⟨H6, H7, H8, H16⟩
  sl_exec
  sl_step
  iapply Hk
  isplitl [H6]; · iexact H6
  isplitl [H7]; · iexact H7
  isplitl [H8]; · iexact H8
  isplitl [H10]; · iexact H10
  iexact H16

end Cert.SConv
-- ==== Proof.SConv.Cert.lean ====
module

public import proofs.«01_k».proof.Proof.SConv.Whole
public import proofs.«01_k».proof.Proof.Gen.KernelIdeal.Frame
public import Idealize.ShloMosaic.Lib.Claim

/-! # The short convolution's run: what every buffer holds after every grid point -/

@[expose] public section

set_option maxRecDepth 16384

noncomputable section

namespace Cert.SConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The grid's conditions -/

theorem runStart_iff : ∀ t : Fin cfg0.N, runStart (grid0.coords t) ↔ t.val = 0 :=
  (by decide +kernel : ∀ t : Fin grid0.N, runStart (grid0.coords t) ↔ t.val = 0)
theorem seqStart_iff : ∀ t : Fin cfg0.N, seqStart (grid0.coords t) ↔ (t.val % 4 = 0 ∧ t.val < 32) :=
  (by decide +kernel : ∀ t : Fin grid0.N, seqStart (grid0.coords t) ↔ (t.val % 4 = 0 ∧ t.val < 32))
theorem hasTile_iff : ∀ t : Fin cfg0.N, k0_cond3 (grid0.coords t) = 1#1 ↔ t.val < 32 :=
  (by decide +kernel : ∀ t : Fin grid0.N, k0_cond3 (grid0.coords t) = 1#1 ↔ t.val < 32)
theorem saves_iff : ∀ t : Fin cfg0.N, k0_cond4 (grid0.coords t) = 1#1 ↔ t.val % 4 = 3 :=
  (by decide +kernel : ∀ t : Fin grid0.N, k0_cond4 (grid0.coords t) = 1#1 ↔ t.val % 4 = 3)
theorem last_iff : ∀ t : Fin cfg0.N, k0_cond5 (grid0.coords t) = 1#1 ↔ t.val = 32 :=
  (by decide +kernel : ∀ t : Fin grid0.N, k0_cond5 (grid0.coords t) = 1#1 ↔ t.val = 32)
theorem modRow : ∀ t : Fin cfg0.N, t.val < 32 → (k0_off1 (grid0.coords t) 0 = t.val / 4 ∧ k0_off1 (grid0.coords t) 1 = 0) :=
  (by decide +kernel : ∀ t : Fin grid0.N, t.val < 32 → (k0_off1 (grid0.coords t) 0 = t.val / 4 ∧ k0_off1 (grid0.coords t) 1 = 0))
theorem live7 : ∀ t : Fin cfg0.N, cfg0.idle 7 (cfg0.grid.coords t) = false :=
  (by decide +kernel : ∀ t : Fin cfg0.N, cfg0.idle 7 (cfg0.grid.coords t) = false)
theorem live8 : ∀ t : Fin cfg0.N, t.val % 4 = 3 → cfg0.idle 8 (cfg0.grid.coords t) = false :=
  (by decide +kernel : ∀ t : Fin cfg0.N, t.val % 4 = 3 → cfg0.idle 8 (cfg0.grid.coords t) = false)
theorem idle8 : ∀ t : Fin cfg0.N, t.val % 4 ≠ 3 → cfg0.idle 8 (cfg0.grid.coords t) = true :=
  (by decide +kernel : ∀ t : Fin cfg0.N, t.val % 4 ≠ 3 → cfg0.idle 8 (cfg0.grid.coords t) = true)
theorem flush8 : ∀ t : Fin cfg0.N, t.val % 4 ≠ 3 → t.val < 32 → (cfg0.win 8).flush t = false :=
  (by decide +kernel : ∀ t : Fin cfg0.N, t.val % 4 ≠ 3 → t.val < 32 → (cfg0.win 8).flush t = false)
theorem noflush31 : ∀ t : Fin cfg0.N, t.val = 31 → (cfg0.win 8).flush t = false :=
  (by decide +kernel : ∀ t : Fin cfg0.N, t.val = 31 → (cfg0.win 8).flush t = false)
theorem flush32 : ∀ t : Fin cfg0.N, t.val = 32 → (cfg0.win 8).flush t = true :=
  (by decide +kernel : ∀ t : Fin cfg0.N, t.val = 32 → (cfg0.win 8).flush t = true)

/-! ## What the carried buffers hold -/

/-- The point of tile `n` (the last tile after it). -/
def pt (n : ℕ) : Fin cfg0.N := ⟨min n 31, lt_of_lt_of_eq (by omega : min n 31 < 33) (show 33 = cfg0.N from N_0.symm)⟩

theorem pt_self (t : Fin cfg0.N) (h : t.val < 32) : pt t.val = t := Fin.ext (by show min t.val 31 = t.val; omega)

/-- The sequence of tile `n`. -/
def sq (n : ℕ) : Fin 8 := Fin.ofNat 8 (min n 31 / 4)

/-- What tile `n` leaves to the next. -/
def cyA (c : Dev nD) (n : ℕ) : Vec Ideal S4x2x8x128 .f32 :=
  tileC (iblk m c 0 (pt n)) (iblk m c 1 (pt n)) (iblk m c 2 (pt n)) cy0 (sq n)
/-- What tile `n` finds in the carry. -/
def cyIn (c : Dev nD) (n : ℕ) : Vec Ideal S4x2x8x128 .f32 := if n % 4 = 0 then cy0 else cyA m c (n - 1)
/-- What tile `n` leaves pending. -/
def prA (c : Dev nD) (n : ℕ) : Vec Ideal S512x1024 .f32 :=
  tileP (iblk m c 0 (pt n)) (iblk m c 1 (pt n)) (iblk m c 2 (pt n)) (iblk m c 3 (pt n)) (iblk m c 4 (pt n)) (cyIn m c (min n 31)) (sq n)
/-- What point `n` finds pending. -/
def prIn (c : Dev nD) (n : ℕ) : Vec Ideal S512x1024 .f32 := if n = 0 then pre0 else prA m c (n - 1)

/-- The rows left to the next tile do not read the carry. -/
theorem tileC_indep (x : Vec Ideal S1x512x1024 .f32) (mo : Vec Ideal S8x3072 .f32) (w : Vec Ideal S1024x3072 .bf16) (cy cy' : Vec Ideal S4x2x8x128 .f32)
    (n : Fin 8) : tileC x mo w cy n = tileC x mo w cy' n := by
  funext y
  unfold tileC extS
  rw [if_neg (by omega), if_neg (by omega)]

theorem cyA_last (c : Dev nD) : cyA m c 32 = cyA m c 31 := rfl
theorem prA_last (c : Dev nD) : prA m c 32 = prA m c 31 := rfl

/-! The windows' current staging buffers and the scratch buffers, by name. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x1024 .f32 := win0_8.stage (cfg0.slots t 8)
abbrev hs0_8 (t : Fin cfg0.N) : (ms0_8 t).IsWhole := hstage0_8 ((cfg0.slots t 8).cast nbuf0_8)
abbrev scM0_0 : Memref sig .tc .vmem S4x2x8x128 .f32 := Memref.whole cc0_scratch0
abbrev scM0_1 : Memref sig .tc .vmem S512x1024 .bf16 := Memref.whole cc0_scratch1
abbrev scM0_2 : Memref sig .tc .vmem S2x3x512x256 .f32 := Memref.whole cc0_scratch2
abbrev scM0_3 : Memref sig .tc .vmem S2x520x128 .f32 := Memref.whole cc0_scratch3
abbrev scM0_4 : Memref sig .tc .vmem S2x512x1024 .bf16 := Memref.whole cc0_scratch4
abbrev scM0_5 : Memref sig .tc .vmem S512x1024 .f32 := Memref.whole cc0_scratch5
abbrev scM0_6 : Memref sig .tc .vmem S512x1024 .f32 := Memref.whole cc0_scratch6

/-- The scratch at anything, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The scratch and the generator before position `n`. -/
def PhiS (c : Dev nD) : (n : ℕ) → n ≤ cfg0.N → sProp 𝕄
  | 0, _ => Pipeline.ΦA spec0 c
  | n + 1, _ => iprop(iprop(owns (c : Thread nD τ) scM0_0 fullShare (cyA m c n) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (prA m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (cyA m c n) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (prA m c n)) ∗ (∃ r, prngReg c r)) := rfl

theorem PhiS_pos (c : Dev nD) (n : ℕ) (h : n ≤ cfg0.N) (hz : n ≠ 0) :
    PhiS m c n h = iprop(iprop(owns (c : Thread nD τ) scM0_0 fullShare (cyA m c (n - 1)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (prA m c (n - 1))) ∗ (∃ r, prngReg c r)) := by
  cases n with
  | zero => exact absurd rfl hz
  | succ n => rfl

/-- The proof data: each input's buffer at its block; the block window at the normalized pending block; the state
window at the carry's last rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay6 (prIn m c t.val) (iblk m c 5 t) (iblk m c 6 t)
    | ⟨8, _⟩ => saveV (cyA m c t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay6 (prIn m c t.val) (iblk m c 5 t) (iblk m c 6 t) := by dsimp only [dats]
theorem after0_8 (c : Dev nD) (t : Fin cfg0.N) : (dats m 0 c).after 8 t = saveV (cyA m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms0_7 t) fullShare (k0_pay6 (prIn m c t.val) (iblk m c 5 t) (iblk m c 6 t)) := by
  unfold Dat.leavesExact; rw [live7 t, after0_7]
theorem leaves0_8_live (c : Dev nD) (t : Fin cfg0.N) (h : t.val % 4 = 3) : (dats m 0 c).leavesExact 8 t = owns (c : Thread nD τ) (ms0_8 t) fullShare (saveV (cyA m c t.val)) := by
  unfold Dat.leavesExact; rw [live8 t h, after0_8]
theorem leaves0_8_last (c : Dev nD) (t : Fin cfg0.N) (h : t.val = 32) : (dats m 0 c).leavesExact 8 t = owns (c : Thread nD τ) (ms0_8 t) fullShare (saveV (cyA m c t.val)) := by
  unfold Dat.leavesExact; rw [idle8 t (by omega), flush32 t h, after0_8]

/-- At the last point the state window still holds the last sequence's rows. -/
theorem before0_8_last (c : Dev nD) (t : Fin cfg0.N) (h : t.val = 32) (d) : (dats m 0 c).before 8 t d = saveV (cyA m c t.val) := by
  rw [(dats m 0 c).before_of_pos 8 t (by omega) ((cfg0.win 8).fetch_out rfl t),
    noflush31 ⟨t.val - 1, Nat.lt_of_le_of_lt (Nat.sub_le _ _) t.isLt⟩ (by show t.val - 1 = 31; omega), if_neg Bool.false_ne_true]
  unfold Dat.left
  rw [live8 ⟨t.val - 1, Nat.lt_of_le_of_lt (Nat.sub_le _ _) t.isLt⟩ (by show (t.val - 1) % 4 = 3; omega)]
  show (dats m 0 c).kept 8 _ d = _
  unfold Dat.kept
  rw [Pipeline.fill_of_clip_none 8 _ (fun a => rfl) d ((dats m 0 c).after 8 _), Window.fill_cut, after0_8]
  show saveV (cyA m c (t.val - 1)) = _
  rw [h]
  rfl

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

open Classical in
/-- What a point finds in the carried buffers, once the resets are through. -/
theorem enter (c : Dev nD) (t : Fin cfg0.N) (ht : t.val < 32) : (dats m 0 c).Φ t.castSucc ⊢
    iprop(∃ xs0 xs6, ⌜(if seqStart (grid0.coords t) then cy0 else xs0) = cyIn m c t.val ∧ (if runStart (grid0.coords t) then pre0 else xs6) = prIn m c t.val⌝
      ∗ iprop(iprop(owns (c : Thread nD τ) scM0_0 fullShare xs0 ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare xs6) ∗ (∃ r, prngReg c r))) := by
  have hs := seqStart_iff t
  have hr := runStart_iff t
  by_cases hz : t.val = 0
  · rw [PhiS_castSucc m c t, PhiS_zero m c _ _ hz, PhiA0_eq]
    iintro ⟨⟨⟨%d0, HS0⟩, HS1, HS2, HS3, HS4, HS5, ⟨%d6, HS6⟩⟩, Hg⟩
    iexists d0, d6
    isplitr
    · ipureintro
      rw [if_pos (hs.mpr (by omega)), if_pos (hr.mpr hz), cyIn, prIn, hz]
      exact ⟨rfl, rfl⟩
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  · rw [PhiS_castSucc m c t, PhiS_pos m c _ _ hz]
    iintro H
    iexists cyA m c (t.val - 1), prA m c (t.val - 1)
    isplitr
    · ipureintro
      refine ⟨?_, ?_⟩
      · unfold cyIn
        by_cases h4 : t.val % 4 = 0
        · rw [if_pos (hs.mpr ⟨h4, ht⟩), if_pos h4]
        · rw [if_neg (fun h => h4 (hs.mp h).1), if_neg h4]
      · rw [if_neg (fun h => hz (hr.mp h)), prIn, if_neg hz]
    iexact H

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7]
  have hN : t.val < 33 := lt_of_lt_of_eq t.isLt (show cfg0.N = 33 from N_0)
  by_cases ht : t.val < 32
  · have hrow := modRow t ht
    have hsq : (sq t.val).val = t.val / 4 := by show min t.val 31 / 4 % 8 = t.val / 4; omega
    have hC : tileC (iblk m c 0 t) (iblk m c 1 t) (iblk m c 2 t) (cyIn m c t.val) (sq t.val) = cyA m c t.val := by
      rw [tileC_indep _ _ _ _ cy0, cyA, pt_self t ht]
    have hP : tileP (iblk m c 0 t) (iblk m c 1 t) (iblk m c 2 t) (iblk m c 3 t) (iblk m c 4 t) (cyIn m c t.val) (sq t.val) = prA m c t.val := by
      rw [prA, pt_self t ht, show min t.val 31 = t.val by omega]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := (enter m c t ht) $$ HΦ
    icases HΦ with ⟨%xs0, %xs6, %hx, ⟨HS0, HS1, HS2, HS3, HS4, HS5, HS6⟩, Hg⟩
    iapply (whole_tile (c := c) (i := grid0.coords t) (hs0_0 t) (hs0_1 t) (hs0_2 t) (hs0_3 t) (hs0_4 t) (hs0_5 t) (hs0_6 t) (hs0_7 t) (hs0_8 t) (Memref.isWhole_whole _) (Memref.isWhole_whole _) (Memref.isWhole_whole _) (Memref.isWhole_whole _) (Memref.isWhole_whole _) (Memref.isWhole_whole _) (Memref.isWhole_whole _) Set.univ _ ((hasTile_iff t).mpr ht) (fun h => absurd ((last_iff t).mp h) (by omega)) (sq t.val) (hrow.1.trans hsq.symm) hrow.2 (iblk m c 0 t) (iblk m c 1 t) (iblk m c 2 t) (iblk m c 3 t) (iblk m c 4 t) (iblk m c 5 t) (iblk m c 6 t) ((dats m 0 c).before 8 t d8) xs0 xs6)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    rw [hx.1, hx.2, hC, hP]
    iintro ⟨H0, H1, H2, H3, H4, H5, H6, H7, H8, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    by_cases h3 : t.val % 4 = 3
    · rw [if_pos ((saves_iff t).mpr h3), leaves0_8_live m c t h3]
      iexact H8
    · rw [if_neg (fun h => h3 ((saves_iff t).mp h)), Dat.leavesExact_idle (dats m 0 c) 8 t (idle8 t h3) (flush8 t h3 ht)]
      iexists d8; iexact H8
  · have hl : t.val = 32 := by omega
    have hsN : ¬seqStart (grid0.coords t) := fun h => absurd ((seqStart_iff t).mp h).2 ht
    have hrN : ¬runStart (grid0.coords t) := fun h => absurd ((runStart_iff t).mp h) (by omega)
    rw [PhiS_castSucc m c t, PhiS_pos m c _ _ (by omega), leaves0_8_last m c t hl]
    simp only [before0_8_last m c t hl]
    have e0 : cyA m c (t.val - 1) = cyA m c t.val := by rw [hl]; rfl
    have e6 : prA m c (t.val - 1) = prA m c t.val := by rw [hl]; rfl
    have ei : prIn m c t.val = prA m c t.val := by rw [prIn, if_neg (by omega), e6]
    rw [e0, e6, ei]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (whole_last (c := c) (i := grid0.coords t) (hs0_0 t) (hs0_1 t) (hs0_2 t) (hs0_3 t) (hs0_4 t) (hs0_5 t) (hs0_6 t) (hs0_7 t) (hs0_8 t) (Memref.isWhole_whole _) (Memref.isWhole_whole _) (Memref.isWhole_whole _) (Memref.isWhole_whole _) (Memref.isWhole_whole _) (Memref.isWhole_whole _) (Memref.isWhole_whole _) Set.univ _ hrN hsN (fun h => ht ((hasTile_iff t).mp h)) (fun h => absurd ((saves_iff t).mp h) (by omega)) ((last_iff t).mpr hl) (iblk m c 5 t) (iblk m c 6 t) _ _)
    isplitl [H5]; · iexact H5
    isplitl [H6]; · iexact H6
    isplitl [H7]; · iexists _; iexact H7
    isplitl [HS0]; · iexact HS0
    isplitl [HS6]; · iexact HS6
    iintro ⟨H5, H6, H7, HS0, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.SConv
-- ==== Proof.SConv.Final.lean ====
module

public import proofs.«01_k».proof.Proof.SConv.Cert
public import Idealize.ShloMosaic.Lib.Pipeline.ValueKit

/-! # The short convolution's two results, as functions of the arguments -/

@[expose] public section

set_option maxRecDepth 16384

noncomputable section

namespace Cert.SConv

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## The mathematics, row by row -/

section Math

variable (X : Vec Ideal S8x2048x1024 .f32) (M : Vec Ideal S136x12288 .f32) (W : Vec Ideal S1024x3072 .bf16) (CW : Vec Ideal S3x1024 .f32)
  (WO : Vec Ideal S1024x1024 .bf16) (G B : Vec Ideal S1x1024 .f32)

/-- Entry `a * 1024 + k` of a sequence's modulations for this mixer: shift, scale and gate for `a` = 0, 1, 2. -/
def modR (n : Fin 8) (a : Fin 3) (k : Fin 1024) : EReal := M (ix2 ⟨128 + n.val, by omega⟩ ⟨6144 + 1024 * a.val + k.val, by omega⟩)

/-- A modulated row. -/
def hR (n : Fin 8) (r : Fin 2048) (k : Fin 1024) : EReal := X (ix3 n r k) * (1 + modR M n 1 k) + modR M n 0 k

/-- A row's projection. -/
def zR (n : Fin 8) (r : Fin 2048) (j : Fin 3072) : EReal := ∑ k : Fin 1024, hR X M n r k * W (ix2 k j)

/-- A row of the convolution's input: the product of the second and third part. -/
def pR (n : Fin 8) (r : Fin 2048) (j : Fin 1024) : EReal := zR X M W n r ⟨1024 + j.val, by omega⟩ * zR X M W n r ⟨2048 + j.val, by omega⟩

/-- The convolution's input behind two rows of zeros. -/
def eR (n : Fin 8) (ρ : ℕ) (j : Fin 1024) : EReal := if ρ < 2 then 0 else pR X M W n (Fin.ofNat 2048 (ρ - 2)) j

/-- The gated convolution. -/
def aR (n : Fin 8) (r : Fin 2048) (j : Fin 1024) : EReal :=
  zR X M W n r ⟨j.val, by omega⟩
    * (CW (ix2 0 j) * eR X M W n r.val j + CW (ix2 1 j) * eR X M W n (r.val + 1) j + CW (ix2 2 j) * eR X M W n (r.val + 2) j)

/-- The residual sum a row's normalization takes. -/
def vR (n : Fin 8) (r : Fin 2048) (j : Fin 1024) : EReal :=
  Ideal.ofBits FTy.f32 1068827891#32 * X (ix3 n r j) + modR M n 2 j * ∑ k : Fin 1024, aR X M W CW n r k * WO (ix2 k j)

/-- A row's mean. -/
def meanR (v : Fin 1024 → EReal) : EReal := Ideal.div (∑ k : Fin 1024, v k) (Ideal.ofBits FTy.f32 1149239296#32)

/-- A row, normalized. -/
def lnR (v : Fin 1024 → EReal) (g b : EReal) (j : Fin 1024) : EReal :=
  (v j - meanR v) * Ideal.rsqrt (meanR (fun k => (v k - meanR v) * (v k - meanR v)) + Ideal.ofBits FTy.f32 925353388#32) * g + b

/-- The mixer's block of results. -/
def outR : Vec Ideal S8x2048x1024 .f32 := fun y => lnR (vR X M W CW WO (y 0) (y 1)) (G (ix2 0 (y 2))) (B (ix2 0 (y 2))) (y 2)

/-- The rows the next token's convolution reads. -/
def stateR : Vec Ideal S8x2x1024 .f32 := fun y => eR X M W (y 0) (2048 + (y 1).val) (y 2)

end Math

theorem lnpay_apply (v : Vec Ideal S512x1024 .f32) (g b : Vec Ideal S1x1024 .f32) (r : Fin 512) (j : Fin 1024) :
    k0_pay6 v g b (ix3 0 r j) = lnR (fun k => v (ix2 r k)) (g (ix2 0 j)) (b (ix2 0 j)) j := by
  unfold lnR meanR
  pointwise [k0_pay6]

theorem ix2_congr {n0 n1 : ℕ} {a a' : Fin n0} {b b' : Fin n1} (ha : a = a') (hb : b = b') : (ix2 a b : (⟨2, ![n0, n1]⟩ : Shape).Idx) = ix2 a' b' := by
  rw [ha, hb]

theorem ix3_congr {n0 n1 n2 : ℕ} {a a' : Fin n0} {b b' : Fin n1} {c c' : Fin n2} (ha : a = a') (hb : b = b') (hc : c = c') :
    (ix3 a b c : (⟨3, ![n0, n1, n2]⟩ : Shape).Idx) = ix3 a' b' c' := by
  rw [ha, hb, hc]

/-! ## The blocks the points read -/

variable (m : (ℓ : Loc nD τ sig) → Buf (Elt Ideal) ℓ) (ρ : Dev nD → PrngReg)

abbrev aX (c : Dev nD) : Vec Ideal S8x2048x1024 .f32 := m ((c.tc : Thread nD τ).loc main_arg0)
abbrev aM (c : Dev nD) : Vec Ideal S136x12288 .f32 := m ((c.tc : Thread nD τ).loc main_arg1)
abbrev aW (c : Dev nD) : Vec Ideal S1024x3072 .bf16 := m ((c.tc : Thread nD τ).loc main_arg2)
abbrev aCW (c : Dev nD) : Vec Ideal S3x1024 .f32 := m ((c.tc : Thread nD τ).loc main_arg3)
abbrev aWO (c : Dev nD) : Vec Ideal S1024x1024 .bf16 := m ((c.tc : Thread nD τ).loc main_arg4)
abbrev aG (c : Dev nD) : Vec Ideal S1x1024 .f32 := m ((c.tc : Thread nD τ).loc main_arg5)
abbrev aB (c : Dev nD) : Vec Ideal S1x1024 .f32 := m ((c.tc : Thread nD τ).loc main_arg6)

theorem idx : ∀ t : Fin cfg0.N, win0_0.index t = ![min t.val 31 / 4, min t.val 31 % 4, 0] ∧ win0_1.index t = ![16, 2] ∧ win0_2.index t = ![0, 0]
    ∧ win0_3.index t = ![0, 0] ∧ win0_4.index t = ![0, 0] ∧ win0_5.index t = ![0, 0] ∧ win0_6.index t = ![0, 0]
    ∧ win0_7.index t = ![(t.val - 1) / 4, (t.val - 1) % 4, 0] ∧ win0_8.index t = ![min t.val 31 / 4, 0, 0] :=
  (by decide +kernel : ∀ t : Fin grid0.N, _)

theorem blk_x (c : Dev nD) (t : Fin cfg0.N) (ht : t.val < 32) (r : Fin 512) (k : Fin 1024) :
    iblk m c 0 t (ix3 0 r k) = aX m c (ix3 ⟨t.val / 4, by omega⟩ ⟨512 * (t.val % 4) + r.val, by omega⟩ k) := by
  blk_simp [iblk, V, idx t]
  blk_ext! <;> simp only [idx t] <;> first | rfl | (simp; try omega)

theorem blk_m (c : Dev nD) (t : Fin cfg0.N) (n : Fin 8) (k : Fin 3072) :
    iblk m c 1 t (ix2 n k) = aM m c (ix2 ⟨128 + n.val, by omega⟩ ⟨6144 + k.val, by omega⟩) := by
  blk_simp [iblk, V, idx t]
  blk_ext! <;> simp only [idx t] <;> first | rfl | simp

theorem blk_w (c : Dev nD) (t : Fin cfg0.N) : iblk m c 2 t = aW m c := by
  funext y
  blk_simp [iblk, V, idx t]
  blk_ext! <;> simp only [idx t] <;> first | rfl | simp

theorem blk_cw (c : Dev nD) (t : Fin cfg0.N) : iblk m c 3 t = aCW m c := by
  funext y
  blk_simp [iblk, V, idx t]
  blk_ext! <;> simp only [idx t] <;> first | rfl | simp

theorem blk_wo (c : Dev nD) (t : Fin cfg0.N) : iblk m c 4 t = aWO m c := by
  funext y
  blk_simp [iblk, V, idx t]
  blk_ext! <;> simp only [idx t] <;> first | rfl | simp

theorem blk_g (c : Dev nD) (t : Fin cfg0.N) : iblk m c 5 t = aG m c := by
  funext y
  blk_simp [iblk, V, idx t]
  blk_ext! <;> simp only [idx t] <;> first | rfl | simp

theorem blk_b (c : Dev nD) (t : Fin cfg0.N) : iblk m c 6 t = aB m c := by
  funext y
  blk_simp [iblk, V, idx t]
  blk_ext! <;> simp only [idx t] <;> first | rfl | simp

/-! ## A tile's rows among the sequence's -/

theorem hB_eq (c : Dev nD) (t : Fin cfg0.N) (ht : t.val < 32) (n : Fin 8) (hn : n.val = t.val / 4) (r : Fin 512) (k : Fin 1024) :
    hB (iblk m c 0 t) (iblk m c 1 t) n (ix2 r k) = hR (aX m c) (aM m c) n ⟨512 * (t.val % 4) + r.val, by omega⟩ k := by
  have ex := blk_x m c t ht r k
  have e1 := blk_m m c t n ⟨1024 + k.val, by omega⟩
  have e0 := blk_m m c t n ⟨k.val, by omega⟩
  refine (Ideal.add_congr (Ideal.mul_congr ex (Ideal.add_congr rfl e1)) e0).trans ?_
  unfold hR modR
  refine Ideal.add_congr (Ideal.mul_congr (congrArg (aX m c) (ix3_congr (Fin.ext hn.symm) rfl rfl)) (Ideal.add_congr rfl (congrArg (aM m c) ?_))) (congrArg (aM m c) ?_)
  · exact ix2_congr rfl (Fin.ext (by show 6144 + (1024 + k.val) = 6144 + 1024 * 1 + k.val; omega))
  · exact ix2_congr rfl (Fin.ext (by show 6144 + k.val = 6144 + 1024 * 0 + k.val; omega))

theorem zS_eq (c : Dev nD) (t : Fin cfg0.N) (ht : t.val < 32) (n : Fin 8) (hn : n.val = t.val / 4) (r j : ℕ) (hr : r < 512) (hj : j < 3072)
    (R : Fin 2048) (hR : R.val = 512 * (t.val % 4) + r) (J : Fin 3072) (hJ : J.val = j) :
    zS (hB (iblk m c 0 t) (iblk m c 1 t) n) (iblk m c 2 t) r j = zR (aX m c) (aM m c) (aW m c) n R J := by
  unfold zS zR
  refine Finset.sum_congr rfl fun k _ => ?_
  rw [hB_eq m c t ht n hn, blk_w]
  refine Ideal.mul_congr ?_ (congrArg (aW m c) ?_)
  · congr 1
    exact Fin.ext (by show 512 * (t.val % 4) + r % 512 = R.val; rw [Nat.mod_eq_of_lt hr, hR])
  · exact ix2_congr rfl (Fin.ext (by show j % 3072 = J.val; rw [Nat.mod_eq_of_lt hj, hJ]))

/-- Row `ρ` of a tile's slab, from the eighth on, is row `512 l + ρ - 6` of the sequence's padded rows. -/
theorem ext_own (c : Dev nD) (t : Fin cfg0.N) (ht : t.val < 32) (n : Fin 8) (hn : n.val = t.val / 4) (cy : Vec Ideal S4x2x8x128 .f32)
    (ρ : ℕ) (h8 : 8 ≤ ρ) (hρ : ρ < 520) (q j : ℕ) (hq : q = 512 * (t.val % 4) + ρ - 6) (hj : j < 1024) (J : Fin 1024) (hJ : J.val = j) :
    extS (hB (iblk m c 0 t) (iblk m c 1 t) n) (iblk m c 2 t) cy ρ j = eR (aX m c) (aM m c) (aW m c) n q J := by
  unfold extS eR pR
  rw [if_neg (by omega), if_neg (by omega)]
  have hv : (Fin.ofNat 2048 (q - 2)).val = 512 * (t.val % 4) + (ρ - 8) := by show (q - 2) % 2048 = _; omega
  refine Ideal.mul_congr ?_ ?_
  · exact zS_eq m c t ht n hn _ _ (by omega) (by omega) _ hv _ (by show 1024 + J.val = _; omega)
  · exact zS_eq m c t ht n hn _ _ (by omega) (by omega) _ hv _ (by show 2048 + J.val = _; omega)

/-- The same for the two rows before: carried from the tile before, or the zeros a sequence begins with. -/
theorem ext_all (c : Dev nD) (t : Fin cfg0.N) (ht : t.val < 32) (n : Fin 8) (hn : n.val = t.val / 4)
    (ρ : ℕ) (h6 : 6 ≤ ρ) (hρ : ρ < 520) (q j : ℕ) (hq : q = 512 * (t.val % 4) + ρ - 6) (hj : j < 1024) (J : Fin 1024) (hJ : J.val = j) :
    extS (hB (iblk m c 0 t) (iblk m c 1 t) n) (iblk m c 2 t) (cyIn m c t.val) ρ j = eR (aX m c) (aM m c) (aW m c) n q J := by
  by_cases h8 : 8 ≤ ρ
  · exact ext_own m c t ht n hn _ ρ h8 hρ q j hq hj J hJ
  rw [extS, if_pos (by omega), cyIn]
  by_cases h4 : t.val % 4 = 0
  · rw [if_pos h4, eR, if_pos (by omega), cy0]
    pointwise [k0_pay80]
  · have hs : (sq (t.val - 1)).val = t.val / 4 := by show min (t.val - 1) 31 / 4 % 8 = _; omega
    have hp : (pt (t.val - 1)).val = t.val - 1 := by show min (t.val - 1) 31 = _; omega
    rw [if_neg h4, cyA, tileC]
    have e : ∀ a : Fin 8, a.val = t.val / 4 → a = n := fun a ha => Fin.ext (by rw [ha, hn])
    rw [e _ hs]
    refine ext_own m c (pt (t.val - 1)) (by omega) n (by omega) _ _ ?_ ?_ _ _ ?_ ?_ _ ?_
    · show 8 ≤ 512 + _; omega
    · show 512 + ρ % 8 < 520; omega
    · show q = 512 * ((pt (t.val - 1)).val % 4) + (512 + ρ % 8) - 6; omega
    · show 128 * (2 * (j / 256 % 4) + j / 128 % 2) + j % 128 < 1024; omega
    · show J.val = 128 * (2 * (j / 256 % 4) + j / 128 % 2) + j % 128; omega

theorem act_eq (c : Dev nD) (t : Fin cfg0.N) (ht : t.val < 32) (n : Fin 8) (hn : n.val = t.val / 4) (r : Fin 512) (k : Fin 1024)
    (R : Fin 2048) (hR : R.val = 512 * (t.val % 4) + r.val) :
    actS (hB (iblk m c 0 t) (iblk m c 1 t) n) (iblk m c 2 t) (iblk m c 3 t) (cyIn m c t.val) r.val k.val
      = aR (aX m c) (aM m c) (aW m c) (aCW m c) n R k := by
  have hk : (Fin.ofNat 1024 k.val : Fin 1024) = k := Fin.ext (Nat.mod_eq_of_lt k.isLt)
  unfold actS aR
  rw [blk_cw, zS_eq m c t ht n hn _ _ r.isLt (by omega) R hR ⟨k.val, by omega⟩ rfl,
    ext_all m c t ht n hn _ (by omega) (by omega) R.val _ (by omega) k.isLt k rfl,
    ext_all m c t ht n hn _ (by omega) (by omega) (R.val + 1) _ (by omega) k.isLt k rfl,
    ext_all m c t ht n hn _ (by omega) (by omega) (R.val + 2) _ (by omega) k.isLt k rfl, hk]

/-- What tile `t` leaves pending is its rows' residual sums. -/
theorem prA_eq (c : Dev nD) (t : Fin cfg0.N) (ht : t.val < 32) (n : Fin 8) (hn : n.val = t.val / 4) (r : Fin 512) (j : Fin 1024)
    (R : Fin 2048) (hR : R.val = 512 * (t.val % 4) + r.val) :
    prA m c t.val (ix2 r j) = vR (aX m c) (aM m c) (aW m c) (aCW m c) (aWO m c) n R j := by
  have hs : sq t.val = n := Fin.ext (by show min t.val 31 / 4 % 8 = n.val; omega)
  unfold prA
  rw [pt_self t ht, hs, show min t.val 31 = t.val by omega]
  unfold tileP vR
  refine Ideal.add_congr (Ideal.mul_congr rfl ?_) (Ideal.mul_congr ?_ (Finset.sum_congr rfl fun k _ => Ideal.mul_congr ?_ ?_))
  · exact (blk_x m c t ht r j).trans (congrArg (aX m c) (ix3_congr (Fin.ext hn.symm) (Fin.ext hR.symm) rfl))
  · refine (blk_m m c t n _).trans (congrArg (aM m c) (ix2_congr rfl (Fin.ext ?_)))
    show 6144 + (2048 + j.val) = 6144 + 1024 * 2 + j.val; omega
  · exact act_eq m c t ht n hn r k R hR
  · rw [blk_wo]; rfl

/-! ## The arrays after the run -/

theorem flush7_pos : ∀ t : Fin cfg0.N, (cfg0.win 7).flush t = true → t.val ≠ 0 :=
  (by decide +kernel : ∀ t : Fin cfg0.N, (cfg0.win 7).flush t = true → t.val ≠ 0)
theorem flush8_end : ∀ t : Fin cfg0.N, (cfg0.win 8).flush t = true → min t.val 31 % 4 = 3 :=
  (by decide +kernel : ∀ t : Fin cfg0.N, (cfg0.win 8).flush t = true → min t.val 31 % 4 = 3)

theorem final7 (c : Dev nD) : (dats m 0 c).arrAt 7 cfg0.N = outR (aX m c) (aM m c) (aW m c) (aCW m c) (aWO m c) (aG m c) (aB m c) := by
  refine (dats m 0 c).arrAt_eq_of_covers 7 _ (by decide +kernel) fun t hf y => ?_
  blk_simp
  rw [after0_7]
  have hpos := flush7_pos t hf
  have hN : t.val < 33 := lt_of_lt_of_eq t.isLt (show cfg0.N = 33 from N_0)
  obtain ⟨r, j, rfl⟩ : ∃ (r : Fin 512) (j : Fin 1024), y = ix3 0 r j := ⟨y 1, y 2, by
    have h0 : (y 0).val < 1 := (y 0).isLt
    rw [show (0 : Fin 1) = y 0 from Fin.ext (by show 0 = (y 0).val; omega)]; exact eq_ix3 y⟩
  refine (lnpay_apply _ _ _ r j).trans ?_
  have hp : (pt (t.val - 1)).val = t.val - 1 := by show min (t.val - 1) 31 = _; omega
  have hrow : (fun k => prIn m c t.val (ix2 r k)) = vR (aX m c) (aM m c) (aW m c) (aCW m c) (aWO m c) ⟨(t.val - 1) / 4, by omega⟩ ⟨512 * ((t.val - 1) % 4) + r.val, by omega⟩ := by
    funext k
    have h := prA_eq m c (pt (t.val - 1)) (by omega) ⟨(t.val - 1) / 4, by omega⟩ (by rw [hp]) r k ⟨512 * ((t.val - 1) % 4) + r.val, by omega⟩ (by rw [hp])
    rw [hp] at h
    rw [prIn, if_neg hpos, h]
  rw [hrow, blk_g, blk_b]
  have hemb : ((cfg0.win 7).blk t).view.emb (ix3 0 r j) = (ix3 ⟨(t.val - 1) / 4, by omega⟩ ⟨512 * ((t.val - 1) % 4) + r.val, by omega⟩ j : S8x2048x1024.Idx) := by
    blk_ext! <;> simp only [idx t] <;> first | rfl | (simp; try omega)
  exact (congrArg (outR (aX m c) (aM m c) (aW m c) (aCW m c) (aWO m c) (aG m c) (aB m c)) hemb).symm

theorem final8 (c : Dev nD) : (dats m 0 c).arrAt 8 cfg0.N = stateR (aX m c) (aM m c) (aW m c) := by
  refine (dats m 0 c).arrAt_eq_of_covers 8 _ (by decide +kernel) fun t hf y => ?_
  blk_simp
  rw [after0_8]
  have he := flush8_end t hf
  have hN : t.val < 33 := lt_of_lt_of_eq t.isLt (show cfg0.N = 33 from N_0)
  obtain ⟨r, j, rfl⟩ : ∃ (r : Fin 2) (j : Fin 1024), y = ix3 0 r j := ⟨y 1, y 2, by
    have h0 : (y 0).val < 1 := (y 0).isLt
    rw [show (0 : Fin 1) = y 0 from Fin.ext (by show 0 = (y 0).val; omega)]; exact eq_ix3 y⟩
  have hs : (sq t.val).val = (pt t.val).val / 4 := by show min t.val 31 / 4 % 8 = min t.val 31 / 4; omega
  have hp : (pt t.val).val = min t.val 31 := rfl
  have hemb : ((cfg0.win 8).blk t).view.emb (ix3 0 r j) = (ix3 (sq t.val) r j : S8x2x1024.Idx) := by
    blk_ext! <;> simp only [idx t] <;> first | rfl | (simp; try omega)
  refine (ext_own m c (pt t.val) (by omega) (sq t.val) hs cy0 _ ?_ ?_ (2048 + r.val) _ ?_ ?_ j ?_).trans ?_
  · show 8 ≤ 512 + _; omega
  · show 512 + (6 + r.val) % 8 < 520; omega
  · show 2048 + r.val = 512 * (min t.val 31 % 4) + (512 + (6 + r.val) % 8) - 6; omega
  · show 128 * (2 * (j.val / 256 % 4) + j.val / 128 % 2) + j.val % 128 < 1024; omega
  · show j.val = 128 * (2 * (j.val / 256 % 4) + j.val / 128 % 2) + j.val % 128; omega
  exact (congrArg (stateR (aX m c) (aM m c) (aW m c)) hemb).symm

end Cert.SConv
-- ==== Proof.SConv.Ref.lean ====
module

public import proofs.«01_k».proof.Proof.SConv.Final
public import proofs.«01_k».proof.Proof.Gen.ReferenceIdeal.Run

/-! # The reference's two results are the same functions of the arguments -/

@[expose] public section

set_option maxRecDepth 16384

noncomputable section

namespace Cert.SConv

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI Idealize.SL.Sem

variable (X : FVec Ideal S8x2048x1024 .f32) (M : FVec Ideal S136x12288 .f32) (W : FVec Ideal S1024x3072 .bf16) (CW : FVec Ideal S3x1024 .f32)
  (WO : FVec Ideal S1024x1024 .bf16) (G B : FVec Ideal S1x1024 .f32)

/-- One of the three modulation vectors of the mixer, every sequence's. -/
def refMod (o : ℕ) (h : S8x2x2x3x1024.Slices ![0, 1, 0, o, 0] S8x1x1x1x1024) : FVec Ideal S8x1x1024 .f32 :=
  broadcastInDim S8x1x1024 ![0, 2] bcast_S8x1024_S8x1x1024_0_2 (shapeCast _ (extractStridedSlice S8x1x1x1x1024 ![0, 1, 0, o, 0] (shapeCast _ (extractStridedSlice S8x12288 ![128, 0] M slices_S136x12288_S8x12288_128_0) shapeCasts_S8x12288_S8x2x2x3x1024) h) shapeCasts_S8x1x1x1x1024_S8x1024)

theorem refMod_apply (a : Fin 3) (h : S8x2x2x3x1024.Slices ![0, 1, 0, a.val, 0] S8x1x1x1x1024) (n : Fin 8) (k : Fin 1024) :
    refMod M a.val h (ix3 n 0 k) = modR M n a k := by
  unfold modR
  pointwise [refMod]
  refine congrArg M (ix2_congr rfl (Fin.ext ?_))
  show _ = 6144 + 1024 * a.val + k.val
  first | omega | (simp; omega)

/-- The modulated rows. -/
def refH : FVec Ideal S8x2048x1024 .f32 :=
  addf (mulf X (broadcastInDim S8x2048x1024 ![0, 1, 2] bcast_S8x1x1024_S8x2048x1024_0_1_2 (addf (broadcastInDim S8x1x1024 ![] bcast_S_S8x1x1024 (constant S_ .f32 0x3F800000#32)) (refMod M 1 slices_S8x2x2x3x1024_S8x1x1x1x1024_0_1_0_1_0)))) (broadcastInDim S8x2048x1024 ![0, 1, 2] bcast_S8x1x1024_S8x2048x1024_0_1_2 (refMod M 0 slices_S8x2x2x3x1024_S8x1x1x1x1024_0_1_0_0_0))

theorem refH_apply (n : Fin 8) (r : Fin 2048) (k : Fin 1024) : refH X M (ix3 n r k) = hR X M n r k := by
  unfold hR
  rw [← refMod_apply M 0 slices_S8x2x2x3x1024_S8x1x1x1x1024_0_1_0_0_0, ← refMod_apply M 1 slices_S8x2x2x3x1024_S8x1x1x1x1024_0_1_0_1_0]
  pointwise [refH]

/-- The rows' projections. -/
def refZ : FVec Ideal S8x2048x3072 .f32 :=
  Host.dotGeneral dot_S8x2048x1024_S1024x3072_S8x2048x3072_2_0_01_1_n_n none (refH X M) (extf .f32 W bitsLt_bf16_f32)

theorem refZ_apply (n : Fin 8) (r : Fin 2048) (j : Fin 3072) : refZ X M W (ix3 n r j) = zR X M W n r j := by
  unfold zR
  simp only [← refH_apply]
  pointwise [refZ]

/-- The convolution's input. -/
def refP : FVec Ideal S8x2048x1024 .f32 :=
  mulf (extractStridedSlice S8x2048x1024 ![0, 0, 1024] (refZ X M W) slices_S8x2048x3072_S8x2048x1024_0_0_1024) (extractStridedSlice S8x2048x1024 ![0, 0, 2048] (refZ X M W) slices_S8x2048x3072_S8x2048x1024_0_0_2048)

theorem refP_apply (n : Fin 8) (r : Fin 2048) (j : Fin 1024) : refP X M W (ix3 n r j) = pR X M W n r j := by
  unfold pR
  simp only [← refZ_apply]
  pointwise [refP]

/-- The convolution's input behind two rows of zeros. -/
def refE : FVec Ideal S8x2050x1024 .f32 :=
  concatenate S8x2050x1024 1 [⟨S8x2x1024, (broadcastInDim S8x2x1024 ![] bcast_S_S8x2x1024 (constant S_ .f32 0x00000000#32))⟩, ⟨S8x2048x1024, (refP X M W)⟩] concatenates_S8x2x1024_S8x2048x1024_S8x2050x1024_d1

theorem refE_apply (n : Fin 8) (ρ : Fin 2050) (j : Fin 1024) : refE X M W (ix3 n ρ j) = eR X M W n ρ.val j := by
  unfold eR
  simp only [← refP_apply]
  pointwise [refE]
  by_cases h : ρ.val < 2
  · rw [dif_pos h, if_pos h]
  · rw [dif_neg h, if_neg h]
    exact congrArg (refP X M W) (ix3_congr rfl (Fin.ext (Nat.mod_eq_of_lt (by omega)).symm) rfl)

/-- The gated convolution. -/
def refA : FVec Ideal S8x2048x1024 .f32 :=
  mulf (extractStridedSlice S8x2048x1024 ![0, 0, 0] (refZ X M W) slices_S8x2048x3072_S8x2048x1024_0_0_0) (addf (addf (addf (broadcastInDim S8x2048x1024 ![] bcast_S_S8x2048x1024 (constant S_ .f32 0x00000000#32)) (mulf (broadcastInDim S8x2048x1024 ![0, 1, 2] bcast_S1x1x1024_S8x2048x1024_0_1_2 (broadcastInDim S1x1x1024 ![2] bcast_S1024_S1x1x1024_2 (shapeCast _ (extractStridedSlice S1x1024 ![0, 0] CW slices_S3x1024_S1x1024_0_0) shapeCasts_S1x1024_S1024))) (extractStridedSlice S8x2048x1024 ![0, 0, 0] (refE X M W) slices_S8x2050x1024_S8x2048x1024_0_0_0))) (mulf (broadcastInDim S8x2048x1024 ![0, 1, 2] bcast_S1x1x1024_S8x2048x1024_0_1_2 (broadcastInDim S1x1x1024 ![2] bcast_S1024_S1x1x1024_2 (shapeCast _ (extractStridedSlice S1x1024 ![1, 0] CW slices_S3x1024_S1x1024_1_0) shapeCasts_S1x1024_S1024))) (extractStridedSlice S8x2048x1024 ![0, 1, 0] (refE X M W) slices_S8x2050x1024_S8x2048x1024_0_1_0))) (mulf (broadcastInDim S8x2048x1024 ![0, 1, 2] bcast_S1x1x1024_S8x2048x1024_0_1_2 (broadcastInDim S1x1x1024 ![2] bcast_S1024_S1x1x1024_2 (shapeCast _ (extractStridedSlice S1x1024 ![2, 0] CW slices_S3x1024_S1x1024_2_0) shapeCasts_S1x1024_S1024))) (extractStridedSlice S8x2048x1024 ![0, 2, 0] (refE X M W) slices_S8x2050x1024_S8x2048x1024_0_2_0)))

theorem refA_apply (n : Fin 8) (r : Fin 2048) (j : Fin 1024) : refA X M W CW (ix3 n r j) = aR X M W CW n r j := by
  unfold aR
  rw [Nat.add_comm r.val 1, Nat.add_comm r.val 2]
  rw [← refZ_apply, ← refE_apply X M W n ⟨r.val, by omega⟩ j, ← refE_apply X M W n ⟨1 + r.val, by omega⟩ j, ← refE_apply X M W n ⟨2 + r.val, by omega⟩ j]
  pointwise [refA]

/-- The residual sums. -/
def refV : FVec Ideal S8x2048x1024 .f32 :=
  addf (mulf (broadcastInDim S8x2048x1024 ![] bcast_S_S8x2048x1024 (constant S_ .f32 0x3FB504F3#32)) X) (mulf (broadcastInDim S8x2048x1024 ![0, 1, 2] bcast_S8x1x1024_S8x2048x1024_0_1_2 (refMod M 2 slices_S8x2x2x3x1024_S8x1x1x1x1024_0_1_0_2_0)) (Host.dotGeneral dot_S8x2048x1024_S1024x1024_S8x2048x1024_2_0_01_1_n_n none (refA X M W CW) (extf .f32 WO bitsLt_bf16_f32)))

theorem refV_apply (n : Fin 8) (r : Fin 2048) (j : Fin 1024) : refV X M W CW WO (ix3 n r j) = vR X M W CW WO n r j := by
  unfold vR
  simp only [← refA_apply]
  rw [← refMod_apply M 2 slices_S8x2x2x3x1024_S8x1x1x1x1024_0_1_0_2_0]
  pointwise [refV]

/-- The normalization of every row. -/
def refLN (V : FVec Ideal S8x2048x1024 .f32) : FVec Ideal S8x2048x1024 .f32 :=
  addf (mulf (mulf (subf V (broadcastInDim S8x2048x1024 ![0, 1, 2] bcast_S8x2048x1_S8x2048x1024_0_1_2 (Host.divf (broadcastInDim S8x2048x1 ![0, 1] bcast_S8x2048_S8x2048x1_0_1 (Host.reduceAdd V (constant S_ .f32 0x00000000#32) reducesTo_S8x2048x1024_S8x2048_d2 h_S_)) (broadcastInDim S8x2048x1 ![] bcast_S_S8x2048x1 (constant S_ .f32 0x44800000#32))))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (subf V (broadcastInDim S8x2048x1024 ![0, 1, 2] bcast_S8x2048x1_S8x2048x1024_0_1_2 (Host.divf (broadcastInDim S8x2048x1 ![0, 1] bcast_S8x2048_S8x2048x1_0_1 (Host.reduceAdd V (constant S_ .f32 0x00000000#32) reducesTo_S8x2048x1024_S8x2048_d2 h_S_)) (broadcastInDim S8x2048x1 ![] bcast_S_S8x2048x1 (constant S_ .f32 0x44800000#32))))) (subf V (broadcastInDim S8x2048x1024 ![0, 1, 2] bcast_S8x2048x1_S8x2048x1024_0_1_2 (Host.divf (broadcastInDim S8x2048x1 ![0, 1] bcast_S8x2048_S8x2048x1_0_1 (Host.reduceAdd V (constant S_ .f32 0x00000000#32) reducesTo_S8x2048x1024_S8x2048_d2 h_S_)) (broadcastInDim S8x2048x1 ![] bcast_S_S8x2048x1 (constant S_ .f32 0x44800000#32)))))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 (shapeCast _ G shapeCasts_S1x1024_S1024)))) (broadcastInDim S8x2048x1024 ![0, 1, 2] bcast_S1x1x1024_S8x2048x1024_0_1_2 (broadcastInDim S1x1x1024 ![2] bcast_S1024_S1x1x1024_2 (shapeCast _ B shapeCasts_S1x1024_S1024)))

theorem refLN_apply (V : FVec Ideal S8x2048x1024 .f32) (n : Fin 8) (r : Fin 2048) (j : Fin 1024) :
    refLN G B V (ix3 n r j) = lnR (fun k => V (ix3 n r k)) (G (ix2 0 j)) (B (ix2 0 j)) j := by
  unfold lnR meanR
  pointwise [refLN]

theorem out_eq : refLN G B (refV X M W CW WO) = outR X M W CW WO G B := by
  funext y
  obtain ⟨n, r, j, rfl⟩ : ∃ (n : Fin 8) (r : Fin 2048) (j : Fin 1024), y = ix3 n r j := ⟨y 0, y 1, y 2, eq_ix3 y⟩
  rw [refLN_apply]
  simp only [refV_apply]
  rfl

theorem state_eq : extractStridedSlice S8x2x1024 ![0, 2048, 0] (refE X M W) slices_S8x2050x1024_S8x2x1024_0_2048_0 = stateR X M W := by
  funext y
  obtain ⟨n, r, j, rfl⟩ : ∃ (n : Fin 8) (r : Fin 2) (j : Fin 1024), y = ix3 n r j := ⟨y 0, y 1, y 2, eq_ix3 y⟩
  show _ = eR X M W n (2048 + r.val) j
  rw [← refE_apply X M W n ⟨2048 + r.val, by omega⟩ j]
  pointwise

variable (m : (ℓ : Loc nD τ sig) → Buf (Elt Ideal) ℓ) (c : Dev nD)

theorem res_eq : res_main_v81 m c = outR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) :=
  Eq.trans (by unfold res_main_v81 refLN refV refA refE refP refZ refH refMod; rfl) (out_eq _ _ _ _ _ _ _)

end Cert.SConv
-- ==== Proof.SConv.Claims.lean ====
module

public import proofs.«01_k».proof.Defs
public import proofs.«01_k».proof.Proof.SConv.Ref
public import Idealize.ShloMosaic.Lib.Claim

/-! # The short convolution's claims -/

@[expose] public section

noncomputable section

namespace Cert.SConv

open Idealize.ShloMosaic Idealize.SL.Sem

/-- The reference writes no argument, and has no semaphore. -/
theorem reference_quiescent : Cert.quiescent_ReferenceIdeal (hReferenceIdeal := Cert.ReferenceIdeal.Gen.facts) := fun m g _ =>
  (θ_run Cert.ReferenceIdeal.defs _ _).mono (fun r h => ⟨fun c => (h c).2.2, Idealize.ShloMosaic.sem_eq_zero_of_no_sems (by decide) r.2⟩)
    (Cert.ReferenceIdeal.Value.run m g)

/-- Kernel and reference end with the same two arrays: `outR` and `stateR` of the arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => outR (aX m c) (aM m c) (aW m c) (aCW m c) (aWO m c) (aG m c) (aB m c), fun c => stateR (aX m c) (aM m c) (aW m c), ?_, ?_⟩
  · run_from run_main m g
    · exact final7 m c
    · exact final8 m c
  · refine (θ_run Cert.ReferenceIdeal.defs _ _).mono (fun r h c => ?_) (Cert.ReferenceIdeal.Value.run m' g')
    obtain ⟨h0, h1, h2⟩ := h c
    obtain ⟨a0, a1, a2, a3, a4, a5, a6⟩ := hargs c
    refine ⟨h0.trans ((res_eq m' c).trans ?_), h1.trans (Eq.trans ?_ (state_eq (aX m c) (aM m c) (aW m c))), h2⟩
    · rw [a0, a1, a2, a3, a4, a5, a6]
    · rw [a0, a1, a2]; rfl

end Cert.SConv
-- ==== Proof.Ffn.Free.lean ====
/- The printed kernel's frame: it runs, ends, and leaves its arguments as they were. Nothing is said of what it computes, so nothing
   is kept of the outputs or of the scratch buffers between points: each is owned at some contents throughout. -/
module

public import proofs.«01_k».proof.Proof.Gen.Kernel2.Skeleton
public import proofs.«01_k».proof.Proof.Gen.Kernel2.Frame
public import Idealize.ShloMosaic.Lib.Claim

@[expose] public section

set_option maxRecDepth 16384

noncomputable section

namespace Cert.Ffn.Free

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2 Cert.Kernel2.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body, and where they hold -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)
abbrev cond0_1 (i : grid0.Coords) : Prop := (Scalar.cmpi .ne (Scalar.extui (Scalar.andi (Scalar.cmpi .slt (BitVec.ofNat 32 (i 0).val) 32#32) (Scalar.cmpi .eq (Scalar.select (Scalar.andi (Scalar.xori (Scalar.cmpi .slt (Scalar.remsi (Scalar.minsi (BitVec.ofNat 32 (i 0).val) 31#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.minsi (BitVec.ofNat 32 (i 0).val) 31#32) (Scalar.select (Scalar.cmpi .eq 4#32 0#32) 1#32 4#32)) 0#32)) (Scalar.addi (Scalar.remsi (Scalar.minsi (BitVec.ofNat 32 (i 0).val) 31#32) (Scalar.select (Scalar.cmpi .eq 4#32 0#32) 1#32 4#32)) (Scalar.select (Scalar.cmpi .eq 4#32 0#32) 1#32 4#32)) (Scalar.remsi (Scalar.minsi (BitVec.ofNat 32 (i 0).val) 31#32) (Scalar.select (Scalar.cmpi .eq 4#32 0#32) 1#32 4#32))) 0#32))) 0#32) = 1#1
theorem hcond0_1 : ∀ t : Fin cfg0.N, cond0_1 (grid0.coords t) ↔ (t.val % 33 = 0 ∨ t.val % 33 = 4 ∨ t.val % 33 = 8 ∨ t.val % 33 = 12 ∨ t.val % 33 = 16 ∨ t.val % 33 = 20 ∨ t.val % 33 = 24 ∨ t.val % 33 = 28) :=
  (by decide +kernel : ∀ t : Fin grid0.N, cond0_1 (grid0.coords t) ↔ (t.val % 33 = 0 ∨ t.val % 33 = 4 ∨ t.val % 33 = 8 ∨ t.val % 33 = 12 ∨ t.val % 33 = 16 ∨ t.val % 33 = 20 ∨ t.val % 33 = 24 ∨ t.val % 33 = 28))
abbrev cond0_2 (i : grid0.Coords) : Prop := k0_cond3 i = 1#1
theorem hcond0_2 : ∀ t : Fin cfg0.N, cond0_2 (grid0.coords t) ↔ t.val < 32 :=
  (by decide +kernel : ∀ t : Fin grid0.N, cond0_2 (grid0.coords t) ↔ t.val < 32)
abbrev cond0_3 (i : grid0.Coords) : Prop := k0_cond4 i = 1#1
theorem hcond0_3 : ∀ t : Fin cfg0.N, cond0_3 (grid0.coords t) ↔ t.val % 4 = 3 :=
  (by decide +kernel : ∀ t : Fin grid0.N, cond0_3 (grid0.coords t) ↔ t.val % 4 = 3)
abbrev cond0_4 (i : grid0.Coords) : Prop := k0_cond5 i = 1#1
theorem hcond0_4 : ∀ t : Fin cfg0.N, cond0_4 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_4, k0_cond5, e0]
    word_cmp
   : ∀ t : Fin grid0.N, cond0_4 (grid0.coords t) ↔ t.val % 33 = 32)

/-- The conditions a point can meet: the first point, a point inside a sequence, a sequence's last tile, a later sequence's first
    tile, and the point past the last tile. -/
def Case (i : grid0.Coords) : Prop :=
  (cond0_0 i ∧ cond0_1 i ∧ cond0_2 i ∧ ¬cond0_3 i ∧ ¬cond0_4 i) ∨ (¬cond0_0 i ∧ ¬cond0_1 i ∧ cond0_2 i ∧ ¬cond0_3 i ∧ ¬cond0_4 i) ∨ (¬cond0_0 i ∧ ¬cond0_1 i ∧ cond0_2 i ∧ cond0_3 i ∧ ¬cond0_4 i) ∨ (¬cond0_0 i ∧ cond0_1 i ∧ cond0_2 i ∧ ¬cond0_3 i ∧ ¬cond0_4 i) ∨ (¬cond0_0 i ∧ ¬cond0_1 i ∧ ¬cond0_2 i ∧ ¬cond0_3 i ∧ cond0_4 i)

theorem case_at (t : Fin cfg0.N) : Case (grid0.coords t) := by
  have hN : t.val < 33 := lt_of_lt_of_eq t.isLt (show cfg0.N = 33 from N_0)
  unfold Case
  simp only [hcond0_0 t, hcond0_1 t, hcond0_2 t, hcond0_3 t, hcond0_4 t]
  omega

/-! ## The memrefs -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5632 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5632 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x5632 .f32 := win0_9.stage (cfg0.slots t 9)
abbrev hs0_9 (t : Fin cfg0.N) : (ms0_9 t).IsWhole := hstage0_9 ((cfg0.slots t 9).cast nbuf0_9)
abbrev scM0_0 : Memref sig .tc .vmem S22x2x8x128 .f32 := Memref.whole cc0_scratch0
abbrev scM0_1 : Memref sig .tc .vmem S512x1024 .bf16 := Memref.whole cc0_scratch1
abbrev scM0_2 : Memref sig .tc .vmem S2x2x2x520x128 .f32 := Memref.whole cc0_scratch2
abbrev scM0_3 : Memref sig .tc .vmem S2x512x2816 .bf16 := Memref.whole cc0_scratch3
abbrev scM0_4 : Memref sig .tc .vmem S512x1024 .f32 := Memref.whole cc0_scratch4
abbrev scM0_5 : Memref sig .tc .vmem S512x1024 .f32 := Memref.whole cc0_scratch5

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-- Before and after every point, each scratch buffer is owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The body -/

set_option maxHeartbeats 40000000 in set_option sl_exec.squeezeSlice true in
/-- The body, at any point's conditions, leaves its inputs as they were and every other buffer at some contents. -/
theorem run_any (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole) (h : Case i)
    (x0 : Vec F S1x512x1024 .f32) (x1 : Vec F S8x3072 .f32) (x2 : Vec F S1024x5632 .bf16) (x3 : Vec F S3x5632 .f32) (x4 : Vec F S1x5632 .f32) (x5 : Vec F S2816x1024 .bf16) (x6 : Vec F S1x1024 .f32) (x7 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_conv_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_conv_ffn_eq_skeleton]; unfold cc0_conv_ffn_skel
  simp only [k0_part95_eq_skeleton, k0_part84_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part85_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  rcases h with h | h | h | h | h <;> obtain ⟨hc0, hc1, hc2, hc3, hc4⟩ := h
  all_goals
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-! ## The pipeline -/

/-- The outputs, of which nothing is kept. -/
def forgets0 : Fin 10 → Bool := fun w => w.val == 8 || w.val == 9

/-- The pipeline's data: each input's block stays in its staging buffer, and the scratch buffers are at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [leaves0_0, leaves0_1, leaves0_2, leaves0_3, leaves0_4, leaves0_5, leaves0_6, leaves0_7]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_any c (grid0.coords t) _ _ _ _ _ _ _ _ _ _ _ _ _ _ _ _ _ _ _ _ _ _ _ _ _ _ _ _ _ _ _ _ (case_at t) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run -/

-- the launch's implicit arguments are found by unifying types up to plain definitions
set_option backward.isDefEq.respectTransparency.types false in
/-- The program runs to its end, with every semaphore counter at zero and its input arrays as they were. -/
theorem run_all : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame, at any float format's values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hr => by
    obtain ⟨h, hs⟩ := hr
    have hA := A_eq m
    exact ⟨fun c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩, hs⟩) (run_all m ρ)

end Cert.Ffn.Free

end
-- ==== Proof.Ffn.Tile.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import Idealize.ShloMosaic.Lib.WordCmp

/-! # The feed-forward network's body, cut into its parts

The printed body is four programs in a row: the resets, the tile, the saving of the state, the last block's
normalization.  Each is run once here, on whole buffers, whatever the grid point. -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The work of one tile: the block before is normalized, then this block's rows go through the mixer. -/
def tileProg (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole)
    (v17 : BitVec 32) (k0_h3 : k0_cond3 i = 1#1) : Prog (TpuEff nD τ sig (Elt F) Λ₀ .tc) PUnit := do
    let ⟨v77, v1653, v1690⟩ : Σ' (v77 : FVec F S1x1024 .f32) (v1653 : FVec F S512x128 .f32), FVec F S512x128 .f32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 k0_h3
    let v2337 : FVec F S512x1024 .f32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v77 v1653 v1690
    Prog.lift (.store arg16 (Rect.unit (s := S512x1024) ![0, 0] S512x1024.size inb_S512x1024_S512x1024_0_0) (k0_pay1 v2337) Finset.univ (View.stores_vmem_bits_univ h_S512x1024 rfl) (.inl rfl))
    pure ⟨⟩

/-- The last two rows of the carry go out as the sequence's state. -/
def saveProg (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole) : Prog (TpuEff nD τ sig (Elt F) Λ₀ .tc) PUnit := do
    let v68 : FVec F S2x128 .f32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v68
    let v113 : FVec F S2x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    let v138 : FVec F S2x128 .f32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v113
    k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v138
    let v183 : FVec F S2x128 .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v183
    let v231 : FVec F S1x2x128 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    let v253 : FVec F S2x128 .f32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v231
    let v254 : Vec F S1x2x128 .f32 ← Prog.lift (.load arg10 (Rect.unit (s := S1x2x5632) ![0, 0, 5248] S1x2x128.size inb_S1x2x5632_S1x2x128_0_0_5248).toLoadRect (View.loadsAt_vmem h_S1x2x128))
    Prog.lift (.store arg10 (Rect.unit (s := S1x2x5632) ![0, 0, 5248] S1x2x128.size inb_S1x2x5632_S1x2x128_0_0_5248) (k0_pay2 v253) Finset.univ (View.stores_vmem_bits_univ h_S1x2x128 rfl) (.inl rfl))
    let v257 : Vec F S1x1x2x128 .f32 ← Prog.lift (.load arg11 (Rect.unit (s := S22x2x8x128) ![21, 0, 6, 0] S1x1x2x128.size inb_S22x2x8x128_S1x1x2x128_21_0_6_0).toLoadRect (View.loadsAt_vmem h_S1x1x2x128))
    let v259 : Vec F S1x2x128 .f32 ← Prog.lift (.load arg10 (Rect.unit (s := S1x2x5632) ![0, 0, 5376] S1x2x128.size inb_S1x2x5632_S1x2x128_0_0_5376).toLoadRect (View.loadsAt_vmem h_S1x2x128))
    Prog.lift (.store arg10 (Rect.unit (s := S1x2x5632) ![0, 0, 5376] S1x2x128.size inb_S1x2x5632_S1x2x128_0_0_5376) (k0_pay3 v257) Finset.univ (View.stores_vmem_bits_univ h_S1x2x128 rfl) (.inl rfl))
    let v262 : Vec F S1x1x2x128 .f32 ← Prog.lift (.load arg11 (Rect.unit (s := S22x2x8x128) ![21, 1, 6, 0] S1x1x2x128.size inb_S22x2x8x128_S1x1x2x128_21_1_6_0).toLoadRect (View.loadsAt_vmem h_S1x1x2x128))
    let v264 : Vec F S1x2x128 .f32 ← Prog.lift (.load arg10 (Rect.unit (s := S1x2x5632) ![0, 0, 5504] S1x2x128.size inb_S1x2x5632_S1x2x128_0_0_5504).toLoadRect (View.loadsAt_vmem h_S1x2x128))
    Prog.lift (.store arg10 (Rect.unit (s := S1x2x5632) ![0, 0, 5504] S1x2x128.size inb_S1x2x5632_S1x2x128_0_0_5504) (k0_pay4 v262) Finset.univ (View.stores_vmem_bits_univ h_S1x2x128 rfl) (.inl rfl))
    pure ⟨⟩

/-- The block before is normalized. -/
def finProg (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole) : Prog (TpuEff nD τ sig (Elt F) Λ₀ .tc) PUnit := do
    let v47 : Vec F S512x1024 .f32 ← Prog.lift (.load arg16 (Rect.unit (s := S512x1024) ![0, 0] S512x1024.size inb_S512x1024_S512x1024_0_0).toLoadRect (View.loadsAt_vmem h_S512x1024))
    let v48 : Vec F S1x1024 .f32 ← Prog.lift (.load arg7 (Rect.unit (s := S1x1024) ![0, 0] S1x1024.size inb_S1x1024_S1x1024_0_0).toLoadRect (View.loadsAt_vmem h_S1x1024))
    let v49 : Vec F S1x1024 .f32 ← Prog.lift (.load arg8 (Rect.unit (s := S1x1024) ![0, 0] S1x1024.size inb_S1x1024_S1x1024_0_0).toLoadRect (View.loadsAt_vmem h_S1x1024))
    let v70 : Vec F S1x512x1024 .f32 ← Prog.lift (.load arg9 (Rect.unit (s := S1x512x1024) ![0, 0, 0] S1x512x1024.size inb_S1x512x1024_S1x512x1024_0_0_0).toLoadRect (View.loadsAt_vmem h_S1x512x1024))
    Prog.lift (.store arg9 (Rect.unit (s := S1x512x1024) ![0, 0, 0] S1x512x1024.size inb_S1x512x1024_S1x512x1024_0_0_0) (k0_pay5 v47 v48 v49) Finset.univ (View.stores_vmem_bits_univ h_S1x512x1024 rfl) (.inl rfl))
    pure ⟨⟩

set_option maxHeartbeats 4000000 in
/-- The printed body is the four programs in a row. -/
theorem body_eq (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole) :
    cc0_conv_ffn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (do
  let ⟨arg0, v17, v27, v36⟩ : Σ' (arg0 : BitVec 32) (v17 : BitVec 32) (v27 : BitVec 32), BitVec 1 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  if h : k0_cond3 i = 1#1 then tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 h else pure ⟨⟩
  if h : k0_cond4 i = 1#1 then saveProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩
  if h : k0_cond5 i = 1#1 then finProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩
  pure ⟨⟩) := by
  rw [cc0_conv_ffn_eq_skeleton]; rfl

set_option maxHeartbeats 1796000 in set_option sl_exec.squeezeSlice true in
/-- The tile on whole buffers: what its stores leave in the block window, the carry and the pending block, as pieces. -/
def tileRun (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole) (v17 : BitVec 32) (hc2 : k0_cond3 i = 1#1)
    (x0 : Vec F S1x512x1024 .f32) (x1 : Vec F S8x3072 .f32) (x2 : Vec F S1024x5632 .bf16) (x3 : Vec F S3x5632 .f32) (x4 : Vec F S1x5632 .f32) (x5 : Vec F S2816x1024 .bf16) (x6 : Vec F S1x1024 .f32) (x7 : Vec F S1x1024 .f32) (xs0 : Vec F S22x2x8x128 .f32) (xs5 : Vec F S512x1024 .f32) :
    Σ' (LO : List (View.Piece (Elt F) S1x512x1024 .f32)), Σ' (LC : List (View.Piece (Elt F) S22x2x8x128 .f32)), { LP : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ (∃ f, arg11.view.loc (c : Thread nD τ) ↦[arg11.view.set]{fullShare} arg11.view.writes (Elt F) f LC) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LP)) -∗ K ⟨⟩))
          ⊢ wp frame (wpE (defs₀ (F := F)) Variants.none c none) E (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2) K } := by
  refine ⟨?_, ?_, ?_, fun E K => ?run⟩
  case run =>
    unfold tileProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f11, %hf11, H11⟩, ⟨%d12, %f12, -, H12⟩, ⟨%d13, %f13, -, H13⟩, ⟨%d14, %f14, -, H14⟩, ⟨%d15, %f15, -, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg16.eq_unread hf16
    sl_exec (disch := sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H11]; · iexists _; iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    iexists _; iexact H16

set_option maxHeartbeats 1796000 in set_option sl_exec.squeezeSlice true in
/-- The saving of the state on whole buffers. -/
def saveRun (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole)
    (xs0 : Vec F S22x2x8x128 .f32) :
    { LV : List (View.Piece (Elt F) S1x2x5632 .f32) //
      ∀ (E : Set ℕ) (K : PUnit → sProp 𝕄),
        iprop((∃ d, owns (c : Thread nD τ) arg10 fullShare d) ∗ owns (c : Thread nD τ) arg11 fullShare xs0
            ∗ (iprop((∃ f, arg10.view.loc (c : Thread nD τ) ↦[arg10.view.set]{fullShare} arg10.view.writes (Elt F) f LV) ∗ owns (c : Thread nD τ) arg11 fullShare xs0) -∗ K ⟨⟩))
          ⊢ wp frame (wpE (defs₀ (F := F)) Variants.none c none) E (saveProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    unfold saveProg
    simp only [k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%d10, %f10, -, H10⟩, ⟨%f11, %hf11, H11⟩, Hk⟩
    obtain rfl := harg11.eq_unread hf11
    sl_exec
    sl_step
    iapply Hk
    isplitl [H10]; · iexists _; iexact H10
    iexists _; isplitr; · ipureintro; exact harg11.read_unread _
    iexact H11

set_option maxHeartbeats 1796000 in set_option sl_exec.squeezeSlice true in
/-- The normalization of the pending block on whole buffers. -/
def finRun (c : Dev nD) (i : grid0.Coords) (arg1 : Memref sig .tc .vmem S1x512x1024 .f32) (harg1 : arg1.IsWhole) (arg2 : Memref sig .tc .vmem S8x3072 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x2x5632 .f32) (harg10 : arg10.IsWhole) (arg11 : Memref sig .tc .vmem S22x2x8x128 .f32) (harg11 : arg11.IsWhole) (arg12 : Memref sig .tc .vmem S512x1024 .bf16) (harg12 : arg12.IsWhole) (arg13 : Memref sig .tc .vmem S2x2x2x520x128 .f32) (harg13 : arg13.IsWhole) (arg14 : Memref sig .tc .vmem S2x512x2816 .bf16) (harg14 : arg14.IsWhole) (arg15 : Memref sig .tc .vmem S512x1024 .f32) (harg15 : arg15.IsWhole) (arg16 : Memref sig .tc .vmem S512x1024 .f32) (harg16 : arg16.IsWhole)
    (x6 : Vec F S1x1024 .f32) (x7 : Vec F S1x1024 .f32) (xs5 : Vec F S512x1024 .f32) :
    { LO : List (View.Piece (Elt F) S1x512x1024 .f32) //
      ∀ (E : Set ℕ) (K : PUnit → sProp 𝕄),
        iprop(owns (c : Thread nD τ) arg7 fullShare x6 ∗ owns (c : Thread nD τ) arg8 fullShare x7 ∗ (∃ d, owns (c : Thread nD τ) arg9 fullShare d) ∗ owns (c : Thread nD τ) arg16 fullShare xs5
            ∗ (iprop(owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg16 fullShare xs5) -∗ K ⟨⟩))
          ⊢ wp frame (wpE (defs₀ (F := F)) Variants.none c none) E (finProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    unfold finProg
    unfold owns
    iintro ⟨⟨%f7, %hf7, H7⟩, ⟨%f8, %hf8, H8⟩, ⟨%d9, %f9, -, H9⟩, ⟨%f16, %hf16, H16⟩, Hk⟩
    obtain rfl := harg7.eq_unread hf7; obtain rfl := harg8.eq_unread hf8; obtain rfl := harg16.eq_unread hf16
    sl_exec
    sl_step
    iapply Hk
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; isplitr; · ipureintro; exact harg16.read_unread _
    iexact H16

end Cert.Ffn

end
-- ==== Proof.Ffn.Read.lean ====
module

public import proofs.«01_k».proof.Proof.Ffn.Tile
public import Idealize.ShloMosaic.Lib.Pointwise
public import Idealize.ShloMosaic.Lib.Pipeline.ValueKit
public import Idealize.ShloMosaic.Lib.Pipeline.ReadBack

/-! # Reading the feed-forward tile's slabs back

A chunk writes four slabs, one per half and lane tile: first the block's own rows of all four, then, tile by tile,
the eight carried rows.  These lemmas say what one entry of such a buffer is. -/

@[expose] public section

set_option maxRecDepth 16384

noncomputable section

namespace Cert.Ffn

open Cert.Kernel2Ideal Cert.Kernel2Ideal.Gen
open Idealize.ShloMosaic Idealize.ShloMosaic.TcCoe Idealize.ShloMosaic.Tactic

section Lift

/-- A matrix read as a stack of one stack of one stack of it. -/
theorem three_ones {d : Fin 2 → ℕ}
    (h : (⟨2, d⟩ : Shape).numel = (⟨5, Fin.cons 1 (Fin.cons 1 (Fin.cons 1 d))⟩ : Shape).numel) (x : (⟨2, d⟩ : Shape).Idx) :
    Shape.reshapeEquiv h x = Fin.cons ⟨0, Nat.one_pos⟩ (Fin.cons ⟨0, Nat.one_pos⟩ (Fin.cons ⟨0, Nat.one_pos⟩ x)) :=
  Shape.reshapeEquiv_eq_of_rowMajor h (by
    show ((Shape.rowMajorPi (Fin.cons 1 (Fin.cons 1 (Fin.cons 1 d)) : Fin 5 → ℕ)
      (Fin.cons ⟨0, Nat.one_pos⟩ (Fin.cons ⟨0, Nat.one_pos⟩ (Fin.cons ⟨0, Nat.one_pos⟩ x))) : Fin _) : Nat) = (Shape.rowMajorPi d x : Nat)
    rw [Shape.rowMajorPi_succ_val]
    show 0 * _ + ((Shape.rowMajorPi (Fin.cons 1 (Fin.cons 1 d) : Fin 4 → ℕ) (Fin.cons ⟨0, Nat.one_pos⟩ (Fin.cons ⟨0, Nat.one_pos⟩ x)) : Fin _) : Nat) = _
    rw [Nat.zero_mul, Nat.zero_add, Shape.rowMajorPi_succ_val]
    show 0 * _ + ((Shape.rowMajorPi (Fin.cons 1 d : Fin 3 → ℕ) (Fin.cons ⟨0, Nat.one_pos⟩ x) : Fin _) : Nat) = _
    rw [Nat.zero_mul, Nat.zero_add, Shape.rowMajorPi_succ_val]
    show 0 * _ + (Shape.rowMajorPi d x : Nat) = _
    rw [Nat.zero_mul, Nat.zero_add])

variable {o n : ℕ} (inb' : ∀ a, (![o, 0] : Fin 2 → ℕ) a + (![n, 128] : Fin 2 → ℕ) a ≤ S520x128.size a)

/-- Rows of one slab, as a part of the stack of slabs. -/
@[reducible] def lift3 : Rect S1x1x1x520x128 :=
  (((Rect.unit (s := S520x128) ![o, 0] ![n, 128] inb').consLift ![1, 520, 128] (by rfl) (by intro i; fin_cases i <;> rfl)).consLift
    ![1, 1, 520, 128] (by rfl) (by intro i; fin_cases i <;> rfl)).consLift ![1, 1, 1, 520, 128] (by rfl) (by intro i; fin_cases i <;> rfl)

/-- The same rows, to be loaded. -/
@[reducible] def lift3L : LoadRect S1x1x1x520x128 :=
  (((Rect.unit (s := S520x128) ![o, 0] ![n, 128] inb').toLoadRect.consLift ![1, 520, 128] (by rfl) (by intro i; fin_cases i <;> rfl)).consLift
    ![1, 1, 520, 128] (by rfl) (by intro i; fin_cases i <;> rfl)).consLift ![1, 1, 1, 520, 128] (by rfl) (by intro i; fin_cases i <;> rfl)

end Lift

section Slab

variable {s k q o n : ℕ} {inb : ∀ a, (![s, k, q, 0, 0] : Fin 5 → ℕ) a + S1x1x1x520x128.size a ≤ S2x2x2x520x128.size a}
  {inb' : ∀ a, (![o, 0] : Fin 2 → ℕ) a + (![n, 128] : Fin 2 → ℕ) a ≤ S520x128.size a}
  {hst : ∀ a, (Rect.unit (s := S2x2x2x520x128) ![s, k, q, 0, 0] S1x1x1x520x128.size inb).stride a = 1}

/-- An entry inside a stored block of rows is the block's. -/
theorem slab_hit {e : EltTy} (w : (Rect.unit (s := S520x128) ![o, 0] ![n, 128] inb').shape.Idx → Elt Ideal e)
    (L : List (View.Piece (Elt Ideal) S2x2x2x520x128 e))
    (hR : (lift3 inb').shape.numel = (Rect.unit (s := S520x128) ![o, 0] ![n, 128] inb').shape.numel)
    (y : S2x2x2x520x128.Idx) (r : Fin n) (l : Fin 128) (hy0 : (y 0).val = s) (hy1 : (y 1).val = k) (hy2 : (y 2).val = q)
    (hy3 : (y 3).val = o + r.val) (hy4 : (y 4).val = l.val) :
    View.canon (⟨(Rect.unit (s := S2x2x2x520x128) ![s, k, q, 0, 0] S1x1x1x520x128.size inb).within (lift3 inb') hst,
        Rect.payAlong hR w⟩ :: L) y = w (ix2 r l) := by
  let x : (lift3 inb').shape.Idx :=
    Fin.cons (⟨0, Nat.one_pos⟩ : Fin 1) (Fin.cons (⟨0, Nat.one_pos⟩ : Fin 1) (Fin.cons (⟨0, Nat.one_pos⟩ : Fin 1) (ix2 r l)))
  have hx := View.canon_cons_emb (Val := Elt Ideal)
    ((Rect.unit (s := S2x2x2x520x128) ![s, k, q, 0, 0] S1x1x1x520x128.size inb).within (lift3 inb') hst) (Rect.payAlong hR w) L x
  have hy : y = ((Rect.unit (s := S2x2x2x520x128) ![s, k, q, 0, 0] S1x1x1x520x128.size inb).within (lift3 inb') hst).emb x := by
    funext a
    apply Fin.ext
    refine Eq.trans ?_ (Rect.emb_apply
      ((Rect.unit (s := S2x2x2x520x128) ![s, k, q, 0, 0] S1x1x1x520x128.size inb).within (lift3 inb') hst) x a).symm
    match a with
    | 0 => show (y 0).val = s + 0 + 1 * 0; omega
    | 1 => show (y 1).val = k + 0 + 1 * 0; omega
    | 2 => show (y 2).val = q + 0 + 1 * 0; omega
    | 3 => show (y 3).val = 0 + o + 1 * r.val; omega
    | 4 => show (y 4).val = 0 + 0 + 1 * l.val; omega
  rw [hy, hx]
  refine congrArg w ?_
  rw [← Shape.reshapeEquiv_symm hR.symm, Equiv.symm_apply_eq]
  exact (three_ones hR.symm (ix2 r l)).symm

/-- An entry outside a stored block of rows is what was there before. -/
theorem slab_miss {e : EltTy} {w} {L : List (View.Piece (Elt Ideal) S2x2x2x520x128 e)} (y : S2x2x2x520x128.Idx)
    (hy : (y 0).val ≠ s ∨ (y 1).val ≠ k ∨ (y 2).val ≠ q ∨ (y 3).val < o ∨ o + n ≤ (y 3).val) :
    View.canon (⟨(Rect.unit (s := S2x2x2x520x128) ![s, k, q, 0, 0] S1x1x1x520x128.size inb).within (lift3 inb') hst, w⟩ :: L) y
      = View.canon L y := by
  refine View.canon_cons_of_not_mem _ _ fun hm => ?_
  rw [LoadRect.mem_set] at hm
  obtain ⟨j0, hj0, e0⟩ := hm 0
  obtain ⟨j1, hj1, e1⟩ := hm 1
  obtain ⟨j2, hj2, e2⟩ := hm 2
  obtain ⟨j3, hj3, e3⟩ := hm 3
  change j0 < 1 at hj0
  change j1 < 1 at hj1
  change j2 < 1 at hj2
  change j3 < n at hj3
  change (y 0).val = s + 0 + 1 * j0 at e0
  change (y 1).val = k + 0 + 1 * j1 at e1
  change (y 2).val = q + 0 + 1 * j2 at e2
  change (y 3).val = 0 + o + 1 * j3 at e3
  omega

/-- A load of rows of one slab reads the slabs' entries there. -/
theorem slab_read {e : EltTy} {arg : Memref sig .tc .vmem S2x2x2x520x128 e} (L : List (View.Piece (Elt Ideal) S2x2x2x520x128 e))
    (hR : (Rect.unit (s := S520x128) ![o, 0] ![n, 128] inb').toLoadRect.shape.numel = (lift3L inb').shape.numel)
    (y : S2x2x2x520x128.Idx) (r : Fin n) (l : Fin 128) (hy0 : (y 0).val = s) (hy1 : (y 1).val = k) (hy2 : (y 2).val = q)
    (hy3 : (y 3).val = o + r.val) (hy4 : (y 4).val = l.val) :
    LoadRect.valAlong hR (arg.view.readCov L
      ((Rect.unit (s := S2x2x2x520x128) ![s, k, q, 0, 0] S1x1x1x520x128.size inb).withinL (lift3L inb') hst)) (ix2 r l)
      = View.canon L y := by
  rw [View.readCov_eq_canon']
  show View.canon L _ = View.canon L y
  congr 1
  funext a
  apply Fin.ext
  refine (LoadRect.idx_apply _ _ a).trans ?_
  have hz : ∀ a : Fin 5, (Shape.reshapeEquiv hR (ix2 r l) a).val = ((Fin.cons (⟨0, Nat.one_pos⟩ : Fin 1)
      (Fin.cons (⟨0, Nat.one_pos⟩ : Fin 1) (Fin.cons (⟨0, Nat.one_pos⟩ : Fin 1) (ix2 r l))) : (lift3L inb').shape.Idx) a).val :=
    fun a => congrArg Fin.val (congrFun (three_ones hR (ix2 r l)) a)
  match a with
  | 0 => have h := hz 0; change _ = 0 at h; show s + 0 + 1 * (Shape.reshapeEquiv hR (ix2 r l) 0).val = (y 0).val; omega
  | 1 => have h := hz 1; change _ = 0 at h; show k + 0 + 1 * (Shape.reshapeEquiv hR (ix2 r l) 1).val = (y 1).val; omega
  | 2 => have h := hz 2; change _ = 0 at h; show q + 0 + 1 * (Shape.reshapeEquiv hR (ix2 r l) 2).val = (y 2).val; omega
  | 3 => have h := hz 3; change _ = r.val at h; show 0 + o + 1 * (Shape.reshapeEquiv hR (ix2 r l) 3).val = (y 3).val; omega
  | 4 => have h := hz 4; change _ = l.val at h; show 0 + 0 + 1 * (Shape.reshapeEquiv hR (ix2 r l) 4).val = (y 4).val; omega

end Slab

section Own

variable {s k q : ℕ} {inb : ∀ a, (![s, k, q, 8, 0] : Fin 5 → ℕ) a + S1x1x1x512x128.size a ≤ S2x2x2x520x128.size a}

/-- An entry of a slab's own rows is the stored projection's. -/
theorem own_hit {e : EltTy} (w : (Rect.unit (s := S2x2x2x520x128) ![s, k, q, 8, 0] S1x1x1x512x128.size inb).shape.Idx → Elt Ideal e)
    (L : List (View.Piece (Elt Ideal) S2x2x2x520x128 e)) (y : S2x2x2x520x128.Idx) (r : Fin 512) (hy0 : (y 0).val = s)
    (hy1 : (y 1).val = k) (hy2 : (y 2).val = q) (hy3 : (y 3).val = 8 + r.val) :
    View.canon (⟨Rect.unit (s := S2x2x2x520x128) ![s, k, q, 8, 0] S1x1x1x512x128.size inb, w⟩ :: L) y
      = w (ix5 (n0 := 1) (n1 := 1) (n2 := 1) 0 0 0 r (y 4)) := by
  let x : (Rect.unit (s := S2x2x2x520x128) ![s, k, q, 8, 0] S1x1x1x512x128.size inb).shape.Idx :=
    ix5 (n0 := 1) (n1 := 1) (n2 := 1) 0 0 0 r (y 4)
  have hx := View.canon_cons_emb (Val := Elt Ideal) (Rect.unit (s := S2x2x2x520x128) ![s, k, q, 8, 0] S1x1x1x512x128.size inb) w L x
  have hy : y = (Rect.unit (s := S2x2x2x520x128) ![s, k, q, 8, 0] S1x1x1x512x128.size inb).emb x := by
    funext a
    apply Fin.ext
    refine Eq.trans ?_ (Rect.emb_apply (Rect.unit (s := S2x2x2x520x128) ![s, k, q, 8, 0] S1x1x1x512x128.size inb) x a).symm
    match a with
    | 0 => show (y 0).val = s + 1 * 0; omega
    | 1 => show (y 1).val = k + 1 * 0; omega
    | 2 => show (y 2).val = q + 1 * 0; omega
    | 3 => show (y 3).val = 8 + 1 * r.val; omega
    | 4 => show (y 4).val = 0 + 1 * (y 4).val; omega
  exact (congrArg _ hy).trans hx

/-- An entry of another slab is what was there before. -/
theorem own_miss {e : EltTy} {w} {L : List (View.Piece (Elt Ideal) S2x2x2x520x128 e)} (y : S2x2x2x520x128.Idx)
    (hy : (y 0).val ≠ s ∨ (y 1).val ≠ k ∨ (y 2).val ≠ q) :
    View.canon (⟨Rect.unit (s := S2x2x2x520x128) ![s, k, q, 8, 0] S1x1x1x512x128.size inb, w⟩ :: L) y = View.canon L y := by
  refine View.canon_cons_of_not_mem _ _ fun hm => ?_
  rw [LoadRect.mem_set] at hm
  obtain ⟨j0, hj0, e0⟩ := hm 0
  obtain ⟨j1, hj1, e1⟩ := hm 1
  obtain ⟨j2, hj2, e2⟩ := hm 2
  change j0 < 1 at hj0
  change j1 < 1 at hj1
  change j2 < 1 at hj2
  change (y 0).val = s + 1 * j0 at e0
  change (y 1).val = k + 1 * j1 at e1
  change (y 2).val = q + 1 * j2 at e2
  omega

end Own

section Payload

/-- The two constants of the approximated activation: a literal, and one named. -/
def gK : EReal := Ideal.ofBits FTy.f32 1061962282#32
def gKA : EReal := Named.named (F := Ideal) (φ := .f32) κ "gelu_ka" 0x3D122279#32

/-- The activation as the kernel writes it, times the other half. -/
def gate2 (x v : EReal) : EReal :=
  x * v * (Ideal.ofBits FTy.f32 1056964608#32
    + Ideal.ofBits FTy.f32 1056964608#32 * Ideal.tanh (x * (gK + gKA * (x * x))))

theorem upay0_apply (h : Vec Ideal S512x1024 .bf16) (w : Vec Ideal S1024x256 .bf16) (r : Fin 512) (l : Fin 128) :
    k0_pay11 h w (ix5 0 0 0 r l) = ∑ k : Fin 1024, h (ix2 r k) * w (ix2 k ⟨l.val, by omega⟩) := by
  pointwise [k0_pay11, k0_pay10]

theorem upay1_apply (h : Vec Ideal S512x1024 .bf16) (w : Vec Ideal S1024x256 .bf16) (r : Fin 512) (l : Fin 128) :
    k0_pay12 h w (ix5 0 0 0 r l) = ∑ k : Fin 1024, h (ix2 r k) * w (ix2 k ⟨128 + l.val, by omega⟩) := by
  pointwise [k0_pay12, k0_pay10]

theorem cpay_apply (a : Vec Ideal S1x1x8x128 .f32) (r : Fin 8) (l : Fin 128) : k0_pay16 a (ix2 r l) = a (ix4 0 0 r l) := by
  pointwise [k0_pay16]

theorem kpay_apply (a : Vec Ideal S8x128 .f32) (r : Fin 8) (l : Fin 128) : k0_pay20 a (ix4 0 0 r l) = a (ix2 r l) := by
  pointwise [k0_pay20]

theorem vpay_apply (cw : Vec Ideal S3x128 .f32) (cb : Vec Ideal S1x128 .f32) (s6 s7 s8 : Vec Ideal S512x128 .f32)
    (r : Fin 512) (l : Fin 128) :
    k0_pay19 (k0_pay17 cw s6 s7) s8 (k0_pay18 cw) cb (ix2 r l)
      = cw (ix2 0 l) * s6 (ix2 r l) + cw (ix2 1 l) * s7 (ix2 r l) + cw (ix2 2 l) * s8 (ix2 r l) + cb (ix2 0 l) := by
  pointwise [k0_pay19, k0_pay17, k0_pay18]

theorem xpay_apply (cw : Vec Ideal S3x128 .f32) (cb : Vec Ideal S1x128 .f32) (s6 s7 s8 : Vec Ideal S512x128 .f32)
    (r : Fin 512) (l : Fin 128) :
    k0_pay23 cw (k0_pay22 cw s6) s7 s8 cb (ix2 r l)
      = cw (ix2 0 l) * s6 (ix2 r l) + cw (ix2 1 l) * s7 (ix2 r l) + cw (ix2 2 l) * s8 (ix2 r l) + cb (ix2 0 l) := by
  pointwise [k0_pay23, k0_pay22]

theorem gpay_apply (cw : Vec Ideal S3x128 .f32) (t b7 b8 v : FVec Ideal S512x128 .f32) (cb : Vec Ideal S1x128 .f32)
    (r : Fin 512) (l : Fin 128) :
    k0_pay27 (k0_pay25 cw t b7 b8 cb) (k0_pay26 v cw t b7 b8 cb) (ix3 0 r l)
      = gate2 (k0_pay23 cw t b7 b8 cb (ix2 r l)) (v (ix2 r l)) := by
  unfold gate2 gK gKA
  generalize hx : k0_pay23 cw t b7 b8 cb = x
  unfold k0_pay27 k0_pay25 k0_pay26
  rw [hx]
  pointwise []

end Payload

section Spec

/-- A load of a rectangle of a whole buffer reads the buffer's entries there. -/
theorem read_at {s : Shape} {e : EltTy} {arg : Memref sig .tc .vmem s e} (harg : arg.IsWhole) (x : Vec Ideal s e)
    {off size : Fin s.rank → ℕ} {inb : ∀ a, off a + size a ≤ s.size a} (j : (Rect.unit off size inb).toLoadRect.shape.Idx)
    (y : s.Idx) (h : ∀ a, (y a).val = off a + (j a).val) :
    View.readAt (Elt Ideal) arg.view (Rect.unit off size inb).toLoadRect (harg.unread x) j = x y := by
  show arg.view.read (Elt Ideal) (harg.unread x) _ = x y
  rw [harg.read_unread]
  congr 1
  funext a
  apply Fin.ext
  refine (LoadRect.idx_apply _ _ a).trans ?_
  show off a + 1 * (j a).val = _
  rw [h a, Nat.one_mul]

/-- One entry of the up projection of a block of rows. -/
def zS (h : Vec Ideal S512x1024 .bf16) (w : Vec Ideal S1024x5632 .bf16) (r j : ℕ) : EReal :=
  ∑ k : Fin 1024, h (ix2 (Fin.ofNat 512 r) k) * w (ix2 k (Fin.ofNat 5632 j))

/-- The rows a block's convolution reads: eight carried ones, then the block's own. -/
def extS (h : Vec Ideal S512x1024 .bf16) (w : Vec Ideal S1024x5632 .bf16) (cy : Vec Ideal S22x2x8x128 .f32) (ρ j : ℕ) : EReal :=
  if ρ < 8 then cy (ix4 (Fin.ofNat 22 (j / 256)) (Fin.ofNat 2 (j / 128)) (Fin.ofNat 8 ρ) (Fin.ofNat 128 j))
  else zS h w (ρ - 8) j

/-- The convolution of a block of rows. -/
def convS (h : Vec Ideal S512x1024 .bf16) (w : Vec Ideal S1024x5632 .bf16) (cw : Vec Ideal S3x5632 .f32) (cb : Vec Ideal S1x5632 .f32)
    (cy : Vec Ideal S22x2x8x128 .f32) (r j : ℕ) : EReal :=
  cw (ix2 0 (Fin.ofNat 5632 j)) * extS h w cy (6 + r) j + cw (ix2 1 (Fin.ofNat 5632 j)) * extS h w cy (7 + r) j
    + cw (ix2 2 (Fin.ofNat 5632 j)) * extS h w cy (8 + r) j + cb (ix2 0 (Fin.ofNat 5632 j))

/-- The gated activations of a block of rows. -/
def actS (h : Vec Ideal S512x1024 .bf16) (w : Vec Ideal S1024x5632 .bf16) (cw : Vec Ideal S3x5632 .f32) (cb : Vec Ideal S1x5632 .f32)
    (cy : Vec Ideal S22x2x8x128 .f32) (r j : ℕ) : EReal :=
  gate2 (convS h w cw cb cy r (2816 + j)) (convS h w cw cb cy r j)

/-- A buffer of slabs whose slot `s` holds the own rows of chunk `c`. -/
def Own (h : Vec Ideal S512x1024 .bf16) (w : Vec Ideal S1024x5632 .bf16) (s c : ℕ)
    (L : List (View.Piece (Elt Ideal) S2x2x2x520x128 .f32)) : Prop :=
  ∀ y : S2x2x2x520x128.Idx, (y 0).val = s → 8 ≤ (y 3).val →
    View.canon L y = zS h w ((y 3).val - 8) (2816 * (y 1).val + 256 * c + 128 * (y 2).val + (y 4).val)

/-- A buffer of slabs whose slab `s, k, q` holds the columns from `j` on. -/
def Slab (h : Vec Ideal S512x1024 .bf16) (w : Vec Ideal S1024x5632 .bf16) (cy : Vec Ideal S22x2x8x128 .f32) (s k q j : ℕ)
    (L : List (View.Piece (Elt Ideal) S2x2x2x520x128 .f32)) : Prop :=
  ∀ y : S2x2x2x520x128.Idx, (y 0).val = s → (y 1).val = k → (y 2).val = q →
    View.canon L y = extS h w cy (y 3).val (j + (y 4).val)

variable {h : Vec Ideal S512x1024 .bf16} {w : Vec Ideal S1024x5632 .bf16} {cy : Vec Ideal S22x2x8x128 .f32}
  {arg3 : Memref sig .tc .vmem S1024x5632 .bf16} {arg11 : Memref sig .tc .vmem S22x2x8x128 .f32}

/-- Four stored projections of one chunk. -/
theorem own4 (harg3 : arg3.IsWhole) {s c o0 o1 : ℕ} (hc : c < 11) (e0 : o0 = 256 * c) (e1 : o1 = 2816 + 256 * c) {i0 i1 i2 i3 j0 j1}
    (L : List (View.Piece (Elt Ideal) S2x2x2x520x128 .f32)) : Own h w s c
      (⟨Rect.unit (s := S2x2x2x520x128) ![s, 1, 1, 8, 0] S1x1x1x512x128.size i3,
          k0_pay12 h (View.readAt (Elt Ideal) arg3.view (Rect.unit (s := S1024x5632) ![0, o1] S1024x256.size j1).toLoadRect (harg3.unread w))⟩
        :: ⟨Rect.unit (s := S2x2x2x520x128) ![s, 1, 0, 8, 0] S1x1x1x512x128.size i2,
          k0_pay11 h (View.readAt (Elt Ideal) arg3.view (Rect.unit (s := S1024x5632) ![0, o1] S1024x256.size j1).toLoadRect (harg3.unread w))⟩
        :: ⟨Rect.unit (s := S2x2x2x520x128) ![s, 0, 1, 8, 0] S1x1x1x512x128.size i1,
          k0_pay12 h (View.readAt (Elt Ideal) arg3.view (Rect.unit (s := S1024x5632) ![0, o0] S1024x256.size j0).toLoadRect (harg3.unread w))⟩
        :: ⟨Rect.unit (s := S2x2x2x520x128) ![s, 0, 0, 8, 0] S1x1x1x512x128.size i0,
          k0_pay11 h (View.readAt (Elt Ideal) arg3.view (Rect.unit (s := S1024x5632) ![0, o0] S1024x256.size j0).toLoadRect (harg3.unread w))⟩
        :: L) := by
  intro y hy h8
  have h1 : (y 1).val < 2 := (y 1).isLt
  have h2 : (y 2).val < 2 := (y 2).isLt
  have h3 : (y 3).val < 520 := (y 3).isLt
  have h4 : (y 4).val < 128 := (y 4).isLt
  have hread : ∀ (o t : ℕ) (j : ∀ a, (![0, o] : Fin 2 → ℕ) a + S1024x256.size a ≤ S1024x5632.size a) (k : Fin 1024) (ht : t < 256),
      o + t < 5632 →
      View.readAt (Elt Ideal) arg3.view (Rect.unit (s := S1024x5632) ![0, o] S1024x256.size j).toLoadRect (harg3.unread w) (ix2 k ⟨t, ht⟩)
        = w (ix2 k (Fin.ofNat 5632 (o + t))) := fun o t j k ht ho => by
    refine read_at harg3 w _ _ fun a => ?_
    match a with
    | 0 => show k.val = 0 + k.val; omega
    | 1 => show (o + t) % 5632 = o + t; omega
  have hrow : (⟨(y 3).val - 8, by omega⟩ : Fin 512) = Fin.ofNat 512 ((y 3).val - 8) :=
    Fin.ext (show (y 3).val - 8 = ((y 3).val - 8) % 512 by omega)
  have hfin : ∀ (o t : ℕ) (j : ∀ a, (![0, o] : Fin 2 → ℕ) a + S1024x256.size a ≤ S1024x5632.size a) (ht : t < 256),
      o + t = 2816 * (y 1).val + 256 * c + 128 * (y 2).val + (y 4).val →
      (∑ k : Fin 1024, h (ix2 (⟨(y 3).val - 8, by omega⟩ : Fin 512) k)
        * View.readAt (Elt Ideal) arg3.view (Rect.unit (s := S1024x5632) ![0, o] S1024x256.size j).toLoadRect (harg3.unread w) (ix2 k ⟨t, ht⟩))
        = zS h w ((y 3).val - 8) (2816 * (y 1).val + 256 * c + 128 * (y 2).val + (y 4).val) := fun o t j ht e => by
    refine Finset.sum_congr rfl fun k _ => ?_
    rw [hread o t j k ht (by omega), e, hrow]
  have hr : (y 3).val = 8 + (⟨(y 3).val - 8, by omega⟩ : Fin 512).val := by show _ = 8 + ((y 3).val - 8); omega
  by_cases hk : (y 1).val = 1
  · by_cases hq : (y 2).val = 1
    · rw [own_hit _ _ y ⟨(y 3).val - 8, by omega⟩ hy hk hq hr]
      exact (upay1_apply h _ _ (y 4)).trans (hfin o1 _ j1 (by omega) (by omega))
    · rw [own_miss y (by omega), own_hit _ _ y ⟨(y 3).val - 8, by omega⟩ hy hk (by omega) hr]
      exact (upay0_apply h _ _ (y 4)).trans (hfin o1 _ j1 (by omega) (by omega))
  · rw [own_miss y (by omega), own_miss y (by omega)]
    by_cases hq : (y 2).val = 1
    · rw [own_hit _ _ y ⟨(y 3).val - 8, by omega⟩ hy (by omega) hq hr]
      exact (upay1_apply h _ _ (y 4)).trans (hfin o0 _ j0 (by omega) (by omega))
    · rw [own_miss y (by omega), own_hit _ _ y ⟨(y 3).val - 8, by omega⟩ hy (by omega) (by omega) hr]
      exact (upay0_apply h _ _ (y 4)).trans (hfin o0 _ j0 (by omega) (by omega))

section Head

variable {s k q : ℕ} {inb : ∀ a, (![s, k, q, 0, 0] : Fin 5 → ℕ) a + S1x1x1x520x128.size a ≤ S2x2x2x520x128.size a}
  {inb' : ∀ a, (![0, 0] : Fin 2 → ℕ) a + (![8, 128] : Fin 2 → ℕ) a ≤ S520x128.size a}
  {hst : ∀ a, (Rect.unit (s := S2x2x2x520x128) ![s, k, q, 0, 0] S1x1x1x520x128.size inb).stride a = 1}
  {L : List (View.Piece (Elt Ideal) S2x2x2x520x128 .f32)}

/-- Carried rows leave the own rows as they are. -/
theorem own_head {s' c : ℕ} {v} (hL : Own h w s' c L) : Own h w s' c
    (⟨(Rect.unit (s := S2x2x2x520x128) ![s, k, q, 0, 0] S1x1x1x520x128.size inb).within (lift3 inb') hst, v⟩ :: L) := fun y h0 h8 =>
  (slab_miss (n := 8) y (by omega)).trans (hL y h0 h8)

/-- Carried rows over own rows make a slab. -/
theorem slab_head (harg11 : arg11.IsWhole) {c C j : ℕ} (hc : c < 11) (hk : k < 2) (hq : q < 2) (hC : C = 11 * k + c)
    (hj : j = 2816 * k + 256 * c + 128 * q)
    (hR : (lift3 inb').shape.numel = (Rect.unit (s := S520x128) ![0, 0] ![8, 128] inb').shape.numel)
    {j1 : ∀ a, (![C, q, 0, 0] : Fin 4 → ℕ) a + S1x1x8x128.size a ≤ S22x2x8x128.size a} (hL : Own h w s c L) : Slab h w cy s k q j
    (⟨(Rect.unit (s := S2x2x2x520x128) ![s, k, q, 0, 0] S1x1x1x520x128.size inb).within (lift3 inb') hst,
      Rect.payAlong hR (k0_pay16 (View.readAt (Elt Ideal) arg11.view
        (Rect.unit (s := S22x2x8x128) ![C, q, 0, 0] S1x1x8x128.size j1).toLoadRect (harg11.unread cy)))⟩ :: L) := fun y h0 h1 h2 => by
  have h4 : (y 4).val < 128 := (y 4).isLt
  have hj' : j + (y 4).val = 2816 * k + 256 * c + 128 * q + (y 4).val := by omega
  by_cases hρ : (y 3).val < 8
  · refine (slab_hit (o := 0) (n := 8) _ L hR y ⟨(y 3).val, hρ⟩ (y 4) h0 h1 h2 (show _ = 0 + (y 3).val by omega) rfl).trans ?_
    refine (cpay_apply _ _ _).trans ?_
    rw [extS, if_pos hρ]
    refine read_at harg11 cy _ _ fun a => ?_
    match a with
    | 0 => show (j + (y 4).val) / 256 % 22 = C + 0; omega
    | 1 => show (j + (y 4).val) / 128 % 2 = q + 0; omega
    | 2 => show (y 3).val % 8 = 0 + (y 3).val; omega
    | 3 => show (j + (y 4).val) % 128 = 0 + (y 4).val; omega
  · refine (slab_miss (n := 8) y (by omega)).trans ?_
    rw [hL y h0 (by omega), extS, if_neg hρ, h1, h2, hj']

end Head

/-- The four slabs of one chunk. -/
theorem chunk (harg3 : arg3.IsWhole) (harg11 : arg11.IsWhole) {s c o0 o1 C1 : ℕ} (hc : c < 11) (e0 : o0 = 256 * c)
    (e1 : o1 = 2816 + 256 * c) (e2 : C1 = 11 + c) {i0 i1 i2 i3 j0 j1}
    {n0 n1 n2 n3} {inb' : ∀ a, (![0, 0] : Fin 2 → ℕ) a + (![8, 128] : Fin 2 → ℕ) a ≤ S520x128.size a} {t0 t1 t2 t3}
    {hR : (lift3 inb').shape.numel = (Rect.unit (s := S520x128) ![0, 0] ![8, 128] inb').shape.numel}
    {l0 l1 l2 l3}
    (L A B C D : List (View.Piece (Elt Ideal) S2x2x2x520x128 .f32))
    (hA : A = ⟨(Rect.unit (s := S2x2x2x520x128) ![s, 0, 0, 0, 0] S1x1x1x520x128.size n0).within (lift3 inb') t0,
        Rect.payAlong hR (k0_pay16 (View.readAt (Elt Ideal) arg11.view
          (Rect.unit (s := S22x2x8x128) ![c, 0, 0, 0] S1x1x8x128.size l0).toLoadRect (harg11.unread cy)))⟩
      :: ⟨Rect.unit (s := S2x2x2x520x128) ![s, 1, 1, 8, 0] S1x1x1x512x128.size i3,
          k0_pay12 h (View.readAt (Elt Ideal) arg3.view (Rect.unit (s := S1024x5632) ![0, o1] S1024x256.size j1).toLoadRect (harg3.unread w))⟩
      :: ⟨Rect.unit (s := S2x2x2x520x128) ![s, 1, 0, 8, 0] S1x1x1x512x128.size i2,
          k0_pay11 h (View.readAt (Elt Ideal) arg3.view (Rect.unit (s := S1024x5632) ![0, o1] S1024x256.size j1).toLoadRect (harg3.unread w))⟩
      :: ⟨Rect.unit (s := S2x2x2x520x128) ![s, 0, 1, 8, 0] S1x1x1x512x128.size i1,
          k0_pay12 h (View.readAt (Elt Ideal) arg3.view (Rect.unit (s := S1024x5632) ![0, o0] S1024x256.size j0).toLoadRect (harg3.unread w))⟩
      :: ⟨Rect.unit (s := S2x2x2x520x128) ![s, 0, 0, 8, 0] S1x1x1x512x128.size i0,
          k0_pay11 h (View.readAt (Elt Ideal) arg3.view (Rect.unit (s := S1024x5632) ![0, o0] S1024x256.size j0).toLoadRect (harg3.unread w))⟩
      :: L)
    (hB : B = ⟨(Rect.unit (s := S2x2x2x520x128) ![s, 1, 0, 0, 0] S1x1x1x520x128.size n1).within (lift3 inb') t1,
        Rect.payAlong hR (k0_pay16 (View.readAt (Elt Ideal) arg11.view
          (Rect.unit (s := S22x2x8x128) ![C1, 0, 0, 0] S1x1x8x128.size l1).toLoadRect (harg11.unread cy)))⟩ :: A)
    (hC : C = ⟨(Rect.unit (s := S2x2x2x520x128) ![s, 0, 1, 0, 0] S1x1x1x520x128.size n2).within (lift3 inb') t2,
        Rect.payAlong hR (k0_pay16 (View.readAt (Elt Ideal) arg11.view
          (Rect.unit (s := S22x2x8x128) ![c, 1, 0, 0] S1x1x8x128.size l2).toLoadRect (harg11.unread cy)))⟩ :: B)
    (hD : D = ⟨(Rect.unit (s := S2x2x2x520x128) ![s, 1, 1, 0, 0] S1x1x1x520x128.size n3).within (lift3 inb') t3,
        Rect.payAlong hR (k0_pay16 (View.readAt (Elt Ideal) arg11.view
          (Rect.unit (s := S22x2x8x128) ![C1, 1, 0, 0] S1x1x8x128.size l3).toLoadRect (harg11.unread cy)))⟩ :: C) :
    Slab h w cy s 0 0 (256 * c) A ∧ Slab h w cy s 1 0 (2816 + 256 * c) B ∧ Slab h w cy s 0 1 (256 * c + 128) C
      ∧ Slab h w cy s 1 1 (2816 + 256 * c + 128) D := by
  have o := own4 (h := h) (w := w) harg3 (s := s) hc e0 e1 (i0 := i0) (i1 := i1) (i2 := i2) (i3 := i3) (j0 := j0) (j1 := j1) L
  have oA : Own h w s c A := hA ▸ own_head o
  have oB : Own h w s c B := hB ▸ own_head oA
  have oC : Own h w s c C := hC ▸ own_head oB
  refine ⟨?_, ?_, ?_, ?_⟩
  · rw [hA]; exact slab_head harg11 hc (by omega) (by omega) (by omega) (by omega) hR o
  · rw [hB]; exact slab_head harg11 hc (by omega) (by omega) (by omega) (by omega) hR oA
  · rw [hC]; exact slab_head harg11 hc (by omega) (by omega) (by omega) (by omega) hR oB
  · rw [hD]; exact slab_head harg11 hc (by omega) (by omega) (by omega) (by omega) hR oC

/-- A load of some rows of a slab, by absolute row and column. -/
theorem slab_row {s k q o n j : ℕ} {arg13 : Memref sig .tc .vmem S2x2x2x520x128 .f32}
    {L : List (View.Piece (Elt Ideal) S2x2x2x520x128 .f32)} (hL : Slab h w cy s k q j L)
    {inb : ∀ a, (![s, k, q, 0, 0] : Fin 5 → ℕ) a + S1x1x1x520x128.size a ≤ S2x2x2x520x128.size a}
    {inb' : ∀ a, (![o, 0] : Fin 2 → ℕ) a + (![n, 128] : Fin 2 → ℕ) a ≤ S520x128.size a}
    {hst : ∀ a, (Rect.unit (s := S2x2x2x520x128) ![s, k, q, 0, 0] S1x1x1x520x128.size inb).stride a = 1}
    (hR : (Rect.unit (s := S520x128) ![o, 0] ![n, 128] inb').toLoadRect.shape.numel = (lift3L inb').shape.numel) (r : Fin n) (l : Fin 128) :
    LoadRect.valAlong hR (arg13.view.readCov L
      ((Rect.unit (s := S2x2x2x520x128) ![s, k, q, 0, 0] S1x1x1x520x128.size inb).withinL (lift3L inb') hst)) (ix2 r l)
      = extS h w cy (o + r.val) (j + l.val) := by
  have h0 : s < 2 := by have := inb 0; change s + 1 ≤ 2 at this; omega
  have h1 : k < 2 := by have := inb 1; change k + 1 ≤ 2 at this; omega
  have h2 : q < 2 := by have := inb 2; change q + 1 ≤ 2 at this; omega
  have h3 : o + n ≤ 520 := inb' 0
  exact (slab_read L hR (ix5 (n0 := 2) (n1 := 2) (n2 := 2) (n3 := 520) (n4 := 128) ⟨s, h0⟩ ⟨k, h1⟩ ⟨q, h2⟩ ⟨o + r.val, by omega⟩ l)
    r l rfl rfl rfl rfl rfl).trans (hL _ rfl rfl rfl)

/-- The rows a slab leaves to the next block. -/
theorem keep_val {s k q j : ℕ} {arg13 : Memref sig .tc .vmem S2x2x2x520x128 .f32}
    {L : List (View.Piece (Elt Ideal) S2x2x2x520x128 .f32)} (hL : Slab h w cy s k q j L)
    {inb : ∀ a, (![s, k, q, 0, 0] : Fin 5 → ℕ) a + S1x1x1x520x128.size a ≤ S2x2x2x520x128.size a}
    {inb' : ∀ a, (![512, 0] : Fin 2 → ℕ) a + (![8, 128] : Fin 2 → ℕ) a ≤ S520x128.size a}
    {hst : ∀ a, (Rect.unit (s := S2x2x2x520x128) ![s, k, q, 0, 0] S1x1x1x520x128.size inb).stride a = 1}
    {hR : (Rect.unit (s := S520x128) ![512, 0] ![8, 128] inb').toLoadRect.shape.numel = (lift3L inb').shape.numel} (r : Fin 8) (l : Fin 128) :
    k0_pay20 (LoadRect.valAlong hR (arg13.view.readCov L
      ((Rect.unit (s := S2x2x2x520x128) ![s, k, q, 0, 0] S1x1x1x520x128.size inb).withinL (lift3L inb') hst)))
      (ix4 (n0 := 1) (n1 := 1) 0 0 r l) = extS h w cy (512 + r.val) (j + l.val) :=
  (kpay_apply _ r l).trans (slab_row hL hR r l)

/-- The activations of one lane tile, from its two slabs. -/
theorem act_val {s q j J0 J1 : ℕ} (j0 j1 : ℕ) (hj : j + 128 ≤ 2816) (E0 : J0 = j) (E1 : J1 = 2816 + j) (e0 : j0 = j) (e1 : j1 = 2816 + j)
    {cw : Vec Ideal S3x5632 .f32} {cb : Vec Ideal S1x5632 .f32}
    {arg4 : Memref sig .tc .vmem S3x5632 .f32} (harg4 : arg4.IsWhole) {arg5 : Memref sig .tc .vmem S1x5632 .f32} (harg5 : arg5.IsWhole)
    {arg13 : Memref sig .tc .vmem S2x2x2x520x128 .f32} {L0 L1 : List (View.Piece (Elt Ideal) S2x2x2x520x128 .f32)}
    (h0 : Slab h w cy s 0 q J0 L0) (h1 : Slab h w cy s 1 q J1 L1)
    {n0 : ∀ a, (![s, 0, q, 0, 0] : Fin 5 → ℕ) a + S1x1x1x520x128.size a ≤ S2x2x2x520x128.size a}
    {n1 : ∀ a, (![s, 1, q, 0, 0] : Fin 5 → ℕ) a + S1x1x1x520x128.size a ≤ S2x2x2x520x128.size a}
    {i6 : ∀ a, (![6, 0] : Fin 2 → ℕ) a + (![512, 128] : Fin 2 → ℕ) a ≤ S520x128.size a}
    {i7 : ∀ a, (![7, 0] : Fin 2 → ℕ) a + (![512, 128] : Fin 2 → ℕ) a ≤ S520x128.size a}
    {i8 : ∀ a, (![8, 0] : Fin 2 → ℕ) a + (![512, 128] : Fin 2 → ℕ) a ≤ S520x128.size a}
    {t0 : ∀ a, (Rect.unit (s := S2x2x2x520x128) ![s, 0, q, 0, 0] S1x1x1x520x128.size n0).stride a = 1}
    {t1 : ∀ a, (Rect.unit (s := S2x2x2x520x128) ![s, 1, q, 0, 0] S1x1x1x520x128.size n1).stride a = 1}
    {hR6 : (Rect.unit (s := S520x128) ![6, 0] ![512, 128] i6).toLoadRect.shape.numel = (lift3L i6).shape.numel}
    {hR7 : (Rect.unit (s := S520x128) ![7, 0] ![512, 128] i7).toLoadRect.shape.numel = (lift3L i7).shape.numel}
    {hR8 : (Rect.unit (s := S520x128) ![8, 0] ![512, 128] i8).toLoadRect.shape.numel = (lift3L i8).shape.numel}
    {c0 : ∀ a, (![0, j0] : Fin 2 → ℕ) a + S3x128.size a ≤ S3x5632.size a} {c1 : ∀ a, (![0, j1] : Fin 2 → ℕ) a + S3x128.size a ≤ S3x5632.size a}
    {b0 : ∀ a, (![0, j0] : Fin 2 → ℕ) a + S1x128.size a ≤ S1x5632.size a} {b1 : ∀ a, (![0, j1] : Fin 2 → ℕ) a + S1x128.size a ≤ S1x5632.size a}
    (r : Fin 512) (l : Fin 128) :
    k0_pay27
      (k0_pay25 (View.readAt (Elt Ideal) arg4.view (Rect.unit (s := S3x5632) ![0, j1] S3x128.size c1).toLoadRect (harg4.unread cw))
        (k0_pay22 (View.readAt (Elt Ideal) arg4.view (Rect.unit (s := S3x5632) ![0, j1] S3x128.size c1).toLoadRect (harg4.unread cw))
          (LoadRect.valAlong hR6 (arg13.view.readCov L1 ((Rect.unit (s := S2x2x2x520x128) ![s, 1, q, 0, 0] S1x1x1x520x128.size n1).withinL (lift3L i6) t1))))
        (LoadRect.valAlong hR7 (arg13.view.readCov L1 ((Rect.unit (s := S2x2x2x520x128) ![s, 1, q, 0, 0] S1x1x1x520x128.size n1).withinL (lift3L i7) t1)))
        (LoadRect.valAlong hR8 (arg13.view.readCov L1 ((Rect.unit (s := S2x2x2x520x128) ![s, 1, q, 0, 0] S1x1x1x520x128.size n1).withinL (lift3L i8) t1)))
        (View.readAt (Elt Ideal) arg5.view (Rect.unit (s := S1x5632) ![0, j1] S1x128.size b1).toLoadRect (harg5.unread cb)))
      (k0_pay26
        (k0_pay19
          (k0_pay17 (View.readAt (Elt Ideal) arg4.view (Rect.unit (s := S3x5632) ![0, j0] S3x128.size c0).toLoadRect (harg4.unread cw))
            (LoadRect.valAlong hR6 (arg13.view.readCov L0 ((Rect.unit (s := S2x2x2x520x128) ![s, 0, q, 0, 0] S1x1x1x520x128.size n0).withinL (lift3L i6) t0)))
            (LoadRect.valAlong hR7 (arg13.view.readCov L0 ((Rect.unit (s := S2x2x2x520x128) ![s, 0, q, 0, 0] S1x1x1x520x128.size n0).withinL (lift3L i7) t0))))
          (LoadRect.valAlong hR8 (arg13.view.readCov L0 ((Rect.unit (s := S2x2x2x520x128) ![s, 0, q, 0, 0] S1x1x1x520x128.size n0).withinL (lift3L i8) t0)))
          (k0_pay18 (View.readAt (Elt Ideal) arg4.view (Rect.unit (s := S3x5632) ![0, j0] S3x128.size c0).toLoadRect (harg4.unread cw)))
          (View.readAt (Elt Ideal) arg5.view (Rect.unit (s := S1x5632) ![0, j0] S1x128.size b0).toLoadRect (harg5.unread cb)))
        (View.readAt (Elt Ideal) arg4.view (Rect.unit (s := S3x5632) ![0, j1] S3x128.size c1).toLoadRect (harg4.unread cw))
        (k0_pay22 (View.readAt (Elt Ideal) arg4.view (Rect.unit (s := S3x5632) ![0, j1] S3x128.size c1).toLoadRect (harg4.unread cw))
          (LoadRect.valAlong hR6 (arg13.view.readCov L1 ((Rect.unit (s := S2x2x2x520x128) ![s, 1, q, 0, 0] S1x1x1x520x128.size n1).withinL (lift3L i6) t1))))
        (LoadRect.valAlong hR7 (arg13.view.readCov L1 ((Rect.unit (s := S2x2x2x520x128) ![s, 1, q, 0, 0] S1x1x1x520x128.size n1).withinL (lift3L i7) t1)))
        (LoadRect.valAlong hR8 (arg13.view.readCov L1 ((Rect.unit (s := S2x2x2x520x128) ![s, 1, q, 0, 0] S1x1x1x520x128.size n1).withinL (lift3L i8) t1)))
        (View.readAt (Elt Ideal) arg5.view (Rect.unit (s := S1x5632) ![0, j1] S1x128.size b1).toLoadRect (harg5.unread cb)))
      (ix3 (n0 := 1) 0 r l) = actS h w cw cb cy r.val (j + l.val) := by
  have hcw : ∀ (J : ℕ) (hJ : J + 128 ≤ 5632) (c : ∀ a, (![0, J] : Fin 2 → ℕ) a + S3x128.size a ≤ S3x5632.size a) (t : Fin 3),
      View.readAt (Elt Ideal) arg4.view (Rect.unit (s := S3x5632) ![0, J] S3x128.size c).toLoadRect (harg4.unread cw)
        (ix2 t l) = cw (ix2 t (Fin.ofNat 5632 (J + l.val))) := fun J hJ c t => by
    refine read_at harg4 cw _ _ fun a => ?_
    match a with
    | 0 => show t.val = 0 + t.val; omega
    | 1 => show (J + l.val) % 5632 = J + l.val; omega
  have hcb : ∀ (J : ℕ) (hJ : J + 128 ≤ 5632) (c : ∀ a, (![0, J] : Fin 2 → ℕ) a + S1x128.size a ≤ S1x5632.size a),
      View.readAt (Elt Ideal) arg5.view (Rect.unit (s := S1x5632) ![0, J] S1x128.size c).toLoadRect (harg5.unread cb)
        (ix2 0 l) = cb (ix2 0 (Fin.ofNat 5632 (J + l.val))) := fun J hJ c => by
    refine read_at harg5 cb _ _ fun a => ?_
    match a with
    | 0 => rfl
    | 1 => show (J + l.val) % 5632 = J + l.val; omega
  refine (gpay_apply _ _ _ _ _ _ r l).trans ?_
  refine congr (congrArg gate2 ((xpay_apply _ _ _ _ _ r l).trans ?_)) ((vpay_apply _ _ _ _ _ r l).trans ?_)
  · rw [slab_row h1 hR6 r l, slab_row h1 hR7 r l, slab_row h1 hR8 r l, hcw j1 (by omega), hcw j1 (by omega), hcw j1 (by omega), hcb j1 (by omega),
      e1, E1, Nat.add_assoc 2816]
    rfl
  · rw [slab_row h0 hR6 r l, slab_row h0 hR7 r l, slab_row h0 hR8 r l, hcw j0 (by omega), hcw j0 (by omega), hcw j0 (by omega), hcb j0 (by omega), e0, E0]
    rfl

end Spec

end Cert.Ffn
-- ==== Proof.Ffn.Value.lean ====
module

public import proofs.«01_k».proof.Proof.Ffn.Read

/-! # What one feed-forward tile leaves -/

@[expose] public section

set_option maxRecDepth 16384

noncomputable section

namespace Cert.Ffn

open Cert.Kernel2Ideal Cert.Kernel2Ideal.Gen
open Idealize.ShloMosaic Idealize.ShloMosaic.TcCoe Idealize.ShloMosaic.Tactic

/-- The block's activations, entry by entry. -/
theorem act_step {h : Vec Ideal S512x1024 .bf16} {w : Vec Ideal S1024x5632 .bf16} {cw : Vec Ideal S3x5632 .f32} {cb : Vec Ideal S1x5632 .f32}
    {cy : Vec Ideal S22x2x8x128 .f32} (k oc : ℕ) (hoc : oc = 128 * k)
    {inb : ∀ a, (![0, 0, oc] : Fin 3 → ℕ) a + S1x512x128.size a ≤ S2x512x2816.size a}
    (v : (Rect.unit (s := S2x512x2816) ![0, 0, oc] S1x512x128.size inb).shape.Idx → Elt Ideal .bf16)
    (hv : ∀ (r : Fin 512) (l : Fin 128), v (ix3 (n0 := 1) 0 r l) = actS h w cw cb cy r.val (128 * k + l.val))
    (L : List (View.Piece (Elt Ideal) S2x512x2816 .bf16)) (y : S2x512x2816.Idx) (hy : (y 0).val = 0)
    (hL : ¬((y 2).val / 128 = k) → View.canon L y = actS h w cw cb cy (y 1).val (y 2).val) :
    View.canon (⟨Rect.unit (s := S2x512x2816) ![0, 0, oc] S1x512x128.size inb, v⟩ :: L) y = actS h w cw cb cy (y 1).val (y 2).val := by
  by_cases hk : (y 2).val / 128 = k
  · let x : (Rect.unit (s := S2x512x2816) ![0, 0, oc] S1x512x128.size inb).shape.Idx :=
      ix3 (n0 := 1) 0 (y 1) (⟨(y 2).val % 128, by omega⟩ : Fin 128)
    have hx := View.canon_cons_emb (Val := Elt Ideal) (Rect.unit (s := S2x512x2816) ![0, 0, oc] S1x512x128.size inb) v L x
    have hyx : y = (Rect.unit (s := S2x512x2816) ![0, 0, oc] S1x512x128.size inb).emb x := by
      funext a
      apply Fin.ext
      refine Eq.trans ?_ (Rect.emb_apply (Rect.unit (s := S2x512x2816) ![0, 0, oc] S1x512x128.size inb) x a).symm
      match a with
      | 0 => show (y 0).val = 0 + 1 * 0; omega
      | 1 => show (y 1).val = 0 + 1 * (y 1).val; omega
      | 2 => show (y 2).val = oc + 1 * ((y 2).val % 128); omega
    refine ((congrArg _ hyx).trans hx).trans ((hv (y 1) ⟨(y 2).val % 128, by omega⟩).trans ?_)
    exact congrArg (actS h w cw cb cy (y 1).val) (show 128 * k + (y 2).val % 128 = (y 2).val by omega)
  · rw [View.canon_cons_of_not_mem, hL hk]
    intro hm
    rw [LoadRect.mem_set] at hm
    obtain ⟨j2, hj2, e2⟩ := hm 2
    change j2 < 128 at hj2
    change (y 2).val = oc + 1 * j2 at e2
    omega

/-- The rows left to the next block, entry by entry. -/
theorem keep_step {h : Vec Ideal S512x1024 .bf16} {w : Vec Ideal S1024x5632 .bf16} {cy : Vec Ideal S22x2x8x128 .f32}
    (c q j : ℕ) (hj : j = 256 * c + 128 * q) (hq : q < 2) {inb : ∀ a, (![c, q, 0, 0] : Fin 4 → ℕ) a + S1x1x8x128.size a ≤ S22x2x8x128.size a}
    (v : (Rect.unit (s := S22x2x8x128) ![c, q, 0, 0] S1x1x8x128.size inb).shape.Idx → Elt Ideal .f32)
    (hv : ∀ (r : Fin 8) (l : Fin 128), v (ix4 (n0 := 1) (n1 := 1) 0 0 r l) = extS h w cy (512 + r.val) (j + l.val))
    (L : List (View.Piece (Elt Ideal) S22x2x8x128 .f32)) (y : S22x2x8x128.Idx)
    (hL : ¬(2 * (y 0).val + (y 1).val = 2 * c + q) → View.canon L y
      = extS h w cy (512 + (y 2).val) (128 * (2 * (y 0).val + (y 1).val) + (y 3).val)) :
    View.canon (⟨Rect.unit (s := S22x2x8x128) ![c, q, 0, 0] S1x1x8x128.size inb, v⟩ :: L) y
      = extS h w cy (512 + (y 2).val) (128 * (2 * (y 0).val + (y 1).val) + (y 3).val) := by
  have h1 : (y 1).val < 2 := (y 1).isLt
  by_cases hc : 2 * (y 0).val + (y 1).val = 2 * c + q
  · let x : (Rect.unit (s := S22x2x8x128) ![c, q, 0, 0] S1x1x8x128.size inb).shape.Idx :=
      ix4 (n0 := 1) (n1 := 1) 0 0 (y 2) (y 3)
    have hx := View.canon_cons_emb (Val := Elt Ideal) (Rect.unit (s := S22x2x8x128) ![c, q, 0, 0] S1x1x8x128.size inb) v L x
    have hyx : y = (Rect.unit (s := S22x2x8x128) ![c, q, 0, 0] S1x1x8x128.size inb).emb x := by
      funext a
      apply Fin.ext
      refine Eq.trans ?_ (Rect.emb_apply (Rect.unit (s := S22x2x8x128) ![c, q, 0, 0] S1x1x8x128.size inb) x a).symm
      match a with
      | 0 => show (y 0).val = c + 1 * 0; omega
      | 1 => show (y 1).val = q + 1 * 0; omega
      | 2 => show (y 2).val = 0 + 1 * (y 2).val; omega
      | 3 => show (y 3).val = 0 + 1 * (y 3).val; omega
    refine ((congrArg _ hyx).trans hx).trans ((hv (y 2) (y 3)).trans ?_)
    exact congrArg (extS h w cy (512 + (y 2).val)) (show j + (y 3).val = 128 * (2 * (y 0).val + (y 1).val) + (y 3).val by omega)
  · rw [View.canon_cons_of_not_mem, hL hc]
    intro hm
    rw [LoadRect.mem_set] at hm
    obtain ⟨j0, hj0, e0⟩ := hm 0
    obtain ⟨j1, hj1, e1⟩ := hm 1
    change j0 < 1 at hj0
    change j1 < 1 at hj1
    change (y 0).val = c + 1 * j0 at e0
    change (y 1).val = q + 1 * j1 at e1
    omega

variable (c : Dev nD) (i : grid0.Coords)
  (arg1 : Memref sig .tc .vmem S1x512x1024 .f32) (harg1 : arg1.IsWhole)
  (arg2 : Memref sig .tc .vmem S8x3072 .f32) (harg2 : arg2.IsWhole)
  (arg3 : Memref sig .tc .vmem S1024x5632 .bf16) (harg3 : arg3.IsWhole)
  (arg4 : Memref sig .tc .vmem S3x5632 .f32) (harg4 : arg4.IsWhole)
  (arg5 : Memref sig .tc .vmem S1x5632 .f32) (harg5 : arg5.IsWhole)
  (arg6 : Memref sig .tc .vmem S2816x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x512x1024 .f32) (harg9 : arg9.IsWhole)
  (arg10 : Memref sig .tc .vmem S1x2x5632 .f32) (harg10 : arg10.IsWhole)
  (arg11 : Memref sig .tc .vmem S22x2x8x128 .f32) (harg11 : arg11.IsWhole)
  (arg12 : Memref sig .tc .vmem S512x1024 .bf16) (harg12 : arg12.IsWhole)
  (arg13 : Memref sig .tc .vmem S2x2x2x520x128 .f32) (harg13 : arg13.IsWhole)
  (arg14 : Memref sig .tc .vmem S2x512x2816 .bf16) (harg14 : arg14.IsWhole)
  (arg15 : Memref sig .tc .vmem S512x1024 .f32) (harg15 : arg15.IsWhole)
  (arg16 : Memref sig .tc .vmem S512x1024 .f32) (harg16 : arg16.IsWhole)
  (hc2 : k0_cond3 i = 1#1) (x0 : Vec Ideal S1x512x1024 .f32) (x1 : Vec Ideal S8x3072 .f32) (x2 : Vec Ideal S1024x5632 .bf16)
  (x3 : Vec Ideal S3x5632 .f32) (x4 : Vec Ideal S1x5632 .f32) (x5 : Vec Ideal S2816x1024 .bf16) (x6 x7 : Vec Ideal S1x1024 .f32)
  (xs0 : Vec Ideal S22x2x8x128 .f32) (xs5 : Vec Ideal S512x1024 .f32)

theorem chunk_0 :
    Slab (tileRun.sl.v90 (F := Ideal) c i arg1 harg1 arg2 harg2 arg12 hc2 x0 x1) x2 xs0 0 0 0 (256 * 0) (tileRun.sl.H13_5 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 0 (2816 + 256 * 0) (tileRun.sl.H13_6 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 0 1 (256 * 0 + 128) (tileRun.sl.H13_7 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 1 (2816 + 256 * 0 + 128) (tileRun.sl.H13_8 (F := Ideal) c i arg1 harg1 arg2 harg2 arg3 harg3 arg11 harg11 arg12 hc2 x0 x1 x2 xs0) :=
  chunk harg3 harg11 (c := 0) (o0 := 0) (o1 := 2816) (C1 := 11) (by omega) (by omega) (by omega) (by omega)
    [] _ _ _ _ rfl rfl rfl rfl

theorem chunk_1 :
    Slab (tileRun.sl.v90 (F := Ideal) c i arg1 harg1 arg2 harg2 arg12 hc2 x0 x1) x2 xs0 1 0 0 (256 * 1) (tileRun.sl.H13_13 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 0 (2816 + 256 * 1) (tileRun.sl.H13_14 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 0 1 (256 * 1 + 128) (tileRun.sl.H13_15 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 1 (2816 + 256 * 1 + 128) (tileRun.sl.H13_16 (F := Ideal) c i arg1 harg1 arg2 harg2 arg3 harg3 arg11 harg11 arg12 hc2 x0 x1 x2 xs0) :=
  chunk harg3 harg11 (c := 1) (o0 := 256) (o1 := 3072) (C1 := 12) (by omega) (by omega) (by omega) (by omega)
    (tileRun.sl.H13_8 (F := Ideal) c i arg1 harg1 arg2 harg2 arg3 harg3 arg11 harg11 arg12 hc2 x0 x1 x2 xs0) _ _ _ _ rfl rfl rfl rfl

theorem chunk_2 :
    Slab (tileRun.sl.v90 (F := Ideal) c i arg1 harg1 arg2 harg2 arg12 hc2 x0 x1) x2 xs0 0 0 0 (256 * 2) (tileRun.sl.H13_21 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 0 (2816 + 256 * 2) (tileRun.sl.H13_22 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 0 1 (256 * 2 + 128) (tileRun.sl.H13_23 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 1 (2816 + 256 * 2 + 128) (tileRun.sl.H13_24 (F := Ideal) c i arg1 harg1 arg2 harg2 arg3 harg3 arg11 harg11 arg12 hc2 x0 x1 x2 xs0) :=
  chunk harg3 harg11 (c := 2) (o0 := 512) (o1 := 3328) (C1 := 13) (by omega) (by omega) (by omega) (by omega)
    (tileRun.sl.H13_16 (F := Ideal) c i arg1 harg1 arg2 harg2 arg3 harg3 arg11 harg11 arg12 hc2 x0 x1 x2 xs0) _ _ _ _ rfl rfl rfl rfl

theorem chunk_3 :
    Slab (tileRun.sl.v90 (F := Ideal) c i arg1 harg1 arg2 harg2 arg12 hc2 x0 x1) x2 xs0 1 0 0 (256 * 3) (tileRun.sl.H13_29 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 0 (2816 + 256 * 3) (tileRun.sl.H13_30 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 0 1 (256 * 3 + 128) (tileRun.sl.H13_31 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 1 (2816 + 256 * 3 + 128) (tileRun.sl.H13_32 (F := Ideal) c i arg1 harg1 arg2 harg2 arg3 harg3 arg11 harg11 arg12 hc2 x0 x1 x2 xs0) :=
  chunk harg3 harg11 (c := 3) (o0 := 768) (o1 := 3584) (C1 := 14) (by omega) (by omega) (by omega) (by omega)
    (tileRun.sl.H13_24 (F := Ideal) c i arg1 harg1 arg2 harg2 arg3 harg3 arg11 harg11 arg12 hc2 x0 x1 x2 xs0) _ _ _ _ rfl rfl rfl rfl

theorem chunk_4 :
    Slab (tileRun.sl.v90 (F := Ideal) c i arg1 harg1 arg2 harg2 arg12 hc2 x0 x1) x2 xs0 0 0 0 (256 * 4) (tileRun.sl.H13_37 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 0 (2816 + 256 * 4) (tileRun.sl.H13_38 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 0 1 (256 * 4 + 128) (tileRun.sl.H13_39 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 1 (2816 + 256 * 4 + 128) (tileRun.sl.H13_40 (F := Ideal) c i arg1 harg1 arg2 harg2 arg3 harg3 arg11 harg11 arg12 hc2 x0 x1 x2 xs0) :=
  chunk harg3 harg11 (c := 4) (o0 := 1024) (o1 := 3840) (C1 := 15) (by omega) (by omega) (by omega) (by omega)
    (tileRun.sl.H13_32 (F := Ideal) c i arg1 harg1 arg2 harg2 arg3 harg3 arg11 harg11 arg12 hc2 x0 x1 x2 xs0) _ _ _ _ rfl rfl rfl rfl

theorem chunk_5 :
    Slab (tileRun.sl.v90 (F := Ideal) c i arg1 harg1 arg2 harg2 arg12 hc2 x0 x1) x2 xs0 1 0 0 (256 * 5) (tileRun.sl.H13_45 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 0 (2816 + 256 * 5) (tileRun.sl.H13_46 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 0 1 (256 * 5 + 128) (tileRun.sl.H13_47 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 1 (2816 + 256 * 5 + 128) (tileRun.sl.H13_48 (F := Ideal) c i arg1 harg1 arg2 harg2 arg3 harg3 arg11 harg11 arg12 hc2 x0 x1 x2 xs0) :=
  chunk harg3 harg11 (c := 5) (o0 := 1280) (o1 := 4096) (C1 := 16) (by omega) (by omega) (by omega) (by omega)
    (tileRun.sl.H13_40 (F := Ideal) c i arg1 harg1 arg2 harg2 arg3 harg3 arg11 harg11 arg12 hc2 x0 x1 x2 xs0) _ _ _ _ rfl rfl rfl rfl

theorem chunk_6 :
    Slab (tileRun.sl.v90 (F := Ideal) c i arg1 harg1 arg2 harg2 arg12 hc2 x0 x1) x2 xs0 0 0 0 (256 * 6) (tileRun.sl.H13_53 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 0 (2816 + 256 * 6) (tileRun.sl.H13_54 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 0 1 (256 * 6 + 128) (tileRun.sl.H13_55 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 1 (2816 + 256 * 6 + 128) (tileRun.sl.H13_56 (F := Ideal) c i arg1 harg1 arg2 harg2 arg3 harg3 arg11 harg11 arg12 hc2 x0 x1 x2 xs0) :=
  chunk harg3 harg11 (c := 6) (o0 := 1536) (o1 := 4352) (C1 := 17) (by omega) (by omega) (by omega) (by omega)
    (tileRun.sl.H13_48 (F := Ideal) c i arg1 harg1 arg2 harg2 arg3 harg3 arg11 harg11 arg12 hc2 x0 x1 x2 xs0) _ _ _ _ rfl rfl rfl rfl

theorem chunk_7 :
    Slab (tileRun.sl.v90 (F := Ideal) c i arg1 harg1 arg2 harg2 arg12 hc2 x0 x1) x2 xs0 1 0 0 (256 * 7) (tileRun.sl.H13_61 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 0 (2816 + 256 * 7) (tileRun.sl.H13_62 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 0 1 (256 * 7 + 128) (tileRun.sl.H13_63 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 1 (2816 + 256 * 7 + 128) (tileRun.sl.H13_64 (F := Ideal) c i arg1 harg1 arg2 harg2 arg3 harg3 arg11 harg11 arg12 hc2 x0 x1 x2 xs0) :=
  chunk harg3 harg11 (c := 7) (o0 := 1792) (o1 := 4608) (C1 := 18) (by omega) (by omega) (by omega) (by omega)
    (tileRun.sl.H13_56 (F := Ideal) c i arg1 harg1 arg2 harg2 arg3 harg3 arg11 harg11 arg12 hc2 x0 x1 x2 xs0) _ _ _ _ rfl rfl rfl rfl

theorem chunk_8 :
    Slab (tileRun.sl.v90 (F := Ideal) c i arg1 harg1 arg2 harg2 arg12 hc2 x0 x1) x2 xs0 0 0 0 (256 * 8) (tileRun.sl.H13_69 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 0 (2816 + 256 * 8) (tileRun.sl.H13_70 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 0 1 (256 * 8 + 128) (tileRun.sl.H13_71 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 1 (2816 + 256 * 8 + 128) (tileRun.sl.H13_72 (F := Ideal) c i arg1 harg1 arg2 harg2 arg3 harg3 arg11 harg11 arg12 hc2 x0 x1 x2 xs0) :=
  chunk harg3 harg11 (c := 8) (o0 := 2048) (o1 := 4864) (C1 := 19) (by omega) (by omega) (by omega) (by omega)
    (tileRun.sl.H13_64 (F := Ideal) c i arg1 harg1 arg2 harg2 arg3 harg3 arg11 harg11 arg12 hc2 x0 x1 x2 xs0) _ _ _ _ rfl rfl rfl rfl

theorem chunk_9 :
    Slab (tileRun.sl.v90 (F := Ideal) c i arg1 harg1 arg2 harg2 arg12 hc2 x0 x1) x2 xs0 1 0 0 (256 * 9) (tileRun.sl.H13_77 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 0 (2816 + 256 * 9) (tileRun.sl.H13_78 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 0 1 (256 * 9 + 128) (tileRun.sl.H13_79 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 1 1 1 (2816 + 256 * 9 + 128) (tileRun.sl.H13_80 (F := Ideal) c i arg1 harg1 arg2 harg2 arg3 harg3 arg11 harg11 arg12 hc2 x0 x1 x2 xs0) :=
  chunk harg3 harg11 (c := 9) (o0 := 2304) (o1 := 5120) (C1 := 20) (by omega) (by omega) (by omega) (by omega)
    (tileRun.sl.H13_72 (F := Ideal) c i arg1 harg1 arg2 harg2 arg3 harg3 arg11 harg11 arg12 hc2 x0 x1 x2 xs0) _ _ _ _ rfl rfl rfl rfl

theorem chunk_10 :
    Slab (tileRun.sl.v90 (F := Ideal) c i arg1 harg1 arg2 harg2 arg12 hc2 x0 x1) x2 xs0 0 0 0 (256 * 10) (tileRun.sl.H13_85 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 0 (2816 + 256 * 10) (tileRun.sl.H13_86 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 0 1 (256 * 10 + 128) (tileRun.sl.H13_87 (F := Ideal) c i arg1 harg1 arg2 harg2 arg3 harg3 arg11 harg11 arg12 hc2 x0 x1 x2 xs0)
      ∧ Slab (tileRun.sl.v90 (F := Ideal) c i arg1 harg1 arg2 harg2 arg12 hc2 x0 x1) x2 xs0 0 1 1 (2816 + 256 * 10 + 128) (tileRun.sl.H13_88 (F := Ideal) c i arg1 harg1 arg2 harg2 arg3 harg3 arg11 harg11 arg12 hc2 x0 x1 x2 xs0) :=
  chunk harg3 harg11 (c := 10) (o0 := 2560) (o1 := 5376) (C1 := 21) (by omega) (by omega) (by omega) (by omega)
    (tileRun.sl.H13_80 (F := Ideal) c i arg1 harg1 arg2 harg2 arg3 harg3 arg11 harg11 arg12 hc2 x0 x1 x2 xs0) _ _ _ _ rfl rfl rfl rfl

theorem act_val_all (y : S2x512x2816.Idx) (hy : (y 0).val = 0) :
    View.canon (tileRun.sl.H14_22 (F := Ideal) c i arg1 harg1 arg2 harg2 arg3 harg3 arg4 harg4 arg5 harg5 arg11 harg11 arg12 arg13 hc2 x0 x1 x2 x3 x4 xs0) y
      = actS (tileRun.sl.v90 (F := Ideal) c i arg1 harg1 arg2 harg2 arg12 hc2 x0 x1) x2 x3 x4 xs0 (y 1).val (y 2).val := by
  have h2 : (y 2).val < 2816 := (y 2).isLt
  unfold tileRun.sl.H14_22
  refine act_step 21 2688 (by omega) _ (fun r l => act_val 2688 5504 (by omega) (by omega) (by omega) (by omega) (by omega)
    harg4 harg5 (chunk_10 c i arg1 harg1 arg2 harg2 arg3 harg3 arg11 harg11 arg12 hc2 x0 x1 x2 xs0).2.2.1 (chunk_10 c i arg1 harg1 arg2 harg2 arg3 harg3 arg11 harg11 arg12 hc2 x0 x1 x2 xs0).2.2.2 r l) _ y hy fun n21 => ?_
  refine act_step 20 2560 (by omega) _ (fun r l => act_val 2560 5376 (by omega) (by omega) (by omega) (by omega) (by omega)
    harg4 harg5 (chunk_10 c i arg1 harg1 arg2 harg2 arg3 harg3 arg11 harg11 arg12 hc2 x0 x1 x2 xs0).1 (chunk_10 c i arg1 harg1 arg2 harg2 arg3 harg3 arg11 harg11 arg12 hc2 x0 x1 x2 xs0).2.1 r l) _ y hy fun n20 => ?_
  refine act_step 19 2432 (by omega) _ (fun r l => act_val 2432 5248 (by omega) (by omega) (by omega) (by omega) (by omega)
    harg4 harg5 (chunk_9 c i arg1 harg1 arg2 harg2 arg3 harg3 arg11 harg11 arg12 hc2 x0 x1 x2 xs0).2.2.1 (chunk_9 c i arg1 harg1 arg2 harg2 arg3 harg3 arg11 harg11 arg12 hc2 x0 x1 x2 xs0).2.2.2 r l) _ y hy fun n19 => ?_
  refine act_step 18 2304 (by omega) _ (fun r l => act_val 2304 5120 (by omega) (by omega) (by omega) (by omega) (by omega)
    harg4 harg5 (chunk_9 c i arg1 harg1 arg2 harg2 arg3 harg3 arg11 harg11 arg12 hc2 x0 x1 x2 xs0).1 (chunk_9 c i arg1 harg1 arg2 harg2 arg3 harg3 arg11 harg11 arg12 hc2 x0 x1 x2 xs0).2.1 r l) _ y hy fun n18 => ?_
  refine act_step 17 2176 (by omega) _ (fun r l => act_val 2176 4992 (by omega) (by omega) (by omega) (by omega) (by omega)
    harg4 harg5 (chunk_8 c i arg1 harg1 arg2 harg2 arg3 harg3 arg11 harg11 arg12 hc2 x0 x1 x2 xs0).2.2.1 (chunk_8 c i arg1 harg1 arg2 harg2 arg3 harg3 arg11 harg11 arg12 hc2 x0 x1 x2 xs0).2.2.2 r l) _ y hy fun n17 => ?_
  refine act_step 16 2048 (by omega) _ (fun r l => act_val 2048 4864 (by omega) (by omega) (by omega) (by omega) (by omega)
    harg4 harg5 (chunk_8 c i arg1 harg1 arg2 harg2 arg3 harg3 arg11 harg11 arg12 hc2 x0 x1 x2 xs0).1 (chunk_8 c i arg1 harg1 arg2 harg2 arg3 harg3 arg11 harg11 arg12 hc2 x0 x1 x2 xs0).2.1 r l) _ y hy fun n16 => ?_
  refine act_step 15 1920 (by omega) _ (fun r l => act_val 1920 4736 (by omega) (by omega) (by omega) (by omega) (by omega)
    harg4 harg5 (chunk_7 c i arg1 harg1 arg2 harg2 arg3 harg3 arg11 harg11 arg12 hc2 x0 x1 x2 xs0).2.2.1 (chunk_7 c i arg1 harg1 arg2 harg2 arg3 harg3 arg11 harg11 arg12 hc2 x0 x1 x2 xs0).2.2.2 r l) _ y hy fun n15 => ?_
  refine act_step 14 1792 (by omega) _ (fun r l => act_val 1792 4608 (by omega) (by omega) (by omega) (by omega) (by omega)
    harg4 harg5 (chunk_7 c i arg1 harg1 arg2 harg2 arg3 harg3 arg11 harg11 arg12 hc2 x0 x1 x2 xs0).1 (chunk_7 c i arg1 harg1 arg2 harg2 arg3 harg3 arg11 harg11 arg12 hc2 x0 x1 x2 xs0).2.1 r l) _ y hy fun n14 => ?_
  refine act_step 13 1664 (by omega) _ (fun r l => act_val 1664 4480 (by omega) (by omega) (by omega) (by omega) (by omega)
    harg4 harg5 (chunk_6 c i arg1 harg1 arg2 harg2 arg3 harg3 arg11 harg11 arg12 hc2 x0 x1 x2 xs0).2.2.1 (chunk_6 c i arg1 harg1 arg2 harg2 arg3 harg3 arg11 harg11 arg12 hc2 x0 x1 x2 xs0).2.2.2 r l) _ y hy fun n13 => ?_
  refine act_step 12 1536 (by omega) _ (fun r l => act_val 1536 4352 (by omega) (by omega) (by omega) (by omega) (by omega)
    harg4 harg5 (chunk_6 c i arg1 harg1 arg2 harg2 arg3 harg3 arg11 harg11 arg12 hc2 x0 x1 x2 xs0).1 (chunk_6 c i arg1 harg1 arg2 harg2 arg3 harg3 arg11 harg11 arg12 hc2 x0 x1 x2 xs0).2.1 r l) _ y hy fun n12 => ?_
  refine act_step 11 1408 (by omega) _ (fun r l => act_val 1408 4224 (by omega) (by omega) (by omega) (by omega) (by omega)
    harg4 harg5 (chunk_5 c i arg1 harg1 arg2 harg2 arg3 harg3 arg11 harg11 arg12 hc2 x0 x1 x2 xs0).2.2.1 (chunk_5 c i arg1 harg1 arg2 harg2 arg3 harg3 arg11 harg11 arg12 hc2 x0 x1 x2 xs0).2.2.2 r l) _ y hy fun n11 => ?_
  refine act_step 10 1280 (by omega) _ (fun r l => act_val 1280 4096 (by omega) (by omega) (by omega) (by omega) (by omega)
    harg4 harg5 (chunk_5 c i arg1 harg1 arg2 harg2 arg3 harg3 arg11 harg11 arg12 hc2 x0 x1 x2 xs0).1 (chunk_5 c i arg1 harg1 arg2 harg2 arg3 harg3 arg11 harg11 arg12 hc2 x0 x1 x2 xs0).2.1 r l) _ y hy fun n10 => ?_
  refine act_step 9 1152 (by omega) _ (fun r l => act_val 1152 3968 (by omega) (by omega) (by omega) (by omega) (by omega)
    harg4 harg5 (chunk_4 c i arg1 harg1 arg2 harg2 arg3 harg3 arg11 harg11 arg12 hc2 x0 x1 x2 xs0).2.2.1 (chunk_4 c i arg1 harg1 arg2 harg2 arg3 harg3 arg11 harg11 arg12 hc2 x0 x1 x2 xs0).2.2.2 r l) _ y hy fun n9 => ?_
  refine act_step 8 1024 (by omega) _ (fun r l => act_val 1024 3840 (by omega) (by omega) (by omega) (by omega) (by omega)
    harg4 harg5 (chunk_4 c i arg1 harg1 arg2 harg2 arg3 harg3 arg11 harg11 arg12 hc2 x0 x1 x2 xs0).1 (chunk_4 c i arg1 harg1 arg2 harg2 arg3 harg3 arg11 harg11 arg12 hc2 x0 x1 x2 xs0).2.1 r l) _ y hy fun n8 => ?_
  refine act_step 7 896 (by omega) _ (fun r l => act_val 896 3712 (by omega) (by omega) (by omega) (by omega) (by omega)
    harg4 harg5 (chunk_3 c i arg1 harg1 arg2 harg2 arg3 harg3 arg11 harg11 arg12 hc2 x0 x1 x2 xs0).2.2.1 (chunk_3 c i arg1 harg1 arg2 harg2 arg3 harg3 arg11 harg11 arg12 hc2 x0 x1 x2 xs0).2.2.2 r l) _ y hy fun n7 => ?_
  refine act_step 6 768 (by omega) _ (fun r l => act_val 768 3584 (by omega) (by omega) (by omega) (by omega) (by omega)
    harg4 harg5 (chunk_3 c i arg1 harg1 arg2 harg2 arg3 harg3 arg11 harg11 arg12 hc2 x0 x1 x2 xs0).1 (chunk_3 c i arg1 harg1 arg2 harg2 arg3 harg3 arg11 harg11 arg12 hc2 x0 x1 x2 xs0).2.1 r l) _ y hy fun n6 => ?_
  refine act_step 5 640 (by omega) _ (fun r l => act_val 640 3456 (by omega) (by omega) (by omega) (by omega) (by omega)
    harg4 harg5 (chunk_2 c i arg1 harg1 arg2 harg2 arg3 harg3 arg11 harg11 arg12 hc2 x0 x1 x2 xs0).2.2.1 (chunk_2 c i arg1 harg1 arg2 harg2 arg3 harg3 arg11 harg11 arg12 hc2 x0 x1 x2 xs0).2.2.2 r l) _ y hy fun n5 => ?_
  refine act_step 4 512 (by omega) _ (fun r l => act_val 512 3328 (by omega) (by omega) (by omega) (by omega) (by omega)
    harg4 harg5 (chunk_2 c i arg1 harg1 arg2 harg2 arg3 harg3 arg11 harg11 arg12 hc2 x0 x1 x2 xs0).1 (chunk_2 c i arg1 harg1 arg2 harg2 arg3 harg3 arg11 harg11 arg12 hc2 x0 x1 x2 xs0).2.1 r l) _ y hy fun n4 => ?_
  refine act_step 3 384 (by omega) _ (fun r l => act_val 384 3200 (by omega) (by omega) (by omega) (by omega) (by omega)
    harg4 harg5 (chunk_1 c i arg1 harg1 arg2 harg2 arg3 harg3 arg11 harg11 arg12 hc2 x0 x1 x2 xs0).2.2.1 (chunk_1 c i arg1 harg1 arg2 harg2 arg3 harg3 arg11 harg11 arg12 hc2 x0 x1 x2 xs0).2.2.2 r l) _ y hy fun n3 => ?_
  refine act_step 2 256 (by omega) _ (fun r l => act_val 256 3072 (by omega) (by omega) (by omega) (by omega) (by omega)
    harg4 harg5 (chunk_1 c i arg1 harg1 arg2 harg2 arg3 harg3 arg11 harg11 arg12 hc2 x0 x1 x2 xs0).1 (chunk_1 c i arg1 harg1 arg2 harg2 arg3 harg3 arg11 harg11 arg12 hc2 x0 x1 x2 xs0).2.1 r l) _ y hy fun n2 => ?_
  refine act_step 1 128 (by omega) _ (fun r l => act_val 128 2944 (by omega) (by omega) (by omega) (by omega) (by omega)
    harg4 harg5 (chunk_0 c i arg1 harg1 arg2 harg2 arg3 harg3 arg11 harg11 arg12 hc2 x0 x1 x2 xs0).2.2.1 (chunk_0 c i arg1 harg1 arg2 harg2 arg3 harg3 arg11 harg11 arg12 hc2 x0 x1 x2 xs0).2.2.2 r l) _ y hy fun n1 => ?_
  refine act_step 0 0 (by omega) _ (fun r l => act_val 0 2816 (by omega) (by omega) (by omega) (by omega) (by omega)
    harg4 harg5 (chunk_0 c i arg1 harg1 arg2 harg2 arg3 harg3 arg11 harg11 arg12 hc2 x0 x1 x2 xs0).1 (chunk_0 c i arg1 harg1 arg2 harg2 arg3 harg3 arg11 harg11 arg12 hc2 x0 x1 x2 xs0).2.1 r l) _ y hy fun n0 => ?_
  omega

variable (v17 : BitVec 32)

theorem keep_all (y : S22x2x8x128.Idx) :
    View.canon (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).2.1 y
      = extS (tileRun.sl.v90 (F := Ideal) c i arg1 harg1 arg2 harg2 arg12 hc2 x0 x1) x2 xs0 (512 + (y 2).val) (128 * (2 * (y 0).val + (y 1).val) + (y 3).val) := by
  have h0 : (y 0).val < 22 := (y 0).isLt
  have h1 : (y 1).val < 2 := (y 1).isLt
  unfold tileRun
  dsimp only
  refine keep_step 21 1 _ (by omega) (by omega) _ (fun r l => keep_val (chunk_10 c i arg1 harg1 arg2 harg2 arg3 harg3 arg11 harg11 arg12 hc2 x0 x1 x2 xs0).2.2.2 r l) _ y fun n43 => ?_
  refine keep_step 10 1 _ (by omega) (by omega) _ (fun r l => keep_val (chunk_10 c i arg1 harg1 arg2 harg2 arg3 harg3 arg11 harg11 arg12 hc2 x0 x1 x2 xs0).2.2.1 r l) _ y fun n21 => ?_
  refine keep_step 21 0 _ (by omega) (by omega) _ (fun r l => keep_val (chunk_10 c i arg1 harg1 arg2 harg2 arg3 harg3 arg11 harg11 arg12 hc2 x0 x1 x2 xs0).2.1 r l) _ y fun n42 => ?_
  refine keep_step 10 0 _ (by omega) (by omega) _ (fun r l => keep_val (chunk_10 c i arg1 harg1 arg2 harg2 arg3 harg3 arg11 harg11 arg12 hc2 x0 x1 x2 xs0).1 r l) _ y fun n20 => ?_
  refine keep_step 20 1 _ (by omega) (by omega) _ (fun r l => keep_val (chunk_9 c i arg1 harg1 arg2 harg2 arg3 harg3 arg11 harg11 arg12 hc2 x0 x1 x2 xs0).2.2.2 r l) _ y fun n41 => ?_
  refine keep_step 9 1 _ (by omega) (by omega) _ (fun r l => keep_val (chunk_9 c i arg1 harg1 arg2 harg2 arg3 harg3 arg11 harg11 arg12 hc2 x0 x1 x2 xs0).2.2.1 r l) _ y fun n19 => ?_
  refine keep_step 20 0 _ (by omega) (by omega) _ (fun r l => keep_val (chunk_9 c i arg1 harg1 arg2 harg2 arg3 harg3 arg11 harg11 arg12 hc2 x0 x1 x2 xs0).2.1 r l) _ y fun n40 => ?_
  refine keep_step 9 0 _ (by omega) (by omega) _ (fun r l => keep_val (chunk_9 c i arg1 harg1 arg2 harg2 arg3 harg3 arg11 harg11 arg12 hc2 x0 x1 x2 xs0).1 r l) _ y fun n18 => ?_
  refine keep_step 19 1 _ (by omega) (by omega) _ (fun r l => keep_val (chunk_8 c i arg1 harg1 arg2 harg2 arg3 harg3 arg11 harg11 arg12 hc2 x0 x1 x2 xs0).2.2.2 r l) _ y fun n39 => ?_
  refine keep_step 8 1 _ (by omega) (by omega) _ (fun r l => keep_val (chunk_8 c i arg1 harg1 arg2 harg2 arg3 harg3 arg11 harg11 arg12 hc2 x0 x1 x2 xs0).2.2.1 r l) _ y fun n17 => ?_
  refine keep_step 19 0 _ (by omega) (by omega) _ (fun r l => keep_val (chunk_8 c i arg1 harg1 arg2 harg2 arg3 harg3 arg11 harg11 arg12 hc2 x0 x1 x2 xs0).2.1 r l) _ y fun n38 => ?_
  refine keep_step 8 0 _ (by omega) (by omega) _ (fun r l => keep_val (chunk_8 c i arg1 harg1 arg2 harg2 arg3 harg3 arg11 harg11 arg12 hc2 x0 x1 x2 xs0).1 r l) _ y fun n16 => ?_
  refine keep_step 18 1 _ (by omega) (by omega) _ (fun r l => keep_val (chunk_7 c i arg1 harg1 arg2 harg2 arg3 harg3 arg11 harg11 arg12 hc2 x0 x1 x2 xs0).2.2.2 r l) _ y fun n37 => ?_
  refine keep_step 7 1 _ (by omega) (by omega) _ (fun r l => keep_val (chunk_7 c i arg1 harg1 arg2 harg2 arg3 harg3 arg11 harg11 arg12 hc2 x0 x1 x2 xs0).2.2.1 r l) _ y fun n15 => ?_
  refine keep_step 18 0 _ (by omega) (by omega) _ (fun r l => keep_val (chunk_7 c i arg1 harg1 arg2 harg2 arg3 harg3 arg11 harg11 arg12 hc2 x0 x1 x2 xs0).2.1 r l) _ y fun n36 => ?_
  refine keep_step 7 0 _ (by omega) (by omega) _ (fun r l => keep_val (chunk_7 c i arg1 harg1 arg2 harg2 arg3 harg3 arg11 harg11 arg12 hc2 x0 x1 x2 xs0).1 r l) _ y fun n14 => ?_
  refine keep_step 17 1 _ (by omega) (by omega) _ (fun r l => keep_val (chunk_6 c i arg1 harg1 arg2 harg2 arg3 harg3 arg11 harg11 arg12 hc2 x0 x1 x2 xs0).2.2.2 r l) _ y fun n35 => ?_
  refine keep_step 6 1 _ (by omega) (by omega) _ (fun r l => keep_val (chunk_6 c i arg1 harg1 arg2 harg2 arg3 harg3 arg11 harg11 arg12 hc2 x0 x1 x2 xs0).2.2.1 r l) _ y fun n13 => ?_
  refine keep_step 17 0 _ (by omega) (by omega) _ (fun r l => keep_val (chunk_6 c i arg1 harg1 arg2 harg2 arg3 harg3 arg11 harg11 arg12 hc2 x0 x1 x2 xs0).2.1 r l) _ y fun n34 => ?_
  refine keep_step 6 0 _ (by omega) (by omega) _ (fun r l => keep_val (chunk_6 c i arg1 harg1 arg2 harg2 arg3 harg3 arg11 harg11 arg12 hc2 x0 x1 x2 xs0).1 r l) _ y fun n12 => ?_
  refine keep_step 16 1 _ (by omega) (by omega) _ (fun r l => keep_val (chunk_5 c i arg1 harg1 arg2 harg2 arg3 harg3 arg11 harg11 arg12 hc2 x0 x1 x2 xs0).2.2.2 r l) _ y fun n33 => ?_
  refine keep_step 5 1 _ (by omega) (by omega) _ (fun r l => keep_val (chunk_5 c i arg1 harg1 arg2 harg2 arg3 harg3 arg11 harg11 arg12 hc2 x0 x1 x2 xs0).2.2.1 r l) _ y fun n11 => ?_
  refine keep_step 16 0 _ (by omega) (by omega) _ (fun r l => keep_val (chunk_5 c i arg1 harg1 arg2 harg2 arg3 harg3 arg11 harg11 arg12 hc2 x0 x1 x2 xs0).2.1 r l) _ y fun n32 => ?_
  refine keep_step 5 0 _ (by omega) (by omega) _ (fun r l => keep_val (chunk_5 c i arg1 harg1 arg2 harg2 arg3 harg3 arg11 harg11 arg12 hc2 x0 x1 x2 xs0).1 r l) _ y fun n10 => ?_
  refine keep_step 15 1 _ (by omega) (by omega) _ (fun r l => keep_val (chunk_4 c i arg1 harg1 arg2 harg2 arg3 harg3 arg11 harg11 arg12 hc2 x0 x1 x2 xs0).2.2.2 r l) _ y fun n31 => ?_
  refine keep_step 4 1 _ (by omega) (by omega) _ (fun r l => keep_val (chunk_4 c i arg1 harg1 arg2 harg2 arg3 harg3 arg11 harg11 arg12 hc2 x0 x1 x2 xs0).2.2.1 r l) _ y fun n9 => ?_
  refine keep_step 15 0 _ (by omega) (by omega) _ (fun r l => keep_val (chunk_4 c i arg1 harg1 arg2 harg2 arg3 harg3 arg11 harg11 arg12 hc2 x0 x1 x2 xs0).2.1 r l) _ y fun n30 => ?_
  refine keep_step 4 0 _ (by omega) (by omega) _ (fun r l => keep_val (chunk_4 c i arg1 harg1 arg2 harg2 arg3 harg3 arg11 harg11 arg12 hc2 x0 x1 x2 xs0).1 r l) _ y fun n8 => ?_
  refine keep_step 14 1 _ (by omega) (by omega) _ (fun r l => keep_val (chunk_3 c i arg1 harg1 arg2 harg2 arg3 harg3 arg11 harg11 arg12 hc2 x0 x1 x2 xs0).2.2.2 r l) _ y fun n29 => ?_
  refine keep_step 3 1 _ (by omega) (by omega) _ (fun r l => keep_val (chunk_3 c i arg1 harg1 arg2 harg2 arg3 harg3 arg11 harg11 arg12 hc2 x0 x1 x2 xs0).2.2.1 r l) _ y fun n7 => ?_
  refine keep_step 14 0 _ (by omega) (by omega) _ (fun r l => keep_val (chunk_3 c i arg1 harg1 arg2 harg2 arg3 harg3 arg11 harg11 arg12 hc2 x0 x1 x2 xs0).2.1 r l) _ y fun n28 => ?_
  refine keep_step 3 0 _ (by omega) (by omega) _ (fun r l => keep_val (chunk_3 c i arg1 harg1 arg2 harg2 arg3 harg3 arg11 harg11 arg12 hc2 x0 x1 x2 xs0).1 r l) _ y fun n6 => ?_
  refine keep_step 13 1 _ (by omega) (by omega) _ (fun r l => keep_val (chunk_2 c i arg1 harg1 arg2 harg2 arg3 harg3 arg11 harg11 arg12 hc2 x0 x1 x2 xs0).2.2.2 r l) _ y fun n27 => ?_
  refine keep_step 2 1 _ (by omega) (by omega) _ (fun r l => keep_val (chunk_2 c i arg1 harg1 arg2 harg2 arg3 harg3 arg11 harg11 arg12 hc2 x0 x1 x2 xs0).2.2.1 r l) _ y fun n5 => ?_
  refine keep_step 13 0 _ (by omega) (by omega) _ (fun r l => keep_val (chunk_2 c i arg1 harg1 arg2 harg2 arg3 harg3 arg11 harg11 arg12 hc2 x0 x1 x2 xs0).2.1 r l) _ y fun n26 => ?_
  refine keep_step 2 0 _ (by omega) (by omega) _ (fun r l => keep_val (chunk_2 c i arg1 harg1 arg2 harg2 arg3 harg3 arg11 harg11 arg12 hc2 x0 x1 x2 xs0).1 r l) _ y fun n4 => ?_
  refine keep_step 12 1 _ (by omega) (by omega) _ (fun r l => keep_val (chunk_1 c i arg1 harg1 arg2 harg2 arg3 harg3 arg11 harg11 arg12 hc2 x0 x1 x2 xs0).2.2.2 r l) _ y fun n25 => ?_
  refine keep_step 1 1 _ (by omega) (by omega) _ (fun r l => keep_val (chunk_1 c i arg1 harg1 arg2 harg2 arg3 harg3 arg11 harg11 arg12 hc2 x0 x1 x2 xs0).2.2.1 r l) _ y fun n3 => ?_
  refine keep_step 12 0 _ (by omega) (by omega) _ (fun r l => keep_val (chunk_1 c i arg1 harg1 arg2 harg2 arg3 harg3 arg11 harg11 arg12 hc2 x0 x1 x2 xs0).2.1 r l) _ y fun n24 => ?_
  refine keep_step 1 0 _ (by omega) (by omega) _ (fun r l => keep_val (chunk_1 c i arg1 harg1 arg2 harg2 arg3 harg3 arg11 harg11 arg12 hc2 x0 x1 x2 xs0).1 r l) _ y fun n2 => ?_
  refine keep_step 11 1 _ (by omega) (by omega) _ (fun r l => keep_val (chunk_0 c i arg1 harg1 arg2 harg2 arg3 harg3 arg11 harg11 arg12 hc2 x0 x1 x2 xs0).2.2.2 r l) _ y fun n23 => ?_
  refine keep_step 0 1 _ (by omega) (by omega) _ (fun r l => keep_val (chunk_0 c i arg1 harg1 arg2 harg2 arg3 harg3 arg11 harg11 arg12 hc2 x0 x1 x2 xs0).2.2.1 r l) _ y fun n1 => ?_
  refine keep_step 11 0 _ (by omega) (by omega) _ (fun r l => keep_val (chunk_0 c i arg1 harg1 arg2 harg2 arg3 harg3 arg11 harg11 arg12 hc2 x0 x1 x2 xs0).2.1 r l) _ y fun n22 => ?_
  refine keep_step 0 0 _ (by omega) (by omega) _ (fun r l => keep_val (chunk_0 c i arg1 harg1 arg2 harg2 arg3 harg3 arg11 harg11 arg12 hc2 x0 x1 x2 xs0).1 r l) _ y fun n0 => ?_
  omega

/-- What the block's modulated rows are. -/
def hB (x : Vec Ideal S1x512x1024 .f32) (m : Vec Ideal S8x3072 .f32) (n : Fin 8) : Vec Ideal S512x1024 .bf16 :=
  fun y => x (ix3 0 (y 0) (y 1)) * (1 + m (ix2 n ⟨1024 + (y 1).val, by have : (y 1).val < 1024 := (y 1).isLt; omega⟩))
    + m (ix2 n ⟨(y 1).val, by have : (y 1).val < 1024 := (y 1).isLt; omega⟩)

theorem hpay_apply (m : Vec Ideal S1x3072 .f32) (x : Vec Ideal S1x512x1024 .f32) (r : Fin 512) (k : Fin 1024) :
    k0_pay9 (k0_pay8 m x) (ix2 r k)
      = x (ix3 0 r k) * (1 + m (ix2 0 ⟨1024 + k.val, by omega⟩)) + m (ix2 0 ⟨k.val, by omega⟩) := by
  pointwise [k0_pay9, k0_pay8]

theorem prepay_apply (m : Vec Ideal S1x3072 .f32) (x : Vec Ideal S1x512x1024 .f32) (a : Vec Ideal S1x512x2816 .bf16)
    (w : Vec Ideal S2816x1024 .bf16) (r : Fin 512) (j : Fin 1024) :
    k0_pay1 (k0_pay304 (k0_pay7 m) x (k0_pay303 a w)) (ix2 r j)
      = Ideal.ofBits FTy.f32 1068827891#32 * x (ix3 0 r j) + m (ix2 0 ⟨2048 + j.val, by omega⟩) * ∑ k : Fin 2816, a (ix3 0 r k) * w (ix2 k j) := by
  pointwise [k0_pay1, k0_pay7, k0_pay304, k0_pay303]

/-- A load of one row of the modulations reads that row. -/
theorem mod_read (hc2 : k0_cond3 i = 1#1) (n : Fin 8) (hn0 : k0_off1 i 0 = n.val) (hn1 : k0_off1 i 1 = 0) {inb} (t : Fin 3072) :
    View.readAt (Elt Ideal) arg2.view (Rect.unit (s := S8x3072) (k0_off1 i) S1x3072.size inb).toLoadRect (harg2.unread x1) (ix2 (n0 := 1) 0 t)
      = x1 (ix2 n t) := by
  refine read_at harg2 x1 _ _ fun a => ?_
  match a with
  | 0 => show n.val = k0_off1 i 0 + 0; omega
  | 1 => show t.val = k0_off1 i 1 + t.val; omega

theorem h_val (n : Fin 8) (hn0 : k0_off1 i 0 = n.val) (hn1 : k0_off1 i 1 = 0) : (tileRun.sl.v90 (F := Ideal) c i arg1 harg1 arg2 harg2 arg12 hc2 x0 x1) = hB x0 x1 n := by
  funext y
  obtain ⟨r, k, rfl⟩ : ∃ (r : Fin 512) (k : Fin 1024), y = ix2 r k := ⟨y 0, y 1, (ix2_eta y).symm⟩
  have e : (tileRun.sl.v90 (F := Ideal) c i arg1 harg1 arg2 harg2 arg12 hc2 x0 x1) = (tileRun.sl.v89 (F := Ideal) c i arg1 harg1 arg2 harg2 hc2 x0 x1) := View.readCov_cons_toLoadRect _ _ _ _
  rw [e]
  refine (hpay_apply _ _ r k).trans ?_
  rw [mod_read i arg2 harg2 x1 hc2 n hn0 hn1, mod_read i arg2 harg2 x1 hc2 n hn0 hn1]
  refine congrArg (· * _ + _) (read_at harg1 x0 _ (ix3 0 r k) fun a => ?_)
  match a with
  | 0 => rfl
  | 1 => show r.val = 0 + r.val; omega
  | 2 => show k.val = 0 + k.val; omega

/-- What a tile leaves to the next block. -/
def tileC (x : Vec Ideal S1x512x1024 .f32) (m : Vec Ideal S8x3072 .f32) (w : Vec Ideal S1024x5632 .bf16) (cy : Vec Ideal S22x2x8x128 .f32)
    (n : Fin 8) : Vec Ideal S22x2x8x128 .f32 :=
  fun y => extS (hB x m n) w cy (512 + (y 2).val) (128 * (2 * (y 0).val + (y 1).val) + (y 3).val)

/-- What a tile leaves pending: the block before its normalization. -/
def tileP (x : Vec Ideal S1x512x1024 .f32) (m : Vec Ideal S8x3072 .f32) (w : Vec Ideal S1024x5632 .bf16) (cw : Vec Ideal S3x5632 .f32)
    (cb : Vec Ideal S1x5632 .f32) (wd : Vec Ideal S2816x1024 .bf16) (cy : Vec Ideal S22x2x8x128 .f32) (n : Fin 8) : Vec Ideal S512x1024 .f32 :=
  fun y => Ideal.ofBits FTy.f32 1068827891#32 * x (ix3 0 (y 0) (y 1))
    + m (ix2 n ⟨2048 + (y 1).val, by have : (y 1).val < 1024 := (y 1).isLt; omega⟩)
      * ∑ k : Fin 2816, actS (hB x m n) w cw cb cy (y 0).val k.val * wd (ix2 k (y 1))

theorem carry_val (n : Fin 8) (hn0 : k0_off1 i 0 = n.val) (hn1 : k0_off1 i 1 = 0) :
    View.canon (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).2.1 = tileC x0 x1 x2 xs0 n := by
  funext y
  rw [keep_all, h_val (n := n) (hn0 := hn0) (hn1 := hn1)]
  rfl

theorem pre_val (n : Fin 8) (hn0 : k0_off1 i 0 = n.val) (hn1 : k0_off1 i 1 = 0) :
    View.canon (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).2.2.1 = tileP x0 x1 x2 x3 x4 x5 xs0 n := by
  funext y
  obtain ⟨r, j, rfl⟩ : ∃ (r : Fin 512) (k : Fin 1024), y = ix2 r k := ⟨y 0, y 1, (ix2_eta y).symm⟩
  unfold tileRun
  dsimp only
  rw [View.canon_cons_unit_lit (S := S512x1024) _ _ _ (fun a => by match a with | 0 => rfl | 1 => rfl)]
  unfold tileRun.sl.r_56
  have e : (tileRun.sl.v2334 (F := Ideal) c i arg1 harg1 arg2 harg2 arg3 harg3 arg4 harg4 arg5 harg5 arg6 harg6 arg11 harg11 arg12 arg13 arg14 arg15 hc2 x0 x1 x2 x3 x4 x5 xs0) = k0_pay303 (tileRun.sl.v2323 (F := Ideal) c i arg1 harg1 arg2 harg2 arg3 harg3 arg4 harg4 arg5 harg5 arg11 harg11 arg12 arg13 arg14 hc2 x0 x1 x2 x3 x4 xs0) (View.readAt (Elt Ideal) arg6.view (Rect.unit (s := S2816x1024) ![0, 0] S2816x1024.size inb_S2816x1024_S2816x1024_0_0).toLoadRect (harg6.unread x5)) :=
    View.readCov_cons_toLoadRect _ _ _ _
  rw [e]
  refine (prepay_apply _ _ _ _ r j).trans ?_
  rw [mod_read i arg2 harg2 x1 hc2 n hn0 hn1]
  refine congr (congrArg HAdd.hAdd (congrArg (_ * ·) (read_at harg1 x0 _ (ix3 0 r j) fun a => ?_))) (congrArg (_ * ·) (Finset.sum_congr rfl fun k _ => ?_))
  · match a with
    | 0 => rfl
    | 1 => show r.val = 0 + r.val; omega
    | 2 => show j.val = 0 + j.val; omega
  · refine congr (congrArg HMul.hMul ?_) (read_at harg6 x5 _ (ix2 k j) fun a => ?_)
    · have e1 : (tileRun.sl.v2323 (F := Ideal) c i arg1 harg1 arg2 harg2 arg3 harg3 arg4 harg4 arg5 harg5 arg11 harg11 arg12 arg13 arg14 hc2 x0 x1 x2 x3 x4 xs0) (ix3 (n0 := 1) 0 r k) = View.canon (tileRun.sl.H14_22 (F := Ideal) c i arg1 harg1 arg2 harg2 arg3 harg3 arg4 harg4 arg5 harg5 arg11 harg11 arg12 arg13 hc2 x0 x1 x2 x3 x4 xs0) (ix3 (n0 := 2) 0 r k) := by
        unfold tileRun.sl.v2323
        rw [View.readCov_eq_canon']
        show View.canon _ _ = View.canon _ _
        congr 1
        funext a
        apply Fin.ext
        refine (LoadRect.idx_apply _ _ a).trans ?_
        match a with
        | 0 => rfl
        | 1 => show 0 + 1 * r.val = r.val; omega
        | 2 => show 0 + 1 * k.val = k.val; omega
      refine e1.trans ((act_val_all (hy := rfl) ..).trans ?_)
      rw [h_val (n := n) (hn0 := hn0) (hn1 := hn1)]
      rfl
    · match a with
      | 0 => show k.val = 0 + k.val; omega
      | 1 => show j.val = 0 + j.val; omega

end Cert.Ffn
-- ==== Proof.Ffn.Body.lean ====
module

public import proofs.«01_k».proof.Proof.Ffn.Value
public import Idealize.ShloMosaic.Lib.Ring

/-! # The body of the feed-forward layer on whole buffers, whatever the grid point

What the resets, the tile, the saving and the last normalization leave, each buffer at named contents. -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The grid's first point, in the body's words. -/
abbrev runStart (i : grid0.Coords) : Prop := (Scalar.cmpi .ne (Scalar.extui (Scalar.cmpi .eq (BitVec.ofNat 32 (i 0).val) 0#32)) 0#32) = 1#1
/-- The first tile of a sequence, in the body's words. -/
abbrev seqStart (i : grid0.Coords) : Prop := (Scalar.cmpi .ne (Scalar.extui (Scalar.andi (Scalar.cmpi .slt (BitVec.ofNat 32 (i 0).val) 32#32) (Scalar.cmpi .eq (Scalar.select (Scalar.andi (Scalar.xori (Scalar.cmpi .slt (Scalar.remsi (Scalar.minsi (BitVec.ofNat 32 (i 0).val) 31#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.minsi (BitVec.ofNat 32 (i 0).val) 31#32) (Scalar.select (Scalar.cmpi .eq 4#32 0#32) 1#32 4#32)) 0#32)) (Scalar.addi (Scalar.remsi (Scalar.minsi (BitVec.ofNat 32 (i 0).val) 31#32) (Scalar.select (Scalar.cmpi .eq 4#32 0#32) 1#32 4#32)) (Scalar.select (Scalar.cmpi .eq 4#32 0#32) 1#32 4#32)) (Scalar.remsi (Scalar.minsi (BitVec.ofNat 32 (i 0).val) 31#32) (Scalar.select (Scalar.cmpi .eq 4#32 0#32) 1#32 4#32))) 0#32))) 0#32) = 1#1

/-- The pending block before the first tile. -/
abbrev pre0 : Vec Ideal S512x1024 .f32 := k0_pay351 (F := Ideal)
/-- The carry before the first tile of a sequence. -/
abbrev cy0 : Vec Ideal S22x2x8x128 .f32 := k0_pay352 (F := Ideal)

/-- The saved rows: the last two of the carry. -/
def saveV (cy : Vec Ideal S22x2x8x128 .f32) : Vec Ideal S1x2x5632 .f32 :=
  fun y => cy (ix4 (Fin.ofNat 22 ((y 2).val / 256)) (Fin.ofNat 2 ((y 2).val / 128)) (Fin.ofNat 8 (6 + (y 1).val)) (Fin.ofNat 128 (y 2).val))

/-- A stored pair of rows, entry by entry. -/
theorem save_step (cy : Vec Ideal S22x2x8x128 .f32) (k oc : ℕ) (hoc : oc = 128 * k)
    {inb : ∀ a, (![0, 0, oc] : Fin 3 → ℕ) a + S1x2x128.size a ≤ S1x2x5632.size a}
    (v : (Rect.unit (s := S1x2x5632) ![0, 0, oc] S1x2x128.size inb).shape.Idx → Elt Ideal .f32)
    (hv : ∀ (r : Fin 2) (l : Fin 128), v (ix3 (n0 := 1) 0 r l) = cy (ix4 (Fin.ofNat 22 (k / 2)) (Fin.ofNat 2 k) (Fin.ofNat 8 (6 + r.val)) l))
    (L : List (View.Piece (Elt Ideal) S1x2x5632 .f32)) (y : S1x2x5632.Idx)
    (hL : ¬((y 2).val / 128 = k) → View.canon L y = saveV cy y) :
    View.canon (⟨Rect.unit (s := S1x2x5632) ![0, 0, oc] S1x2x128.size inb, v⟩ :: L) y = saveV cy y := by
  by_cases hk : (y 2).val / 128 = k
  · let x : (Rect.unit (s := S1x2x5632) ![0, 0, oc] S1x2x128.size inb).shape.Idx :=
      ix3 (n0 := 1) 0 (y 1) (⟨(y 2).val % 128, by omega⟩ : Fin 128)
    have hx := View.canon_cons_emb (Val := Elt Ideal) (Rect.unit (s := S1x2x5632) ![0, 0, oc] S1x2x128.size inb) v L x
    have hyx : y = (Rect.unit (s := S1x2x5632) ![0, 0, oc] S1x2x128.size inb).emb x := by
      funext a
      apply Fin.ext
      refine Eq.trans ?_ (Rect.emb_apply (Rect.unit (s := S1x2x5632) ![0, 0, oc] S1x2x128.size inb) x a).symm
      have h0 : (y 0).val < 1 := (y 0).isLt
      match a with
      | 0 => show (y 0).val = 0 + 1 * 0; omega
      | 1 => show (y 1).val = 0 + 1 * (y 1).val; omega
      | 2 => show (y 2).val = oc + 1 * ((y 2).val % 128); omega
    refine ((congrArg _ hyx).trans hx).trans ((hv (y 1) ⟨(y 2).val % 128, by omega⟩).trans ?_)
    unfold saveV
    refine congrArg cy ?_
    funext a
    apply Fin.ext
    match a with
    | 0 => show k / 2 % 22 = (y 2).val / 256 % 22; omega
    | 1 => show k % 2 = (y 2).val / 128 % 2; omega
    | 2 => rfl
    | 3 => rfl
  · rw [View.canon_cons_of_not_mem, hL hk]
    intro hm
    rw [LoadRect.mem_set] at hm
    obtain ⟨j2, hj2, e2⟩ := hm 2
    change j2 < 128 at hj2
    change (y 2).val = oc + 1 * j2 at e2
    omega

theorem srow_apply (v : Vec Ideal S1x1x2x128 .f32) (r : Fin 2) (l : Fin 128) :
    k0_pay305 v (ix3 (n0 := 1) 0 r l) = v (ix4 (n0 := 1) (n1 := 1) 0 0 r l) := by
  pointwise [k0_pay305]

/-- A load of two carried rows reads them. -/
theorem row_read {a : Memref sig .tc .vmem S22x2x8x128 .f32} (ha : a.IsWhole) (cy : Vec Ideal S22x2x8x128 .f32) (p q : ℕ) (hp : p < 22) (hq : q < 2)
    {inb} (r : Fin 2) (l : Fin 128) :
    View.readAt (Elt Ideal) a.view (Rect.unit (s := S22x2x8x128) ![p, q, 6, 0] S1x1x2x128.size inb).toLoadRect (ha.unread cy) (ix4 (n0 := 1) (n1 := 1) 0 0 r l)
      = cy (ix4 (Fin.ofNat 22 p) (Fin.ofNat 2 q) (Fin.ofNat 8 (6 + r.val)) l) := by
  refine read_at ha cy _ _ fun b => ?_
  match b with
  | 0 => show p % 22 = p + 0; omega
  | 1 => show q % 2 = q + 0; omega
  | 2 => show (6 + r.val) % 8 = 6 + r.val; omega
  | 3 => exact (Nat.zero_add _).symm

variable {c : Dev nD} {i : grid0.Coords}
  {arg1 : Memref sig .tc .vmem S1x512x1024 .f32} (harg1 : arg1.IsWhole)
  {arg2 : Memref sig .tc .vmem S8x3072 .f32} (harg2 : arg2.IsWhole)
  {arg3 : Memref sig .tc .vmem S1024x5632 .bf16} (harg3 : arg3.IsWhole)
  {arg4 : Memref sig .tc .vmem S3x5632 .f32} (harg4 : arg4.IsWhole)
  {arg5 : Memref sig .tc .vmem S1x5632 .f32} (harg5 : arg5.IsWhole)
  {arg6 : Memref sig .tc .vmem S2816x1024 .bf16} (harg6 : arg6.IsWhole)
  {arg7 : Memref sig .tc .vmem S1x1024 .f32} (harg7 : arg7.IsWhole)
  {arg8 : Memref sig .tc .vmem S1x1024 .f32} (harg8 : arg8.IsWhole)
  {arg9 : Memref sig .tc .vmem S1x512x1024 .f32} (harg9 : arg9.IsWhole)
  {arg10 : Memref sig .tc .vmem S1x2x5632 .f32} (harg10 : arg10.IsWhole)
  {arg11 : Memref sig .tc .vmem S22x2x8x128 .f32} (harg11 : arg11.IsWhole)
  {arg12 : Memref sig .tc .vmem S512x1024 .bf16} (harg12 : arg12.IsWhole)
  {arg13 : Memref sig .tc .vmem S2x2x2x520x128 .f32} (harg13 : arg13.IsWhole)
  {arg14 : Memref sig .tc .vmem S2x512x2816 .bf16} (harg14 : arg14.IsWhole)
  {arg15 : Memref sig .tc .vmem S512x1024 .f32} (harg15 : arg15.IsWhole)
  {arg16 : Memref sig .tc .vmem S512x1024 .f32} (harg16 : arg16.IsWhole)

theorem save_val (xs0 : Vec Ideal S22x2x8x128 .f32) :
    View.canon (saveRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xs0).1 = saveV xs0 := by
  funext y
  have h2 : (y 2).val < 5632 := (y 2).isLt
  unfold saveRun
  dsimp only
  refine save_step xs0 43 5504 (by omega) _ (fun r l => (srow_apply _ r l).trans (row_read harg11 xs0 21 1 (by omega) (by omega) r l)) _ y fun n43 => ?_
  refine save_step xs0 42 5376 (by omega) _ (fun r l => (srow_apply _ r l).trans (row_read harg11 xs0 21 0 (by omega) (by omega) r l)) _ y fun n42 => ?_
  refine save_step xs0 41 5248 (by omega) _ (fun r l => (srow_apply _ r l).trans (row_read harg11 xs0 20 1 (by omega) (by omega) r l)) _ y fun n41 => ?_
  refine save_step xs0 40 5120 (by omega) _ (fun r l => (srow_apply _ r l).trans (row_read harg11 xs0 20 0 (by omega) (by omega) r l)) _ y fun n40 => ?_
  refine save_step xs0 39 4992 (by omega) _ (fun r l => (srow_apply _ r l).trans (row_read harg11 xs0 19 1 (by omega) (by omega) r l)) _ y fun n39 => ?_
  refine save_step xs0 38 4864 (by omega) _ (fun r l => (srow_apply _ r l).trans (row_read harg11 xs0 19 0 (by omega) (by omega) r l)) _ y fun n38 => ?_
  refine save_step xs0 37 4736 (by omega) _ (fun r l => (srow_apply _ r l).trans (row_read harg11 xs0 18 1 (by omega) (by omega) r l)) _ y fun n37 => ?_
  refine save_step xs0 36 4608 (by omega) _ (fun r l => (srow_apply _ r l).trans (row_read harg11 xs0 18 0 (by omega) (by omega) r l)) _ y fun n36 => ?_
  refine save_step xs0 35 4480 (by omega) _ (fun r l => (srow_apply _ r l).trans (row_read harg11 xs0 17 1 (by omega) (by omega) r l)) _ y fun n35 => ?_
  refine save_step xs0 34 4352 (by omega) _ (fun r l => (srow_apply _ r l).trans (row_read harg11 xs0 17 0 (by omega) (by omega) r l)) _ y fun n34 => ?_
  refine save_step xs0 33 4224 (by omega) _ (fun r l => (srow_apply _ r l).trans (row_read harg11 xs0 16 1 (by omega) (by omega) r l)) _ y fun n33 => ?_
  refine save_step xs0 32 4096 (by omega) _ (fun r l => (srow_apply _ r l).trans (row_read harg11 xs0 16 0 (by omega) (by omega) r l)) _ y fun n32 => ?_
  refine save_step xs0 31 3968 (by omega) _ (fun r l => (srow_apply _ r l).trans (row_read harg11 xs0 15 1 (by omega) (by omega) r l)) _ y fun n31 => ?_
  refine save_step xs0 30 3840 (by omega) _ (fun r l => (srow_apply _ r l).trans (row_read harg11 xs0 15 0 (by omega) (by omega) r l)) _ y fun n30 => ?_
  refine save_step xs0 29 3712 (by omega) _ (fun r l => (srow_apply _ r l).trans (row_read harg11 xs0 14 1 (by omega) (by omega) r l)) _ y fun n29 => ?_
  refine save_step xs0 28 3584 (by omega) _ (fun r l => (srow_apply _ r l).trans (row_read harg11 xs0 14 0 (by omega) (by omega) r l)) _ y fun n28 => ?_
  refine save_step xs0 27 3456 (by omega) _ (fun r l => (srow_apply _ r l).trans (row_read harg11 xs0 13 1 (by omega) (by omega) r l)) _ y fun n27 => ?_
  refine save_step xs0 26 3328 (by omega) _ (fun r l => (srow_apply _ r l).trans (row_read harg11 xs0 13 0 (by omega) (by omega) r l)) _ y fun n26 => ?_
  refine save_step xs0 25 3200 (by omega) _ (fun r l => (srow_apply _ r l).trans (row_read harg11 xs0 12 1 (by omega) (by omega) r l)) _ y fun n25 => ?_
  refine save_step xs0 24 3072 (by omega) _ (fun r l => (srow_apply _ r l).trans (row_read harg11 xs0 12 0 (by omega) (by omega) r l)) _ y fun n24 => ?_
  refine save_step xs0 23 2944 (by omega) _ (fun r l => (srow_apply _ r l).trans (row_read harg11 xs0 11 1 (by omega) (by omega) r l)) _ y fun n23 => ?_
  refine save_step xs0 22 2816 (by omega) _ (fun r l => (srow_apply _ r l).trans (row_read harg11 xs0 11 0 (by omega) (by omega) r l)) _ y fun n22 => ?_
  refine save_step xs0 21 2688 (by omega) _ (fun r l => (srow_apply _ r l).trans (row_read harg11 xs0 10 1 (by omega) (by omega) r l)) _ y fun n21 => ?_
  refine save_step xs0 20 2560 (by omega) _ (fun r l => (srow_apply _ r l).trans (row_read harg11 xs0 10 0 (by omega) (by omega) r l)) _ y fun n20 => ?_
  refine save_step xs0 19 2432 (by omega) _ (fun r l => (srow_apply _ r l).trans (row_read harg11 xs0 9 1 (by omega) (by omega) r l)) _ y fun n19 => ?_
  refine save_step xs0 18 2304 (by omega) _ (fun r l => (srow_apply _ r l).trans (row_read harg11 xs0 9 0 (by omega) (by omega) r l)) _ y fun n18 => ?_
  refine save_step xs0 17 2176 (by omega) _ (fun r l => (srow_apply _ r l).trans (row_read harg11 xs0 8 1 (by omega) (by omega) r l)) _ y fun n17 => ?_
  refine save_step xs0 16 2048 (by omega) _ (fun r l => (srow_apply _ r l).trans (row_read harg11 xs0 8 0 (by omega) (by omega) r l)) _ y fun n16 => ?_
  refine save_step xs0 15 1920 (by omega) _ (fun r l => (srow_apply _ r l).trans (row_read harg11 xs0 7 1 (by omega) (by omega) r l)) _ y fun n15 => ?_
  refine save_step xs0 14 1792 (by omega) _ (fun r l => (srow_apply _ r l).trans (row_read harg11 xs0 7 0 (by omega) (by omega) r l)) _ y fun n14 => ?_
  refine save_step xs0 13 1664 (by omega) _ (fun r l => (srow_apply _ r l).trans (row_read harg11 xs0 6 1 (by omega) (by omega) r l)) _ y fun n13 => ?_
  refine save_step xs0 12 1536 (by omega) _ (fun r l => (srow_apply _ r l).trans (row_read harg11 xs0 6 0 (by omega) (by omega) r l)) _ y fun n12 => ?_
  refine save_step xs0 11 1408 (by omega) _ (fun r l => (srow_apply _ r l).trans (row_read harg11 xs0 5 1 (by omega) (by omega) r l)) _ y fun n11 => ?_
  refine save_step xs0 10 1280 (by omega) _ (fun r l => (srow_apply _ r l).trans (row_read harg11 xs0 5 0 (by omega) (by omega) r l)) _ y fun n10 => ?_
  refine save_step xs0 9 1152 (by omega) _ (fun r l => (srow_apply _ r l).trans (row_read harg11 xs0 4 1 (by omega) (by omega) r l)) _ y fun n9 => ?_
  refine save_step xs0 8 1024 (by omega) _ (fun r l => (srow_apply _ r l).trans (row_read harg11 xs0 4 0 (by omega) (by omega) r l)) _ y fun n8 => ?_
  refine save_step xs0 7 896 (by omega) _ (fun r l => (srow_apply _ r l).trans (row_read harg11 xs0 3 1 (by omega) (by omega) r l)) _ y fun n7 => ?_
  refine save_step xs0 6 768 (by omega) _ (fun r l => (srow_apply _ r l).trans (row_read harg11 xs0 3 0 (by omega) (by omega) r l)) _ y fun n6 => ?_
  refine save_step xs0 5 640 (by omega) _ (fun r l => (srow_apply _ r l).trans (row_read harg11 xs0 2 1 (by omega) (by omega) r l)) _ y fun n5 => ?_
  refine save_step xs0 4 512 (by omega) _ (fun r l => (srow_apply _ r l).trans (row_read harg11 xs0 2 0 (by omega) (by omega) r l)) _ y fun n4 => ?_
  refine save_step xs0 3 384 (by omega) _ (fun r l => (srow_apply _ r l).trans (row_read harg11 xs0 1 1 (by omega) (by omega) r l)) _ y fun n3 => ?_
  refine save_step xs0 2 256 (by omega) _ (fun r l => (srow_apply _ r l).trans (row_read harg11 xs0 1 0 (by omega) (by omega) r l)) _ y fun n2 => ?_
  refine save_step xs0 1 128 (by omega) _ (fun r l => (srow_apply _ r l).trans (row_read harg11 xs0 0 1 (by omega) (by omega) r l)) _ y fun n1 => ?_
  refine save_step xs0 0 0 (by omega) _ (fun r l => (srow_apply _ r l).trans (row_read harg11 xs0 0 0 (by omega) (by omega) r l)) _ y fun n0 => ?_
  omega

set_option maxHeartbeats 1796000 in
open Classical in
/-- The resets, on whole buffers. -/
theorem resets (E : Set ℕ) (K : (Σ' (arg0 : BitVec 32) (v17 : BitVec 32) (v27 : BitVec 32), BitVec 1) → sProp 𝕄)
    (xs0 : Vec Ideal S22x2x8x128 .f32) (xs5 : Vec Ideal S512x1024 .f32) :
    iprop(owns (c : Thread nD τ) arg11 fullShare xs0 ∗ owns (c : Thread nD τ) arg16 fullShare xs5
        ∗ (∀ r, iprop(owns (c : Thread nD τ) arg11 fullShare (if seqStart i then cy0 else xs0) ∗ owns (c : Thread nD τ) arg16 fullShare (if runStart i then pre0 else xs5)) -∗ K r))
      ⊢ wp frame (wpE (defs₀ (F := Ideal)) Variants.none c none) E (k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h0 : runStart i <;> by_cases h1 : seqStart i
  all_goals
    first | rw [if_pos h0] | rw [if_neg h0]
    first | rw [if_pos h1] | rw [if_neg h1]
    simp only [k0_part95_eq_skeleton]
    unfold k0_part95_skel owns
    iintro ⟨⟨%f11, %hf11, H11⟩, ⟨%f16, %hf16, H16⟩, Hk⟩
    obtain rfl := harg11.eq_unread hf11
    obtain rfl := harg16.eq_unread hf16
    sl_exec (disch := first | sl_exact h0 | sl_exact h1)
    sl_step
    ispecialize Hk $$ %_
    iapply Hk
    isplitl [H11]
    · iexists _; isplitr; swap; · iexact H11
      ipureintro
      first
        | exact harg11.read_unread _
        | exact (View.read_writes_eq_canon _ _ _ (View.cover_of_tiledL _ S22x2x8x128.size (by sl_kernel_rfl))).trans
            (View.canon_cons_unit_lit (S := S22x2x8x128) (off := ![0, 0, 0, 0]) _ _ _ (fun a => by match a with | 0 => rfl | 1 => rfl | 2 => rfl | 3 => rfl))
    · iexists _; isplitr; swap; · iexact H16
      ipureintro
      first
        | exact harg16.read_unread _
        | exact (View.read_writes_eq_canon _ _ _ (View.cover_of_tiledL _ S512x1024.size (by sl_kernel_rfl))).trans
            (View.canon_cons_unit_lit (S := S512x1024) (off := ![0, 0]) _ _ _ (fun a => by match a with | 0 => rfl | 1 => rfl))

/-- A piece list kept as contents. -/
theorem owns_of_pieces {sp : Space} {S : Shape} {e : EltTy} (c : Dev nD) (a : Memref sig .tc sp S e) (L : List (View.Piece (Elt Ideal) S e))
    (x : Vec Ideal S e) (hc : ∀ y, ∃ p ∈ L, y ∈ p.1.set) (hx : View.canon L = x) :
    (iprop(∃ f, a.view.loc (c : Thread nD τ) ↦[a.view.set]{fullShare} a.view.writes (Elt Ideal) f L) : sProp 𝕄)
      ⊢ owns (c : Thread nD τ) a fullShare x := by
  unfold owns
  iintro ⟨%f, H⟩
  iexists _
  isplitr; swap; · iexact H
  ipureintro
  exact (View.read_writes_eq_canon _ _ _ hc).trans hx

set_option maxHeartbeats 1796000 in
/-- The tile, on whole buffers. -/
theorem tile_run (E : Set ℕ) (K : PUnit → sProp 𝕄) (v17 : BitVec 32) (hc2 : k0_cond3 i = 1#1)
    (n : Fin 8) (hn0 : k0_off1 i 0 = n.val) (hn1 : k0_off1 i 1 = 0)
    (x0 : Vec Ideal S1x512x1024 .f32) (x1 : Vec Ideal S8x3072 .f32) (x2 : Vec Ideal S1024x5632 .bf16)
    (x3 : Vec Ideal S3x5632 .f32) (x4 : Vec Ideal S1x5632 .f32) (x5 : Vec Ideal S2816x1024 .bf16) (x6 x7 : Vec Ideal S1x1024 .f32) (xs0 : Vec Ideal S22x2x8x128 .f32)
    (xs5 : Vec Ideal S512x1024 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay6 xs5 x6 x7) ∗ owns (c : Thread nD τ) arg11 fullShare (tileC x0 x1 x2 xs0 n) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (tileP x0 x1 x2 x3 x4 x5 xs0 n)) -∗ K ⟨⟩))
      ⊢ wp frame (wpE (defs₀ (F := Ideal)) Variants.none c none) E (tileProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2) K := by
  have hO := owns_of_pieces c arg9 (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).1 (k0_pay6 xs5 x6 x7)
    (View.cover_of_tiledL _ S1x512x1024.size (by sl_kernel_rfl)) (by
      unfold tileRun
      dsimp only
      rw [View.canon_cons_unit_lit (S := S1x512x1024) _ _ _ (fun a => by match a with | 0 => rfl | 1 => rfl | 2 => rfl)]
      have e16 : View.readAt (Elt Ideal) arg16.view (Rect.unit (s := S512x1024) ![0, 0] S512x1024.size inb_S512x1024_S512x1024_0_0).toLoadRect (harg16.unread xs5) = xs5 :=
        funext fun j => read_at harg16 xs5 j j fun a => by match a with | 0 => exact (Nat.zero_add _).symm | 1 => exact (Nat.zero_add _).symm
      have e7 : View.readAt (Elt Ideal) arg7.view (Rect.unit (s := S1x1024) ![0, 0] S1x1024.size inb_S1x1024_S1x1024_0_0).toLoadRect (harg7.unread x6) = x6 :=
        funext fun j => read_at harg7 x6 j j fun a => by match a with | 0 => exact (Nat.zero_add _).symm | 1 => exact (Nat.zero_add _).symm
      have e8 : View.readAt (Elt Ideal) arg8.view (Rect.unit (s := S1x1024) ![0, 0] S1x1024.size inb_S1x1024_S1x1024_0_0).toLoadRect (harg8.unread x7) = x7 :=
        funext fun j => read_at harg8 x7 j j fun a => by match a with | 0 => exact (Nat.zero_add _).symm | 1 => exact (Nat.zero_add _).symm
      exact congr (congr (congrArg k0_pay6 e16) e7) e8)
  have hC := owns_of_pieces c arg11 (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).2.1 (tileC x0 x1 x2 xs0 n)
    (View.cover_of_tiledL _ S1x1x8x128.size (by sl_kernel_rfl)) (carry_val (hn0 := hn0) (hn1 := hn1) ..)
  have hP := owns_of_pieces c arg16 (tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).2.2.1 (tileP x0 x1 x2 x3 x4 x5 xs0 n)
    (View.cover_of_tiledL _ S512x1024.size (by sl_kernel_rfl)) (pre_val (hn0 := hn0) (hn1 := hn1) ..)
  iintro ⟨H1, H2, H3, H4, H5, H6, H7, H8, H9, H11, H12, H13, H14, H15, H16, Hk⟩
  iapply ((tileRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 hc2 x0 x1 x2 x3 x4 x5 x6 x7 xs0 xs5).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H11, H12, H13, H14, H15, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply hO; iexact H9
  isplitl [H11]; · iapply hC; iexact H11
  isplitl [H12]; · iexact H12
  isplitl [H13]; · iexact H13
  isplitl [H14]; · iexact H14
  isplitl [H15]; · iexact H15
  iapply hP; iexact H16

set_option maxHeartbeats 1796000 in
/-- The saving, on whole buffers. -/
theorem save_run (E : Set ℕ) (K : PUnit → sProp 𝕄) (xs0 : Vec Ideal S22x2x8x128 .f32) :
    iprop((∃ d, owns (c : Thread nD τ) arg10 fullShare d) ∗ owns (c : Thread nD τ) arg11 fullShare xs0
        ∗ (iprop(owns (c : Thread nD τ) arg10 fullShare (saveV xs0) ∗ owns (c : Thread nD τ) arg11 fullShare xs0) -∗ K ⟨⟩))
      ⊢ wp frame (wpE (defs₀ (F := Ideal)) Variants.none c none) E (saveProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hO := owns_of_pieces c arg10 (saveRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xs0).1 (saveV xs0)
    (View.cover_of_tiledL _ S1x2x128.size (by sl_kernel_rfl)) (save_val ..)
  iintro ⟨H10, H11, Hk⟩
  iapply ((saveRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 xs0).2 E K)
  isplitl [H10]; · iexact H10
  isplitl [H11]; · iexact H11
  iintro ⟨H10, H11⟩
  iapply Hk
  isplitl [H10]; · iapply hO; iexact H10
  iexact H11

set_option maxHeartbeats 1796000 in
/-- The last normalization, on whole buffers. -/
theorem fin_run (E : Set ℕ) (K : PUnit → sProp 𝕄) (x6 x7 : Vec Ideal S1x1024 .f32) (xs5 : Vec Ideal S512x1024 .f32) :
    iprop(owns (c : Thread nD τ) arg7 fullShare x6 ∗ owns (c : Thread nD τ) arg8 fullShare x7 ∗ (∃ d, owns (c : Thread nD τ) arg9 fullShare d) ∗ owns (c : Thread nD τ) arg16 fullShare xs5
        ∗ (iprop(owns (c : Thread nD τ) arg7 fullShare x6 ∗ owns (c : Thread nD τ) arg8 fullShare x7 ∗ owns (c : Thread nD τ) arg9 fullShare (k0_pay6 xs5 x6 x7) ∗ owns (c : Thread nD τ) arg16 fullShare xs5) -∗ K ⟨⟩))
      ⊢ wp frame (wpE (defs₀ (F := Ideal)) Variants.none c none) E (finProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hO := owns_of_pieces c arg9 (finRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x6 x7 xs5).1 (k0_pay6 xs5 x6 x7)
    (View.cover_of_tiledL _ S1x512x1024.size (by sl_kernel_rfl)) (by
      unfold finRun
      dsimp only
      rw [View.canon_cons_unit_lit (S := S1x512x1024) _ _ _ (fun a => by match a with | 0 => rfl | 1 => rfl | 2 => rfl)]
      have e16 : View.readAt (Elt Ideal) arg16.view (Rect.unit (s := S512x1024) ![0, 0] S512x1024.size inb_S512x1024_S512x1024_0_0).toLoadRect (harg16.unread xs5) = xs5 :=
        funext fun j => read_at harg16 xs5 j j fun a => by match a with | 0 => exact (Nat.zero_add _).symm | 1 => exact (Nat.zero_add _).symm
      have e7 : View.readAt (Elt Ideal) arg7.view (Rect.unit (s := S1x1024) ![0, 0] S1x1024.size inb_S1x1024_S1x1024_0_0).toLoadRect (harg7.unread x6) = x6 :=
        funext fun j => read_at harg7 x6 j j fun a => by match a with | 0 => exact (Nat.zero_add _).symm | 1 => exact (Nat.zero_add _).symm
      have e8 : View.readAt (Elt Ideal) arg8.view (Rect.unit (s := S1x1024) ![0, 0] S1x1024.size inb_S1x1024_S1x1024_0_0).toLoadRect (harg8.unread x7) = x7 :=
        funext fun j => read_at harg8 x7 j j fun a => by match a with | 0 => exact (Nat.zero_add _).symm | 1 => exact (Nat.zero_add _).symm
      exact congr (congr (congrArg k0_pay6 e16) e7) e8)
  iintro ⟨H7, H8, H9, H16, Hk⟩
  iapply ((finRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x6 x7 xs5).2 E K)
  isplitl [H7]; · iexact H7
  isplitl [H8]; · iexact H8
  isplitl [H9]; · iexact H9
  isplitl [H16]; · iexact H16
  iintro ⟨H7, H8, H9, H16⟩
  iapply Hk
  isplitl [H7]; · iexact H7
  isplitl [H8]; · iexact H8
  isplitl [H9]; · iapply hO; iexact H9
  iexact H16

end Cert.Ffn
-- ==== Proof.Ffn.Whole.lean ====
module

public import proofs.«01_k».proof.Proof.Ffn.Body

/-! # The body at a tile and at the last point, its parts put together -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {c : Dev nD} {i : grid0.Coords}
  {arg1 : Memref sig .tc .vmem S1x512x1024 .f32} (harg1 : arg1.IsWhole)
  {arg2 : Memref sig .tc .vmem S8x3072 .f32} (harg2 : arg2.IsWhole)
  {arg3 : Memref sig .tc .vmem S1024x5632 .bf16} (harg3 : arg3.IsWhole)
  {arg4 : Memref sig .tc .vmem S3x5632 .f32} (harg4 : arg4.IsWhole)
  {arg5 : Memref sig .tc .vmem S1x5632 .f32} (harg5 : arg5.IsWhole)
  {arg6 : Memref sig .tc .vmem S2816x1024 .bf16} (harg6 : arg6.IsWhole)
  {arg7 : Memref sig .tc .vmem S1x1024 .f32} (harg7 : arg7.IsWhole)
  {arg8 : Memref sig .tc .vmem S1x1024 .f32} (harg8 : arg8.IsWhole)
  {arg9 : Memref sig .tc .vmem S1x512x1024 .f32} (harg9 : arg9.IsWhole)
  {arg10 : Memref sig .tc .vmem S1x2x5632 .f32} (harg10 : arg10.IsWhole)
  {arg11 : Memref sig .tc .vmem S22x2x8x128 .f32} (harg11 : arg11.IsWhole)
  {arg12 : Memref sig .tc .vmem S512x1024 .bf16} (harg12 : arg12.IsWhole)
  {arg13 : Memref sig .tc .vmem S2x2x2x520x128 .f32} (harg13 : arg13.IsWhole)
  {arg14 : Memref sig .tc .vmem S2x512x2816 .bf16} (harg14 : arg14.IsWhole)
  {arg15 : Memref sig .tc .vmem S512x1024 .f32} (harg15 : arg15.IsWhole)
  {arg16 : Memref sig .tc .vmem S512x1024 .f32} (harg16 : arg16.IsWhole)

open Classical in
set_option maxHeartbeats 1000000 in
/-- The body at a point that has a tile. -/
theorem whole_tile (E : Set ℕ) (K : PUnit → sProp 𝕄) (hc2 : k0_cond3 i = 1#1) (hc4 : ¬k0_cond5 i = 1#1)
    (n : Fin 8) (hn0 : k0_off1 i 0 = n.val) (hn1 : k0_off1 i 1 = 0)
    (x0 : Vec Ideal S1x512x1024 .f32) (x1 : Vec Ideal S8x3072 .f32) (x2 : Vec Ideal S1024x5632 .bf16)
    (x3 : Vec Ideal S3x5632 .f32) (x4 : Vec Ideal S1x5632 .f32) (x5 : Vec Ideal S2816x1024 .bf16) (x6 x7 : Vec Ideal S1x1024 .f32) (xv : Vec Ideal S1x2x5632 .f32)
    (xs0 : Vec Ideal S22x2x8x128 .f32) (xs5 : Vec Ideal S512x1024 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xv ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay6 (if runStart i then pre0 else xs5) x6 x7)
            ∗ owns (c : Thread nD τ) arg10 fullShare (if k0_cond4 i = 1#1 then saveV (tileC x0 x1 x2 (if seqStart i then cy0 else xs0) n) else xv)
            ∗ owns (c : Thread nD τ) arg11 fullShare (tileC x0 x1 x2 (if seqStart i then cy0 else xs0) n) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (tileP x0 x1 x2 x3 x4 x5 (if seqStart i then cy0 else xs0) n)) -∗ K ⟨⟩))
      ⊢ wp frame (wpE (defs₀ (F := Ideal)) Variants.none c none) E (cc0_conv_ffn (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind]
  iintro ⟨H1, H2, H3, H4, H5, H6, H7, H8, H9, H10, H11, H12, H13, H14, H15, H16, Hk⟩
  iapply (resets (c := c) (i := i) harg1 harg2 harg3 harg4 harg5 harg6 harg7 harg8 harg9 harg10 harg11 harg12 harg13 harg14 harg15 harg16 E _ _ _)
  isplitl [H11]; · iexact H11
  isplitl [H16]; · iexact H16
  iintro %r ⟨H11, H16⟩
  obtain ⟨a0, v17, v27, v36⟩ := r
  dsimp only
  rw [dif_pos hc2, wp_bind]
  iapply (tile_run (c := c) harg1 harg2 harg3 harg4 harg5 harg6 harg7 harg8 harg9 harg10 harg11 harg12 harg13 harg14 harg15 harg16 E _ v17 hc2 n hn0 hn1 x0 x1 x2 x3 x4 x5 x6 x7 _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H11, H12, H13, H14, H15, H16⟩
  rw [dif_neg hc4]
  by_cases hc3 : k0_cond4 i = 1#1
  · rw [dif_pos hc3, if_pos hc3, wp_bind]
    iapply (save_run (c := c) (i := i) harg1 harg2 harg3 harg4 harg5 harg6 harg7 harg8 harg9 harg10 harg11 harg12 harg13 harg14 harg15 harg16 E _ _)
    isplitl [H10]; · iexists _; iexact H10
    isplitl [H11]; · iexact H11
    iintro ⟨H10, H11⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg hc3, if_neg hc3]
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 1000000 in
/-- The body at the last point. -/
theorem whole_last (E : Set ℕ) (K : PUnit → sProp 𝕄) (hc0 : ¬runStart i) (hc1 : ¬seqStart i) (hc2 : ¬k0_cond3 i = 1#1) (hc3 : ¬k0_cond4 i = 1#1)
    (hc4 : k0_cond5 i = 1#1) (x6 x7 : Vec Ideal S1x1024 .f32) (xs0 : Vec Ideal S22x2x8x128 .f32) (xs5 : Vec Ideal S512x1024 .f32) :
    iprop(owns (c : Thread nD τ) arg7 fullShare x6 ∗ owns (c : Thread nD τ) arg8 fullShare x7 ∗ (∃ d, owns (c : Thread nD τ) arg9 fullShare d) ∗ owns (c : Thread nD τ) arg11 fullShare xs0 ∗ owns (c : Thread nD τ) arg16 fullShare xs5
        ∗ (iprop(owns (c : Thread nD τ) arg7 fullShare x6 ∗ owns (c : Thread nD τ) arg8 fullShare x7 ∗ owns (c : Thread nD τ) arg9 fullShare (k0_pay6 xs5 x6 x7) ∗ owns (c : Thread nD τ) arg11 fullShare xs0 ∗ owns (c : Thread nD τ) arg16 fullShare xs5) -∗ K ⟨⟩))
      ⊢ wp frame (wpE (defs₀ (F := Ideal)) Variants.none c none) E (cc0_conv_ffn (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind]
  iintro ⟨H7, H8, H9, H11, H16, Hk⟩
  iapply (resets (c := c) (i := i) harg1 harg2 harg3 harg4 harg5 harg6 harg7 harg8 harg9 harg10 harg11 harg12 harg13 harg14 harg15 harg16 E _ _ _)
  isplitl [H11]; · iexact H11
  isplitl [H16]; · iexact H16
  rw [if_neg hc0, if_neg hc1]
  iintro %r ⟨H11, H16⟩
  obtain ⟨a0, v17, v27, v36⟩ := r
  dsimp only
  rw [dif_neg hc2, dif_neg hc3, dif_pos hc4]
  rw [wp_bind]
  iapply (fin_run (c := c) (i := i) harg1 harg2 harg3 harg4 harg5 harg6 harg7 harg8 harg9 harg10 harg11 harg12 harg13 harg14 harg15 harg16 E _ _ _ _)
  isplitl [H7]; · iexact H7
  isplitl [H8]; · iexact H8
  isplitl [H9]; · iexact H9
  isplitl [H16]; · iexact H16
  iintro ⟨H7, H8, H9, H16⟩
  sl_exec
  sl_step
  iapply Hk
  isplitl [H7]; · iexact H7
  isplitl [H8]; · iexact H8
  isplitl [H9]; · iexact H9
  isplitl [H11]; · iexact H11
  iexact H16

end Cert.Ffn
-- ==== Proof.Ffn.Cert.lean ====
module

public import proofs.«01_k».proof.Proof.Ffn.Whole
public import proofs.«01_k».proof.Proof.Gen.Kernel2Ideal.Frame
public import Idealize.ShloMosaic.Lib.Claim

/-! # The feed-forward layer's run: what every buffer holds after every grid point -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The grid's conditions -/

theorem runStart_iff : ∀ t : Fin cfg0.N, runStart (grid0.coords t) ↔ t.val = 0 :=
  (by decide +kernel : ∀ t : Fin grid0.N, runStart (grid0.coords t) ↔ t.val = 0)
theorem seqStart_iff : ∀ t : Fin cfg0.N, seqStart (grid0.coords t) ↔ (t.val % 4 = 0 ∧ t.val < 32) :=
  (by decide +kernel : ∀ t : Fin grid0.N, seqStart (grid0.coords t) ↔ (t.val % 4 = 0 ∧ t.val < 32))
theorem hasTile_iff : ∀ t : Fin cfg0.N, k0_cond3 (grid0.coords t) = 1#1 ↔ t.val < 32 :=
  (by decide +kernel : ∀ t : Fin grid0.N, k0_cond3 (grid0.coords t) = 1#1 ↔ t.val < 32)
theorem saves_iff : ∀ t : Fin cfg0.N, k0_cond4 (grid0.coords t) = 1#1 ↔ t.val % 4 = 3 :=
  (by decide +kernel : ∀ t : Fin grid0.N, k0_cond4 (grid0.coords t) = 1#1 ↔ t.val % 4 = 3)
theorem last_iff : ∀ t : Fin cfg0.N, k0_cond5 (grid0.coords t) = 1#1 ↔ t.val = 32 :=
  (by decide +kernel : ∀ t : Fin grid0.N, k0_cond5 (grid0.coords t) = 1#1 ↔ t.val = 32)
theorem modRow : ∀ t : Fin cfg0.N, t.val < 32 → (k0_off1 (grid0.coords t) 0 = t.val / 4 ∧ k0_off1 (grid0.coords t) 1 = 0) :=
  (by decide +kernel : ∀ t : Fin grid0.N, t.val < 32 → (k0_off1 (grid0.coords t) 0 = t.val / 4 ∧ k0_off1 (grid0.coords t) 1 = 0))
theorem live8 : ∀ t : Fin cfg0.N, cfg0.idle 8 (cfg0.grid.coords t) = false :=
  (by decide +kernel : ∀ t : Fin cfg0.N, cfg0.idle 8 (cfg0.grid.coords t) = false)
theorem live9 : ∀ t : Fin cfg0.N, t.val % 4 = 3 → cfg0.idle 9 (cfg0.grid.coords t) = false :=
  (by decide +kernel : ∀ t : Fin cfg0.N, t.val % 4 = 3 → cfg0.idle 9 (cfg0.grid.coords t) = false)
theorem idle9 : ∀ t : Fin cfg0.N, t.val % 4 ≠ 3 → cfg0.idle 9 (cfg0.grid.coords t) = true :=
  (by decide +kernel : ∀ t : Fin cfg0.N, t.val % 4 ≠ 3 → cfg0.idle 9 (cfg0.grid.coords t) = true)
theorem flush9 : ∀ t : Fin cfg0.N, t.val % 4 ≠ 3 → t.val < 32 → (cfg0.win 9).flush t = false :=
  (by decide +kernel : ∀ t : Fin cfg0.N, t.val % 4 ≠ 3 → t.val < 32 → (cfg0.win 9).flush t = false)
theorem noflush31 : ∀ t : Fin cfg0.N, t.val = 31 → (cfg0.win 9).flush t = false :=
  (by decide +kernel : ∀ t : Fin cfg0.N, t.val = 31 → (cfg0.win 9).flush t = false)
theorem flush32 : ∀ t : Fin cfg0.N, t.val = 32 → (cfg0.win 9).flush t = true :=
  (by decide +kernel : ∀ t : Fin cfg0.N, t.val = 32 → (cfg0.win 9).flush t = true)

/-! ## What the carried buffers hold -/

/-- The point of tile `n` (the last tile after it). -/
def pt (n : ℕ) : Fin cfg0.N := ⟨min n 31, lt_of_lt_of_eq (by omega : min n 31 < 33) (show 33 = cfg0.N from N_0.symm)⟩

theorem pt_self (t : Fin cfg0.N) (h : t.val < 32) : pt t.val = t := Fin.ext (by show min t.val 31 = t.val; omega)

/-- The sequence of tile `n`. -/
def sq (n : ℕ) : Fin 8 := Fin.ofNat 8 (min n 31 / 4)

/-- What tile `n` leaves to the next. -/
def cyA (c : Dev nD) (n : ℕ) : Vec Ideal S22x2x8x128 .f32 :=
  tileC (iblk m c 0 (pt n)) (iblk m c 1 (pt n)) (iblk m c 2 (pt n)) cy0 (sq n)
/-- What tile `n` finds in the carry. -/
def cyIn (c : Dev nD) (n : ℕ) : Vec Ideal S22x2x8x128 .f32 := if n % 4 = 0 then cy0 else cyA m c (n - 1)
/-- What tile `n` leaves pending. -/
def prA (c : Dev nD) (n : ℕ) : Vec Ideal S512x1024 .f32 :=
  tileP (iblk m c 0 (pt n)) (iblk m c 1 (pt n)) (iblk m c 2 (pt n)) (iblk m c 3 (pt n)) (iblk m c 4 (pt n)) (iblk m c 5 (pt n)) (cyIn m c (min n 31)) (sq n)
/-- What point `n` finds pending. -/
def prIn (c : Dev nD) (n : ℕ) : Vec Ideal S512x1024 .f32 := if n = 0 then pre0 else prA m c (n - 1)

/-- The rows left to the next tile do not read the carry. -/
theorem tileC_indep (x : Vec Ideal S1x512x1024 .f32) (mo : Vec Ideal S8x3072 .f32) (w : Vec Ideal S1024x5632 .bf16) (cy cy' : Vec Ideal S22x2x8x128 .f32)
    (n : Fin 8) : tileC x mo w cy n = tileC x mo w cy' n := by
  funext y
  unfold tileC extS
  rw [if_neg (by omega), if_neg (by omega)]

theorem cyA_last (c : Dev nD) : cyA m c 32 = cyA m c 31 := rfl
theorem prA_last (c : Dev nD) : prA m c 32 = prA m c 31 := rfl

/-! The windows' current staging buffers and the scratch buffers, by name. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x5632 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5632 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2816x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x5632 .f32 := win0_9.stage (cfg0.slots t 9)
abbrev hs0_9 (t : Fin cfg0.N) : (ms0_9 t).IsWhole := hstage0_9 ((cfg0.slots t 9).cast nbuf0_9)
abbrev scM0_0 : Memref sig .tc .vmem S22x2x8x128 .f32 := Memref.whole cc0_scratch0
abbrev scM0_1 : Memref sig .tc .vmem S512x1024 .bf16 := Memref.whole cc0_scratch1
abbrev scM0_2 : Memref sig .tc .vmem S2x2x2x520x128 .f32 := Memref.whole cc0_scratch2
abbrev scM0_3 : Memref sig .tc .vmem S2x512x2816 .bf16 := Memref.whole cc0_scratch3
abbrev scM0_4 : Memref sig .tc .vmem S512x1024 .f32 := Memref.whole cc0_scratch4
abbrev scM0_5 : Memref sig .tc .vmem S512x1024 .f32 := Memref.whole cc0_scratch5

/-- The scratch at anything, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The scratch and the generator before position `n`. -/
def PhiS (c : Dev nD) : (n : ℕ) → n ≤ cfg0.N → sProp 𝕄
  | 0, _ => Pipeline.ΦA spec0 c
  | n + 1, _ => iprop(iprop(owns (c : Thread nD τ) scM0_0 fullShare (cyA m c n) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare (prA m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (cyA m c n) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare (prA m c n)) ∗ (∃ r, prngReg c r)) := rfl

theorem PhiS_pos (c : Dev nD) (n : ℕ) (h : n ≤ cfg0.N) (hz : n ≠ 0) :
    PhiS m c n h = iprop(iprop(owns (c : Thread nD τ) scM0_0 fullShare (cyA m c (n - 1)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare (prA m c (n - 1))) ∗ (∃ r, prngReg c r)) := by
  cases n with
  | zero => exact absurd rfl hz
  | succ n => rfl

/-- The proof data: each input's buffer at its block; the block window at the normalized pending block; the state
window at the carry's last rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay6 (prIn m c t.val) (iblk m c 6 t) (iblk m c 7 t)
    | ⟨9, _⟩ => saveV (cyA m c t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay6 (prIn m c t.val) (iblk m c 6 t) (iblk m c 7 t) := by dsimp only [dats]
theorem after0_9 (c : Dev nD) (t : Fin cfg0.N) : (dats m 0 c).after 9 t = saveV (cyA m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms0_8 t) fullShare (k0_pay6 (prIn m c t.val) (iblk m c 6 t) (iblk m c 7 t)) := by
  unfold Dat.leavesExact; rw [live8 t, after0_8]
theorem leaves0_9_live (c : Dev nD) (t : Fin cfg0.N) (h : t.val % 4 = 3) : (dats m 0 c).leavesExact 9 t = owns (c : Thread nD τ) (ms0_9 t) fullShare (saveV (cyA m c t.val)) := by
  unfold Dat.leavesExact; rw [live9 t h, after0_9]
theorem leaves0_9_last (c : Dev nD) (t : Fin cfg0.N) (h : t.val = 32) : (dats m 0 c).leavesExact 9 t = owns (c : Thread nD τ) (ms0_9 t) fullShare (saveV (cyA m c t.val)) := by
  unfold Dat.leavesExact; rw [idle9 t (by omega), flush32 t h, after0_9]

/-- At the last point the state window still holds the last sequence's rows. -/
theorem before0_9_last (c : Dev nD) (t : Fin cfg0.N) (h : t.val = 32) (d) : (dats m 0 c).before 9 t d = saveV (cyA m c t.val) := by
  rw [(dats m 0 c).before_of_pos 9 t (by omega) ((cfg0.win 9).fetch_out rfl t),
    noflush31 ⟨t.val - 1, Nat.lt_of_le_of_lt (Nat.sub_le _ _) t.isLt⟩ (by show t.val - 1 = 31; omega), if_neg Bool.false_ne_true]
  unfold Dat.left
  rw [live9 ⟨t.val - 1, Nat.lt_of_le_of_lt (Nat.sub_le _ _) t.isLt⟩ (by show (t.val - 1) % 4 = 3; omega)]
  show (dats m 0 c).kept 9 _ d = _
  unfold Dat.kept
  rw [Pipeline.fill_of_clip_none 9 _ (fun a => rfl) d ((dats m 0 c).after 9 _), Window.fill_cut, after0_9]
  show saveV (cyA m c (t.val - 1)) = _
  rw [h]
  rfl

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

open Classical in
/-- What a point finds in the carried buffers, once the resets are through. -/
theorem enter (c : Dev nD) (t : Fin cfg0.N) (ht : t.val < 32) : (dats m 0 c).Φ t.castSucc ⊢
    iprop(∃ xs0 xs5, ⌜(if seqStart (grid0.coords t) then cy0 else xs0) = cyIn m c t.val ∧ (if runStart (grid0.coords t) then pre0 else xs5) = prIn m c t.val⌝
      ∗ iprop(iprop(owns (c : Thread nD τ) scM0_0 fullShare xs0 ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare xs5) ∗ (∃ r, prngReg c r))) := by
  have hs := seqStart_iff t
  have hr := runStart_iff t
  by_cases hz : t.val = 0
  · rw [PhiS_castSucc m c t, PhiS_zero m c _ _ hz, PhiA0_eq]
    iintro ⟨⟨⟨%d0, HS0⟩, HS1, HS2, HS3, HS4, ⟨%d6, HS5⟩⟩, Hg⟩
    iexists d0, d6
    isplitr
    · ipureintro
      rw [if_pos (hs.mpr (by omega)), if_pos (hr.mpr hz), cyIn, prIn, hz]
      exact ⟨rfl, rfl⟩
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  · rw [PhiS_castSucc m c t, PhiS_pos m c _ _ hz]
    iintro H
    iexists cyA m c (t.val - 1), prA m c (t.val - 1)
    isplitr
    · ipureintro
      refine ⟨?_, ?_⟩
      · unfold cyIn
        by_cases h4 : t.val % 4 = 0
        · rw [if_pos (hs.mpr ⟨h4, ht⟩), if_pos h4]
        · rw [if_neg (fun h => h4 (hs.mp h).1), if_neg h4]
      · rw [if_neg (fun h => hz (hr.mp h)), prIn, if_neg hz]
    iexact H

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  have hN : t.val < 33 := lt_of_lt_of_eq t.isLt (show cfg0.N = 33 from N_0)
  by_cases ht : t.val < 32
  · have hrow := modRow t ht
    have hsq : (sq t.val).val = t.val / 4 := by show min t.val 31 / 4 % 8 = t.val / 4; omega
    have hC : tileC (iblk m c 0 t) (iblk m c 1 t) (iblk m c 2 t) (cyIn m c t.val) (sq t.val) = cyA m c t.val := by
      rw [tileC_indep _ _ _ _ cy0, cyA, pt_self t ht]
    have hP : tileP (iblk m c 0 t) (iblk m c 1 t) (iblk m c 2 t) (iblk m c 3 t) (iblk m c 4 t) (iblk m c 5 t) (cyIn m c t.val) (sq t.val) = prA m c t.val := by
      rw [prA, pt_self t ht, show min t.val 31 = t.val by omega]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ := (enter m c t ht) $$ HΦ
    icases HΦ with ⟨%xs0, %xs5, %hx, ⟨HS0, HS1, HS2, HS3, HS4, HS5⟩, Hg⟩
    iapply (whole_tile (c := c) (i := grid0.coords t) (hs0_0 t) (hs0_1 t) (hs0_2 t) (hs0_3 t) (hs0_4 t) (hs0_5 t) (hs0_6 t) (hs0_7 t) (hs0_8 t) (hs0_9 t) (Memref.isWhole_whole _) (Memref.isWhole_whole _) (Memref.isWhole_whole _) (Memref.isWhole_whole _) (Memref.isWhole_whole _) (Memref.isWhole_whole _) Set.univ _ ((hasTile_iff t).mpr ht) (fun h => absurd ((last_iff t).mp h) (by omega)) (sq t.val) (hrow.1.trans hsq.symm) hrow.2 (iblk m c 0 t) (iblk m c 1 t) (iblk m c 2 t) (iblk m c 3 t) (iblk m c 4 t) (iblk m c 5 t) (iblk m c 6 t) (iblk m c 7 t) ((dats m 0 c).before 9 t d9) xs0 xs5)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    rw [hx.1, hx.2, hC, hP]
    iintro ⟨H0, H1, H2, H3, H4, H5, H6, H7, H8, H9, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    by_cases h3 : t.val % 4 = 3
    · rw [if_pos ((saves_iff t).mpr h3), leaves0_9_live m c t h3]
      iexact H9
    · rw [if_neg (fun h => h3 ((saves_iff t).mp h)), Dat.leavesExact_idle (dats m 0 c) 9 t (idle9 t h3) (flush9 t h3 ht)]
      iexists d9; iexact H9
  · have hl : t.val = 32 := by omega
    have hsN : ¬seqStart (grid0.coords t) := fun h => absurd ((seqStart_iff t).mp h).2 ht
    have hrN : ¬runStart (grid0.coords t) := fun h => absurd ((runStart_iff t).mp h) (by omega)
    rw [PhiS_castSucc m c t, PhiS_pos m c _ _ (by omega), leaves0_9_last m c t hl]
    simp only [before0_9_last m c t hl]
    have e0 : cyA m c (t.val - 1) = cyA m c t.val := by rw [hl]; rfl
    have e6 : prA m c (t.val - 1) = prA m c t.val := by rw [hl]; rfl
    have ei : prIn m c t.val = prA m c t.val := by rw [prIn, if_neg (by omega), e6]
    rw [e0, e6, ei]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (whole_last (c := c) (i := grid0.coords t) (hs0_0 t) (hs0_1 t) (hs0_2 t) (hs0_3 t) (hs0_4 t) (hs0_5 t) (hs0_6 t) (hs0_7 t) (hs0_8 t) (hs0_9 t) (Memref.isWhole_whole _) (Memref.isWhole_whole _) (Memref.isWhole_whole _) (Memref.isWhole_whole _) (Memref.isWhole_whole _) (Memref.isWhole_whole _) Set.univ _ hrN hsN (fun h => ht ((hasTile_iff t).mp h)) (fun h => absurd ((saves_iff t).mp h) (by omega)) ((last_iff t).mpr hl) (iblk m c 6 t) (iblk m c 7 t) _ _)
    isplitl [H6]; · iexact H6
    isplitl [H7]; · iexact H7
    isplitl [H8]; · iexists _; iexact H8
    isplitl [HS0]; · iexact HS0
    isplitl [HS5]; · iexact HS5
    iintro ⟨H6, H7, H8, HS0, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexact HS1
    isplitl [HS2]
    · iexact HS2
    isplitl [HS3]
    · iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Ffn
-- ==== Proof.Ffn.Final.lean ====
module

public import proofs.«01_k».proof.Proof.Ffn.Cert
public import Idealize.ShloMosaic.Lib.Pipeline.ValueKit

/-! # The feed-forward layer's two results, as functions of the arguments -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## The mathematics, row by row -/

section Math

variable (X : Vec Ideal S8x2048x1024 .f32) (M : Vec Ideal S136x12288 .f32) (W : Vec Ideal S1024x5632 .bf16) (CW : Vec Ideal S3x5632 .f32)
  (CB : Vec Ideal S1x5632 .f32) (WD : Vec Ideal S2816x1024 .bf16) (G B : Vec Ideal S1x1024 .f32)

/-- Entry `a * 1024 + k` of a sequence's modulations for this layer: shift, scale and gate for `a` = 0, 1, 2. -/
def modR (n : Fin 8) (a : Fin 3) (k : Fin 1024) : EReal := M (ix2 ⟨128 + n.val, by omega⟩ ⟨9216 + 1024 * a.val + k.val, by omega⟩)

/-- A modulated row. -/
def hR (n : Fin 8) (r : Fin 2048) (k : Fin 1024) : EReal := X (ix3 n r k) * (1 + modR M n 1 k) + modR M n 0 k

/-- A row's up projection. -/
def zR (n : Fin 8) (r : Fin 2048) (j : Fin 5632) : EReal := ∑ k : Fin 1024, hR X M n r k * W (ix2 k j)

/-- The up projection behind two rows of zeros. -/
def eR (n : Fin 8) (ρ : ℕ) (j : Fin 5632) : EReal := if ρ < 2 then 0 else zR X M W n (Fin.ofNat 2048 (ρ - 2)) j

/-- The convolution along the sequence. -/
def cR (n : Fin 8) (r : Fin 2048) (j : Fin 5632) : EReal :=
  CW (ix2 0 j) * eR X M W n r.val j + CW (ix2 1 j) * eR X M W n (r.val + 1) j + CW (ix2 2 j) * eR X M W n (r.val + 2) j + CB (ix2 0 j)

/-- The gated activations: the second half of the columns gates the first. -/
def aR (n : Fin 8) (r : Fin 2048) (j : Fin 2816) : EReal :=
  gate2 (cR X M W CW CB n r ⟨2816 + j.val, by omega⟩) (cR X M W CW CB n r ⟨j.val, by omega⟩)

/-- The residual sum a row's normalization takes. -/
def vR (n : Fin 8) (r : Fin 2048) (j : Fin 1024) : EReal :=
  Ideal.ofBits FTy.f32 1068827891#32 * X (ix3 n r j) + modR M n 2 j * ∑ k : Fin 2816, aR X M W CW CB n r k * WD (ix2 k j)

/-- A row's mean. -/
def meanR (v : Fin 1024 → EReal) : EReal := Ideal.div (∑ k : Fin 1024, v k) (Ideal.ofBits FTy.f32 1149239296#32)

/-- A row, normalized. -/
def lnR (v : Fin 1024 → EReal) (g b : EReal) (j : Fin 1024) : EReal :=
  (v j - meanR v) * Ideal.rsqrt (meanR (fun k => (v k - meanR v) * (v k - meanR v)) + Ideal.ofBits FTy.f32 925353388#32) * g + b

/-- The layer's block of results. -/
def outR : Vec Ideal S8x2048x1024 .f32 := fun y => lnR (vR X M W CW CB WD (y 0) (y 1)) (G (ix2 0 (y 2))) (B (ix2 0 (y 2))) (y 2)

/-- The rows the next token's convolution reads. -/
def stateR : Vec Ideal S8x2x5632 .f32 := fun y => eR X M W (y 0) (2048 + (y 1).val) (y 2)

end Math

theorem lnpay_apply (v : Vec Ideal S512x1024 .f32) (g b : Vec Ideal S1x1024 .f32) (r : Fin 512) (j : Fin 1024) :
    k0_pay6 v g b (ix3 0 r j) = lnR (fun k => v (ix2 r k)) (g (ix2 0 j)) (b (ix2 0 j)) j := by
  unfold lnR meanR
  pointwise [k0_pay6]

theorem ix2_congr {n0 n1 : ℕ} {a a' : Fin n0} {b b' : Fin n1} (ha : a = a') (hb : b = b') : (ix2 a b : (⟨2, ![n0, n1]⟩ : Shape).Idx) = ix2 a' b' := by
  rw [ha, hb]

theorem ix3_congr {n0 n1 n2 : ℕ} {a a' : Fin n0} {b b' : Fin n1} {c c' : Fin n2} (ha : a = a') (hb : b = b') (hc : c = c') :
    (ix3 a b c : (⟨3, ![n0, n1, n2]⟩ : Shape).Idx) = ix3 a' b' c' := by
  rw [ha, hb, hc]

/-! ## The blocks the points read -/

variable (m : (ℓ : Loc nD τ sig) → Buf (Elt Ideal) ℓ) (ρ : Dev nD → PrngReg)

abbrev aX (c : Dev nD) : Vec Ideal S8x2048x1024 .f32 := m ((c.tc : Thread nD τ).loc main_arg0)
abbrev aM (c : Dev nD) : Vec Ideal S136x12288 .f32 := m ((c.tc : Thread nD τ).loc main_arg1)
abbrev aW (c : Dev nD) : Vec Ideal S1024x5632 .bf16 := m ((c.tc : Thread nD τ).loc main_arg2)
abbrev aCW (c : Dev nD) : Vec Ideal S3x5632 .f32 := m ((c.tc : Thread nD τ).loc main_arg3)
abbrev aCB (c : Dev nD) : Vec Ideal S1x5632 .f32 := m ((c.tc : Thread nD τ).loc main_arg4)
abbrev aWD (c : Dev nD) : Vec Ideal S2816x1024 .bf16 := m ((c.tc : Thread nD τ).loc main_arg5)
abbrev aG (c : Dev nD) : Vec Ideal S1x1024 .f32 := m ((c.tc : Thread nD τ).loc main_arg6)
abbrev aB (c : Dev nD) : Vec Ideal S1x1024 .f32 := m ((c.tc : Thread nD τ).loc main_arg7)

theorem idx : ∀ t : Fin cfg0.N, win0_0.index t = ![min t.val 31 / 4, min t.val 31 % 4, 0] ∧ win0_1.index t = ![16, 3] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![(t.val - 1) / 4, (t.val - 1) % 4, 0] ∧ win0_9.index t = ![min t.val 31 / 4, 0, 0] :=
  (by decide +kernel : ∀ t : Fin grid0.N, _)

theorem blk_x (c : Dev nD) (t : Fin cfg0.N) (ht : t.val < 32) (r : Fin 512) (k : Fin 1024) :
    iblk m c 0 t (ix3 0 r k) = aX m c (ix3 ⟨t.val / 4, by omega⟩ ⟨512 * (t.val % 4) + r.val, by omega⟩ k) := by
  blk_simp [iblk, V, idx t]
  blk_ext! <;> simp only [idx t] <;> first | rfl | (simp; try omega)

theorem blk_m (c : Dev nD) (t : Fin cfg0.N) (n : Fin 8) (k : Fin 3072) :
    iblk m c 1 t (ix2 n k) = aM m c (ix2 ⟨128 + n.val, by omega⟩ ⟨9216 + k.val, by omega⟩) := by
  blk_simp [iblk, V, idx t]
  blk_ext! <;> simp only [idx t] <;> first | rfl | simp

theorem blk_w (c : Dev nD) (t : Fin cfg0.N) : iblk m c 2 t = aW m c := by
  funext y
  blk_simp [iblk, V, idx t]
  blk_ext! <;> simp only [idx t] <;> first | rfl | simp

theorem blk_cw (c : Dev nD) (t : Fin cfg0.N) : iblk m c 3 t = aCW m c := by
  funext y
  blk_simp [iblk, V, idx t]
  blk_ext! <;> simp only [idx t] <;> first | rfl | simp

theorem blk_cb (c : Dev nD) (t : Fin cfg0.N) : iblk m c 4 t = aCB m c := by
  funext y
  blk_simp [iblk, V, idx t]
  blk_ext! <;> simp only [idx t] <;> first | rfl | simp

theorem blk_wd (c : Dev nD) (t : Fin cfg0.N) : iblk m c 5 t = aWD m c := by
  funext y
  blk_simp [iblk, V, idx t]
  blk_ext! <;> simp only [idx t] <;> first | rfl | simp

theorem blk_g (c : Dev nD) (t : Fin cfg0.N) : iblk m c 6 t = aG m c := by
  funext y
  blk_simp [iblk, V, idx t]
  blk_ext! <;> simp only [idx t] <;> first | rfl | simp

theorem blk_b (c : Dev nD) (t : Fin cfg0.N) : iblk m c 7 t = aB m c := by
  funext y
  blk_simp [iblk, V, idx t]
  blk_ext! <;> simp only [idx t] <;> first | rfl | simp

/-! ## A tile's rows among the sequence's -/

theorem hB_eq (c : Dev nD) (t : Fin cfg0.N) (ht : t.val < 32) (n : Fin 8) (hn : n.val = t.val / 4) (r : Fin 512) (k : Fin 1024) :
    hB (iblk m c 0 t) (iblk m c 1 t) n (ix2 r k) = hR (aX m c) (aM m c) n ⟨512 * (t.val % 4) + r.val, by omega⟩ k := by
  have ex := blk_x m c t ht r k
  have e1 := blk_m m c t n ⟨1024 + k.val, by omega⟩
  have e0 := blk_m m c t n ⟨k.val, by omega⟩
  refine (Ideal.add_congr (Ideal.mul_congr ex (Ideal.add_congr rfl e1)) e0).trans ?_
  unfold hR modR
  refine Ideal.add_congr (Ideal.mul_congr (congrArg (aX m c) (ix3_congr (Fin.ext hn.symm) rfl rfl)) (Ideal.add_congr rfl (congrArg (aM m c) ?_))) (congrArg (aM m c) ?_)
  · exact ix2_congr rfl (Fin.ext (by show 9216 + (1024 + k.val) = 9216 + 1024 * 1 + k.val; omega))
  · exact ix2_congr rfl (Fin.ext (by show 9216 + k.val = 9216 + 1024 * 0 + k.val; omega))

theorem zS_eq (c : Dev nD) (t : Fin cfg0.N) (ht : t.val < 32) (n : Fin 8) (hn : n.val = t.val / 4) (r j : ℕ) (hr : r < 512) (hj : j < 5632)
    (R : Fin 2048) (hR : R.val = 512 * (t.val % 4) + r) (J : Fin 5632) (hJ : J.val = j) :
    zS (hB (iblk m c 0 t) (iblk m c 1 t) n) (iblk m c 2 t) r j = zR (aX m c) (aM m c) (aW m c) n R J := by
  unfold zS zR
  refine Finset.sum_congr rfl fun k _ => ?_
  rw [hB_eq m c t ht n hn, blk_w]
  refine Ideal.mul_congr ?_ (congrArg (aW m c) ?_)
  · congr 1
    exact Fin.ext (by show 512 * (t.val % 4) + r % 512 = R.val; rw [Nat.mod_eq_of_lt hr, hR])
  · exact ix2_congr rfl (Fin.ext (by show j % 5632 = J.val; rw [Nat.mod_eq_of_lt hj, hJ]))

/-- Row `ρ` of a tile's slab, from the eighth on, is row `512 l + ρ - 6` of the sequence's padded rows. -/
theorem ext_own (c : Dev nD) (t : Fin cfg0.N) (ht : t.val < 32) (n : Fin 8) (hn : n.val = t.val / 4) (cy : Vec Ideal S22x2x8x128 .f32)
    (ρ : ℕ) (h8 : 8 ≤ ρ) (hρ : ρ < 520) (q j : ℕ) (hq : q = 512 * (t.val % 4) + ρ - 6) (hj : j < 5632) (J : Fin 5632) (hJ : J.val = j) :
    extS (hB (iblk m c 0 t) (iblk m c 1 t) n) (iblk m c 2 t) cy ρ j = eR (aX m c) (aM m c) (aW m c) n q J := by
  unfold extS eR
  rw [if_neg (by omega), if_neg (by omega)]
  have hv : (Fin.ofNat 2048 (q - 2)).val = 512 * (t.val % 4) + (ρ - 8) := by show (q - 2) % 2048 = _; omega
  exact zS_eq m c t ht n hn _ _ (by omega) hj _ hv _ hJ

/-- The same for the two rows before: carried from the tile before, or the zeros a sequence begins with. -/
theorem ext_all (c : Dev nD) (t : Fin cfg0.N) (ht : t.val < 32) (n : Fin 8) (hn : n.val = t.val / 4)
    (ρ : ℕ) (h6 : 6 ≤ ρ) (hρ : ρ < 520) (q j : ℕ) (hq : q = 512 * (t.val % 4) + ρ - 6) (hj : j < 5632) (J : Fin 5632) (hJ : J.val = j) :
    extS (hB (iblk m c 0 t) (iblk m c 1 t) n) (iblk m c 2 t) (cyIn m c t.val) ρ j = eR (aX m c) (aM m c) (aW m c) n q J := by
  by_cases h8 : 8 ≤ ρ
  · exact ext_own m c t ht n hn _ ρ h8 hρ q j hq hj J hJ
  rw [extS, if_pos (by omega), cyIn]
  by_cases h4 : t.val % 4 = 0
  · rw [if_pos h4, eR, if_pos (by omega), cy0]
    pointwise [k0_pay352]
  · have hs : (sq (t.val - 1)).val = t.val / 4 := by show min (t.val - 1) 31 / 4 % 8 = _; omega
    have hp : (pt (t.val - 1)).val = t.val - 1 := by show min (t.val - 1) 31 = _; omega
    rw [if_neg h4, cyA, tileC]
    have e : ∀ a : Fin 8, a.val = t.val / 4 → a = n := fun a ha => Fin.ext (by rw [ha, hn])
    rw [e _ hs]
    refine ext_own m c (pt (t.val - 1)) (by omega) n (by omega) _ _ ?_ ?_ _ _ ?_ ?_ _ ?_
    · show 8 ≤ 512 + _; omega
    · show 512 + ρ % 8 < 520; omega
    · show q = 512 * ((pt (t.val - 1)).val % 4) + (512 + ρ % 8) - 6; omega
    · show 128 * (2 * (j / 256 % 22) + j / 128 % 2) + j % 128 < 5632; omega
    · show J.val = 128 * (2 * (j / 256 % 22) + j / 128 % 2) + j % 128; omega

theorem conv_eq (c : Dev nD) (t : Fin cfg0.N) (ht : t.val < 32) (n : Fin 8) (hn : n.val = t.val / 4) (r : Fin 512) (j : ℕ) (J : Fin 5632) (hJ : J.val = j)
    (R : Fin 2048) (hR : R.val = 512 * (t.val % 4) + r.val) :
    convS (hB (iblk m c 0 t) (iblk m c 1 t) n) (iblk m c 2 t) (iblk m c 3 t) (iblk m c 4 t) (cyIn m c t.val) r.val j
      = cR (aX m c) (aM m c) (aW m c) (aCW m c) (aCB m c) n R J := by
  have hk : (Fin.ofNat 5632 j : Fin 5632) = J := Fin.ext (by rw [← hJ]; exact Nat.mod_eq_of_lt J.isLt)
  have hj : j < 5632 := by omega
  unfold convS cR
  rw [blk_cw, blk_cb, ext_all m c t ht n hn _ (by omega) (by omega) R.val _ (by omega) hj J hJ,
    ext_all m c t ht n hn _ (by omega) (by omega) (R.val + 1) _ (by omega) hj J hJ,
    ext_all m c t ht n hn _ (by omega) (by omega) (R.val + 2) _ (by omega) hj J hJ, hk]

theorem act_eq (c : Dev nD) (t : Fin cfg0.N) (ht : t.val < 32) (n : Fin 8) (hn : n.val = t.val / 4) (r : Fin 512) (k : Fin 2816)
    (R : Fin 2048) (hR : R.val = 512 * (t.val % 4) + r.val) :
    actS (hB (iblk m c 0 t) (iblk m c 1 t) n) (iblk m c 2 t) (iblk m c 3 t) (iblk m c 4 t) (cyIn m c t.val) r.val k.val
      = aR (aX m c) (aM m c) (aW m c) (aCW m c) (aCB m c) n R k := by
  unfold actS aR
  rw [conv_eq m c t ht n hn r _ ⟨2816 + k.val, by omega⟩ rfl R hR, conv_eq m c t ht n hn r _ ⟨k.val, by omega⟩ rfl R hR]

/-- What tile `t` leaves pending is its rows' residual sums. -/
theorem prA_eq (c : Dev nD) (t : Fin cfg0.N) (ht : t.val < 32) (n : Fin 8) (hn : n.val = t.val / 4) (r : Fin 512) (j : Fin 1024)
    (R : Fin 2048) (hR : R.val = 512 * (t.val % 4) + r.val) :
    prA m c t.val (ix2 r j) = vR (aX m c) (aM m c) (aW m c) (aCW m c) (aCB m c) (aWD m c) n R j := by
  have hs : sq t.val = n := Fin.ext (by show min t.val 31 / 4 % 8 = n.val; omega)
  unfold prA
  rw [pt_self t ht, hs, show min t.val 31 = t.val by omega]
  unfold tileP vR
  refine Ideal.add_congr (Ideal.mul_congr rfl ?_) (Ideal.mul_congr ?_ (Finset.sum_congr rfl fun k _ => Ideal.mul_congr ?_ ?_))
  · exact (blk_x m c t ht r j).trans (congrArg (aX m c) (ix3_congr (Fin.ext hn.symm) (Fin.ext hR.symm) rfl))
  · refine (blk_m m c t n _).trans (congrArg (aM m c) (ix2_congr rfl (Fin.ext ?_)))
    show 9216 + (2048 + j.val) = 9216 + 1024 * 2 + j.val; omega
  · exact act_eq m c t ht n hn r k R hR
  · rw [blk_wd]; rfl

/-! ## The arrays after the run -/

theorem flush8_pos : ∀ t : Fin cfg0.N, (cfg0.win 8).flush t = true → t.val ≠ 0 :=
  (by decide +kernel : ∀ t : Fin cfg0.N, (cfg0.win 8).flush t = true → t.val ≠ 0)
theorem flush9_end : ∀ t : Fin cfg0.N, (cfg0.win 9).flush t = true → min t.val 31 % 4 = 3 :=
  (by decide +kernel : ∀ t : Fin cfg0.N, (cfg0.win 9).flush t = true → min t.val 31 % 4 = 3)

theorem final8 (c : Dev nD) : (dats m 0 c).arrAt 8 cfg0.N = outR (aX m c) (aM m c) (aW m c) (aCW m c) (aCB m c) (aWD m c) (aG m c) (aB m c) := by
  refine (dats m 0 c).arrAt_eq_of_covers 8 _ (by decide +kernel) fun t hf y => ?_
  blk_simp
  rw [after0_8]
  have hpos := flush8_pos t hf
  have hN : t.val < 33 := lt_of_lt_of_eq t.isLt (show cfg0.N = 33 from N_0)
  obtain ⟨r, j, rfl⟩ : ∃ (r : Fin 512) (j : Fin 1024), y = ix3 0 r j := ⟨y 1, y 2, by
    have h0 : (y 0).val < 1 := (y 0).isLt
    rw [show (0 : Fin 1) = y 0 from Fin.ext (by show 0 = (y 0).val; omega)]; exact eq_ix3 y⟩
  refine (lnpay_apply _ _ _ r j).trans ?_
  have hp : (pt (t.val - 1)).val = t.val - 1 := by show min (t.val - 1) 31 = _; omega
  have hrow : (fun k => prIn m c t.val (ix2 r k)) = vR (aX m c) (aM m c) (aW m c) (aCW m c) (aCB m c) (aWD m c) ⟨(t.val - 1) / 4, by omega⟩ ⟨512 * ((t.val - 1) % 4) + r.val, by omega⟩ := by
    funext k
    have h := prA_eq m c (pt (t.val - 1)) (by omega) ⟨(t.val - 1) / 4, by omega⟩ (by rw [hp]) r k ⟨512 * ((t.val - 1) % 4) + r.val, by omega⟩ (by rw [hp])
    rw [hp] at h
    rw [prIn, if_neg hpos, h]
  rw [hrow, blk_g, blk_b]
  have hemb : ((cfg0.win 8).blk t).view.emb (ix3 0 r j) = (ix3 ⟨(t.val - 1) / 4, by omega⟩ ⟨512 * ((t.val - 1) % 4) + r.val, by omega⟩ j : S8x2048x1024.Idx) := by
    blk_ext! <;> simp only [idx t] <;> first | rfl | (simp; try omega)
  exact (congrArg (outR (aX m c) (aM m c) (aW m c) (aCW m c) (aCB m c) (aWD m c) (aG m c) (aB m c)) hemb).symm

theorem final9 (c : Dev nD) : (dats m 0 c).arrAt 9 cfg0.N = stateR (aX m c) (aM m c) (aW m c) := by
  refine (dats m 0 c).arrAt_eq_of_covers 9 _ (by decide +kernel) fun t hf y => ?_
  blk_simp
  rw [after0_9]
  have he := flush9_end t hf
  have hN : t.val < 33 := lt_of_lt_of_eq t.isLt (show cfg0.N = 33 from N_0)
  obtain ⟨r, j, rfl⟩ : ∃ (r : Fin 2) (j : Fin 5632), y = ix3 0 r j := ⟨y 1, y 2, by
    have h0 : (y 0).val < 1 := (y 0).isLt
    rw [show (0 : Fin 1) = y 0 from Fin.ext (by show 0 = (y 0).val; omega)]; exact eq_ix3 y⟩
  have hs : (sq t.val).val = (pt t.val).val / 4 := by show min t.val 31 / 4 % 8 = min t.val 31 / 4; omega
  have hp : (pt t.val).val = min t.val 31 := rfl
  have hemb : ((cfg0.win 9).blk t).view.emb (ix3 0 r j) = (ix3 (sq t.val) r j : S8x2x5632.Idx) := by
    blk_ext! <;> simp only [idx t] <;> first | rfl | (simp; try omega)
  refine (ext_own m c (pt t.val) (by omega) (sq t.val) hs cy0 _ ?_ ?_ (2048 + r.val) _ ?_ ?_ j ?_).trans ?_
  · show 8 ≤ 512 + _; omega
  · show 512 + (6 + r.val) % 8 < 520; omega
  · show 2048 + r.val = 512 * (min t.val 31 % 4) + (512 + (6 + r.val) % 8) - 6; omega
  · show 128 * (2 * (j.val / 256 % 22) + j.val / 128 % 2) + j.val % 128 < 5632; omega
  · show j.val = 128 * (2 * (j.val / 256 % 22) + j.val / 128 % 2) + j.val % 128; omega
  exact (congrArg (stateR (aX m c) (aM m c) (aW m c)) hemb).symm

end Cert.Ffn
-- ==== Proof.Ffn.Gate.lean ====
module

public import proofs.«01_k».proof.Proof.Ffn.Read

/-! # The approximated activation: the kernel's form of it is the reference's

The kernel multiplies the two constants together beforehand and factors the argument once out of the polynomial. -/

@[expose] public section

noncomputable section

namespace Cert.Ffn

open Cert.Kernel2Ideal Cert.Kernel2Ideal.Gen
open Idealize.ShloMosaic Idealize.ShloMosaic.TcCoe

/-- The polynomial inside the activation, factored, at any extended real. -/
theorem inner_eq (K A : ℝ) (hK : 0 < K) (hA : 0 < A) (x : EReal) :
    x * ((K : EReal) + ((K * A : ℝ) : EReal) * (x * x)) = (K : EReal) * (x + (A : EReal) * (x * x * x)) := by
  have hKA : 0 < K * A := mul_pos hK hA
  induction x with
  | bot =>
    rw [EReal.bot_mul_bot, EReal.coe_mul_top_of_pos hKA, EReal.coe_add_top, EReal.bot_mul_top, EReal.top_mul_bot,
      EReal.coe_mul_bot_of_pos hA, EReal.bot_add, EReal.coe_mul_bot_of_pos hK]
  | top =>
    rw [EReal.top_mul_top, EReal.coe_mul_top_of_pos hKA, EReal.coe_add_top, EReal.top_mul_top,
      EReal.coe_mul_top_of_pos hA, EReal.top_add_top, EReal.coe_mul_top_of_pos hK]
  | coe r =>
    norm_cast
    ring

theorem tanh_real (x : EReal) : ∃ t : ℝ, Ideal.tanh x = (t : EReal) := by
  induction x with
  | bot => exact ⟨-1, rfl⟩
  | top => exact ⟨1, rfl⟩
  | coe r => exact ⟨Real.tanh r, rfl⟩

theorem half_eq : Ideal.ofBits FTy.f32 1056964608#32 = ((1 / 2 : ℝ) : EReal) := by
  simp [Ideal.ofBits, Ideal.ieee, -EReal.coe_mul]; norm_num

theorem gK_eq : Ideal.ofBits FTy.f32 1061962282#32 = ((6693141 / 8388608 : ℝ) : EReal) := by
  simp [Ideal.ofBits, Ideal.ieee, -EReal.coe_mul]; norm_num

theorem gA_eq : Ideal.ofBits FTy.f32 1027024659#32 = ((12003091 / 268435456 : ℝ) : EReal) := by
  simp [Ideal.ofBits, Ideal.ieee, -EReal.coe_mul]; norm_num

theorem gKA_eq : gKA = (((6693141 / 8388608) * (12003091 / 268435456) : ℝ) : EReal) := by
  refine (IdealRules.named_const.ideal_named_scalar κ "gelu_ka" _ _ rfl).trans ?_
  norm_num

/-- Twice half of a sum of one and a real. -/
theorem half_split (t : ℝ) : ((1 / 2 : ℝ) : EReal) + ((1 / 2 : ℝ) : EReal) * (t : EReal) = ((1 / 2 : ℝ) : EReal) * (1 + (t : EReal)) := by
  norm_cast
  ring

/-- The kernel's gate is the reference's. -/
theorem gate_eq (x v : EReal) : gate2 x v
    = x * (Ideal.ofBits FTy.f32 1056964608#32 * (1 + Ideal.tanh (Ideal.ofBits FTy.f32 1061962282#32
        * (x + Ideal.ofBits FTy.f32 1027024659#32 * (x * x * x))))) * v := by
  unfold gate2 gK
  rw [gKA_eq, gK_eq, gA_eq, half_eq, inner_eq _ _ (by norm_num) (by norm_num) x]
  obtain ⟨t, ht⟩ := tanh_real (((6693141 / 8388608 : ℝ) : EReal) * (x + ((12003091 / 268435456 : ℝ) : EReal) * (x * x * x)))
  rw [ht, half_split, mul_assoc, mul_assoc, mul_comm v]

end Cert.Ffn
-- ==== Proof.Ffn.Ref.lean ====
module

public import proofs.«01_k».proof.Proof.Ffn.Final
public import proofs.«01_k».proof.Proof.Ffn.Gate
public import proofs.«01_k».proof.Proof.Gen.Reference2Ideal.Run

/-! # The reference's two results are the same functions of the arguments -/

@[expose] public section

set_option maxRecDepth 16384

noncomputable section

namespace Cert.Ffn

open Cert.Reference2Ideal Cert.Reference2Ideal.Gen Cert.Reference2Ideal.Value
open Idealize.ShloMosaic Idealize.ShloMosaic.TcCoe Idealize.ShloMosaic.Tactic Idealize.ShloMosaic.StableHlo
open Idealize.SL Idealize.SL.RA Idealize.SL.BI Idealize.SL.Sem

variable (X : FVec Ideal S8x2048x1024 .f32) (M : FVec Ideal S136x12288 .f32) (W : FVec Ideal S1024x5632 .bf16) (CW : FVec Ideal S3x5632 .f32)
  (CB : FVec Ideal S1x5632 .f32) (WD : FVec Ideal S2816x1024 .bf16) (G B : FVec Ideal S1x1024 .f32)

/-- One of the three modulation vectors of the layer, every sequence's. -/
def refMod (o : ℕ) (h : S8x2x2x3x1024.Slices ![0, 1, 1, o, 0] S8x1x1x1x1024) : FVec Ideal S8x1x1024 .f32 :=
  broadcastInDim S8x1x1024 ![0, 2] bcast_S8x1024_S8x1x1024_0_2 (shapeCast _ (extractStridedSlice S8x1x1x1x1024 ![0, 1, 1, o, 0] (shapeCast _ (extractStridedSlice S8x12288 ![128, 0] M slices_S136x12288_S8x12288_128_0) shapeCasts_S8x12288_S8x2x2x3x1024) h) shapeCasts_S8x1x1x1x1024_S8x1024)

theorem refMod_apply (a : Fin 3) (h : S8x2x2x3x1024.Slices ![0, 1, 1, a.val, 0] S8x1x1x1x1024) (n : Fin 8) (k : Fin 1024) :
    refMod M a.val h (ix3 n 0 k) = modR M n a k := by
  unfold modR
  pointwise [refMod]
  refine congrArg M (ix2_congr rfl (Fin.ext ?_))
  show _ = 9216 + 1024 * a.val + k.val
  first | omega | (simp; omega)

/-- The modulated rows. -/
def refH : FVec Ideal S8x2048x1024 .f32 :=
  addf (mulf X (broadcastInDim S8x2048x1024 ![0, 1, 2] bcast_S8x1x1024_S8x2048x1024_0_1_2 (addf (broadcastInDim S8x1x1024 ![] bcast_S_S8x1x1024 (constant S_ .f32 0x3F800000#32)) (refMod M 1 slices_S8x2x2x3x1024_S8x1x1x1x1024_0_1_1_1_0)))) (broadcastInDim S8x2048x1024 ![0, 1, 2] bcast_S8x1x1024_S8x2048x1024_0_1_2 (refMod M 0 slices_S8x2x2x3x1024_S8x1x1x1x1024_0_1_1_0_0))

theorem refH_apply (n : Fin 8) (r : Fin 2048) (k : Fin 1024) : refH X M (ix3 n r k) = hR X M n r k := by
  unfold hR
  rw [← refMod_apply M 0 slices_S8x2x2x3x1024_S8x1x1x1x1024_0_1_1_0_0, ← refMod_apply M 1 slices_S8x2x2x3x1024_S8x1x1x1x1024_0_1_1_1_0]
  pointwise [refH]

/-- The rows' up projections. -/
def refZ : FVec Ideal S8x2048x5632 .f32 :=
  Host.dotGeneral dot_S8x2048x1024_S1024x5632_S8x2048x5632_2_0_01_1_n_n none (refH X M) (extf .f32 W bitsLt_bf16_f32)

theorem refZ_apply (n : Fin 8) (r : Fin 2048) (j : Fin 5632) : refZ X M W (ix3 n r j) = zR X M W n r j := by
  unfold zR
  simp only [← refH_apply]
  pointwise [refZ]

/-- The up projection behind two rows of zeros. -/
def refE : FVec Ideal S8x2050x5632 .f32 :=
  concatenate S8x2050x5632 1 [⟨S8x2x5632, (broadcastInDim S8x2x5632 ![] bcast_S_S8x2x5632 (constant S_ .f32 0x00000000#32))⟩, ⟨S8x2048x5632, (refZ X M W)⟩] concatenates_S8x2x5632_S8x2048x5632_S8x2050x5632_d1

theorem refE_apply (n : Fin 8) (ρ : Fin 2050) (j : Fin 5632) : refE X M W (ix3 n ρ j) = eR X M W n ρ.val j := by
  unfold eR
  simp only [← refZ_apply]
  pointwise [refE]
  by_cases h : ρ.val < 2
  · rw [dif_pos h, if_pos h]
  · rw [dif_neg h, if_neg h]
    exact congrArg (refZ X M W) (ix3_congr rfl (Fin.ext (Nat.mod_eq_of_lt (by omega)).symm) rfl)

/-- The convolution along the sequence. -/
def refC : FVec Ideal S8x2048x5632 .f32 :=
  addf (addf (addf (addf (broadcastInDim S8x2048x5632 ![] bcast_S_S8x2048x5632 (constant S_ .f32 0x00000000#32)) (mulf (broadcastInDim S8x2048x5632 ![0, 1, 2] bcast_S1x1x5632_S8x2048x5632_0_1_2 (broadcastInDim S1x1x5632 ![2] bcast_S5632_S1x1x5632_2 (shapeCast _ (extractStridedSlice S1x5632 ![0, 0] CW slices_S3x5632_S1x5632_0_0) shapeCasts_S1x5632_S5632))) (extractStridedSlice S8x2048x5632 ![0, 0, 0] (refE X M W) slices_S8x2050x5632_S8x2048x5632_0_0_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![1, 0] CW slices_S3x5632_S1x5632_1_0) shapeCasts_S1x5632_S5632))) (extractStridedSlice S8x2048x5632 ![0, 1, 0] (refE X M W) slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![2, 0] CW slices_S3x5632_S1x5632_2_0) shapeCasts_S1x5632_S5632))) (extractStridedSlice S8x2048x5632 ![0, 2, 0] (refE X M W) slices_S8x2050x5632_S8x2048x5632_0_2_0))) (broadcastInDim S8x2048x5632 ![0, 1, 2] bcast_S1x1x5632_S8x2048x5632_0_1_2 (broadcastInDim S1x1x5632 ![2] bcast_S5632_S1x1x5632_2 (shapeCast _ CB shapeCasts_S1x5632_S5632)))

theorem refC_apply (n : Fin 8) (r : Fin 2048) (j : Fin 5632) : refC X M W CW CB (ix3 n r j) = cR X M W CW CB n r j := by
  unfold cR
  rw [Nat.add_comm r.val 1, Nat.add_comm r.val 2]
  rw [← refE_apply X M W n ⟨r.val, by omega⟩ j, ← refE_apply X M W n ⟨1 + r.val, by omega⟩ j, ← refE_apply X M W n ⟨2 + r.val, by omega⟩ j]
  pointwise [refC]

/-- The second half of the columns, which gates the first. -/
def refGate : FVec Ideal S8x2048x2816 .f32 :=
  extractStridedSlice S8x2048x2816 ![0, 0, 2816] (refC X M W CW CB) slices_S8x2048x5632_S8x2048x2816_0_0_2816

theorem refGate_apply (n : Fin 8) (r : Fin 2048) (j : Fin 2816) :
    refGate X M W CW CB (ix3 n r j) = cR X M W CW CB n r ⟨2816 + j.val, by omega⟩ := by
  rw [← refC_apply]
  pointwise [refGate]

/-- The gated activations. -/
def refA : FVec Ideal S8x2048x2816 .f32 :=
  mulf (mulf (refGate X M W CW CB) (mulf (broadcastInDim S8x2048x2816 ![] bcast_S_S8x2048x2816 (constant S_ .f32 0x3F000000#32)) (addf (broadcastInDim S8x2048x2816 ![] bcast_S_S8x2048x2816 (constant S_ .f32 0x3F800000#32)) (Host.tanh (mulf (broadcastInDim S8x2048x2816 ![] bcast_S_S8x2048x2816 (constant S_ .f32 0x3F4C422A#32)) (addf (refGate X M W CW CB) (mulf (broadcastInDim S8x2048x2816 ![] bcast_S_S8x2048x2816 (constant S_ .f32 0x3D372713#32)) (mulf (mulf (refGate X M W CW CB) (refGate X M W CW CB)) (refGate X M W CW CB))))))))) (extractStridedSlice S8x2048x2816 ![0, 0, 0] (refC X M W CW CB) slices_S8x2048x5632_S8x2048x2816_0_0_0)

theorem refA_apply (n : Fin 8) (r : Fin 2048) (j : Fin 2816) : refA X M W CW CB (ix3 n r j) = aR X M W CW CB n r j := by
  unfold aR
  rw [gate_eq, ← refGate_apply, ← refC_apply]
  pointwise [refA]

/-- The residual sums. -/
def refV : FVec Ideal S8x2048x1024 .f32 :=
  addf (mulf (broadcastInDim S8x2048x1024 ![] bcast_S_S8x2048x1024 (constant S_ .f32 0x3FB504F3#32)) X) (mulf (broadcastInDim S8x2048x1024 ![0, 1, 2] bcast_S8x1x1024_S8x2048x1024_0_1_2 (refMod M 2 slices_S8x2x2x3x1024_S8x1x1x1x1024_0_1_1_2_0)) (Host.dotGeneral dot_S8x2048x2816_S2816x1024_S8x2048x1024_2_0_01_1_n_n none (refA X M W CW CB) (extf .f32 WD bitsLt_bf16_f32)))

theorem refV_apply (n : Fin 8) (r : Fin 2048) (j : Fin 1024) : refV X M W CW CB WD (ix3 n r j) = vR X M W CW CB WD n r j := by
  unfold vR
  simp only [← refA_apply]
  rw [← refMod_apply M 2 slices_S8x2x2x3x1024_S8x1x1x1x1024_0_1_1_2_0]
  pointwise [refV]

/-- The normalization of every row. -/
def refLN (V : FVec Ideal S8x2048x1024 .f32) : FVec Ideal S8x2048x1024 .f32 :=
  addf (mulf (mulf (subf V (broadcastInDim S8x2048x1024 ![0, 1, 2] bcast_S8x2048x1_S8x2048x1024_0_1_2 (Host.divf (broadcastInDim S8x2048x1 ![0, 1] bcast_S8x2048_S8x2048x1_0_1 (Host.reduceAdd V (constant S_ .f32 0x00000000#32) reducesTo_S8x2048x1024_S8x2048_d2 h_S_)) (broadcastInDim S8x2048x1 ![] bcast_S_S8x2048x1 (constant S_ .f32 0x44800000#32))))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (subf V (broadcastInDim S8x2048x1024 ![0, 1, 2] bcast_S8x2048x1_S8x2048x1024_0_1_2 (Host.divf (broadcastInDim S8x2048x1 ![0, 1] bcast_S8x2048_S8x2048x1_0_1 (Host.reduceAdd V (constant S_ .f32 0x00000000#32) reducesTo_S8x2048x1024_S8x2048_d2 h_S_)) (broadcastInDim S8x2048x1 ![] bcast_S_S8x2048x1 (constant S_ .f32 0x44800000#32))))) (subf V (broadcastInDim S8x2048x1024 ![0, 1, 2] bcast_S8x2048x1_S8x2048x1024_0_1_2 (Host.divf (broadcastInDim S8x2048x1 ![0, 1] bcast_S8x2048_S8x2048x1_0_1 (Host.reduceAdd V (constant S_ .f32 0x00000000#32) reducesTo_S8x2048x1024_S8x2048_d2 h_S_)) (broadcastInDim S8x2048x1 ![] bcast_S_S8x2048x1 (constant S_ .f32 0x44800000#32)))))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 (shapeCast _ G shapeCasts_S1x1024_S1024)))) (broadcastInDim S8x2048x1024 ![0, 1, 2] bcast_S1x1x1024_S8x2048x1024_0_1_2 (broadcastInDim S1x1x1024 ![2] bcast_S1024_S1x1x1024_2 (shapeCast _ B shapeCasts_S1x1024_S1024)))

theorem refLN_apply (V : FVec Ideal S8x2048x1024 .f32) (n : Fin 8) (r : Fin 2048) (j : Fin 1024) :
    refLN G B V (ix3 n r j) = lnR (fun k => V (ix3 n r k)) (G (ix2 0 j)) (B (ix2 0 j)) j := by
  unfold lnR meanR
  pointwise [refLN]

theorem out_eq : refLN G B (refV X M W CW CB WD) = outR X M W CW CB WD G B := by
  funext y
  obtain ⟨n, r, j, rfl⟩ : ∃ (n : Fin 8) (r : Fin 2048) (j : Fin 1024), y = ix3 n r j := ⟨y 0, y 1, y 2, eq_ix3 y⟩
  rw [refLN_apply]
  simp only [refV_apply]
  rfl

theorem state_eq : extractStridedSlice S8x2x5632 ![0, 2048, 0] (refE X M W) slices_S8x2050x5632_S8x2x5632_0_2048_0 = stateR X M W := by
  funext y
  obtain ⟨n, r, j, rfl⟩ : ∃ (n : Fin 8) (r : Fin 2) (j : Fin 5632), y = ix3 n r j := ⟨y 0, y 1, y 2, eq_ix3 y⟩
  show _ = eR X M W n (2048 + r.val) j
  rw [← refE_apply X M W n ⟨2048 + r.val, by omega⟩ j]
  pointwise

variable (m : (ℓ : Loc nD τ sig) → Buf (Elt Ideal) ℓ) (c : Dev nD)

theorem res_eq : (addf (mulf (mulf (subf (res_main_v70 (launchContents m c)) (broadcastInDim S8x2048x1024 ![0, 1, 2] bcast_S8x2048x1_S8x2048x1024_0_1_2 (res_main_v76 (launchContents m c)))) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v78 (launchContents m c)) (res_main_v78 (launchContents m c))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 (shapeCast _ ((launchContents m c) (Proc.devRef .tc main_arg6)) shapeCasts_S1x1024_S1024)))) (broadcastInDim S8x2048x1024 ![0, 1, 2] bcast_S1x1x1024_S8x2048x1024_0_1_2 (broadcastInDim S1x1x1024 ![2] bcast_S1024_S1x1x1024_2 (shapeCast _ ((launchContents m c) (Proc.devRef .tc main_arg7)) shapeCasts_S1x1024_S1024))) : FVec Ideal S8x2048x1024 .f32)
    = outR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) :=
  Eq.trans (by unfold res_main_v78 res_main_v76 res_main_v70 res_main_v49 res_main_v47 res_main_v21 res_main_v1 refLN refV refA refGate refC refE refZ refH refMod; rfl) (out_eq _ _ _ _ _ _ _ _)

theorem res_state_eq : extractStridedSlice S8x2x5632 ![0, 2048, 0] (res_main_v21 (launchContents m c)) slices_S8x2050x5632_S8x2x5632_0_2048_0
    = stateR (m ((c.tc : Thread nD τ).loc main_arg0)) (m ((c.tc : Thread nD τ).loc main_arg1)) (m ((c.tc : Thread nD τ).loc main_arg2)) :=
  Eq.trans (by unfold res_main_v21 res_main_v1 refE refZ refH refMod; rfl) (state_eq _ _ _)

end Cert.Ffn
-- ==== Proof.Ffn.Claims.lean ====
module

public import proofs.«01_k».proof.Defs
public import proofs.«01_k».proof.Proof.Ffn.Ref
public import Idealize.ShloMosaic.Lib.Claim

/-! # The feed-forward layer's claims -/

@[expose] public section

noncomputable section

namespace Cert.Ffn

open Idealize.ShloMosaic Idealize.SL.Sem

/-- The reference writes no argument, and has no semaphore. -/
theorem reference_quiescent : Cert.quiescent_Reference2Ideal (hReference2Ideal := Cert.Reference2Ideal.Gen.facts) := fun m g _ =>
  (θ_run Cert.Reference2Ideal.defs _ _).mono (fun r h => ⟨fun c => (h c).2.2, Idealize.ShloMosaic.sem_eq_zero_of_no_sems (by decide) r.2⟩)
    (Cert.Reference2Ideal.Value.run m g)

/-- The one named constant is the rational it stands for, and its word is that rational's rounding. -/
theorem preserves : Cert.preserves_Kernel2_Kernel2Ideal :=
  IdealRules.named_const.statement Cert.Kernel2Ideal.κ "gelu_ka" .f32 0x3D122279#32 _ rfl

/-- Kernel and reference end with the same two arrays: `outR` and `stateR` of the arguments. -/
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => outR (aX m c) (aM m c) (aW m c) (aCW m c) (aCB m c) (aWD m c) (aG m c) (aB m c), fun c => stateR (aX m c) (aM m c) (aW m c), ?_, ?_⟩
  · run_from run_main m g
    · exact final8 m c
    · exact final9 m c
  · refine (θ_run Cert.Reference2Ideal.defs _ _).mono (fun r h c => ?_) (Cert.Reference2Ideal.Value.run m' g')
    obtain ⟨h0, h1, h2⟩ := h c
    obtain ⟨a0, a1, a2, a3, a4, a5, a6, a7⟩ := hargs c
    refine ⟨h0.trans ((res_eq m' c).trans ?_), h1.trans ((res_state_eq m' c).trans ?_), h2⟩
    · rw [a0, a1, a2, a3, a4, a5, a6, a7]
    · rw [a0, a1, a2]

end Cert.Ffn
-- ==== Proof.Sample.Conv.lean ====
module

public import proofs.«01_k».proof.Proof.SConv.Final
public import proofs.«01_k».proof.Proof.Gen.Kernel3Ideal.Frame
public import Idealize.ShloMosaic.Lib.Claim

/-! # The short convolution of the sample batch: its two results, as functions of the arguments

One launch of one point: every window is a whole array (the modulations' window is rows 0 to 127 of the third block of
columns), so each result is a payload at the arguments. -/

@[expose] public section

set_option maxRecDepth 16384

noncomputable section

namespace Cert.SampleConv

open Cert.Kernel3Ideal Cert.Kernel3Ideal.Gen
open Cert.SConv (meanR lnR ix2_congr ix3_congr)
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## The mathematics, row by row -/

section Math

variable (X : Vec Ideal S128x1024 .f32) (M : Vec Ideal S136x12288 .f32) (W : Vec Ideal S1024x3072 .bf16) (CW : Vec Ideal S3x1024 .f32)
  (ST : Vec Ideal S1x128x2x1024 .f32) (WO : Vec Ideal S1024x1024 .bf16) (G B : Vec Ideal S1x1024 .f32)

/-- Entry `a * 1024 + k` of a sample's modulations for this mixer: shift, scale and gate for `a` = 0, 1, 2. -/
def modC (n : Fin 128) (a : Fin 3) (k : Fin 1024) : EReal := M (ix2 ⟨n.val, by omega⟩ ⟨6144 + 1024 * a.val + k.val, by omega⟩)

/-- The modulated row of a sample. -/
def hC (n : Fin 128) (k : Fin 1024) : EReal := X (ix2 n k) * (1 + modC M n 1 k) + modC M n 0 k

/-- A sample's projection. -/
def zC (n : Fin 128) (j : Fin 3072) : EReal := ∑ k : Fin 1024, hC X M n k * W (ix2 k j)

/-- A sample's new row of the convolution's input. -/
def pC (n : Fin 128) (j : Fin 1024) : EReal := zC X M W n ⟨1024 + j.val, by omega⟩ * zC X M W n ⟨2048 + j.val, by omega⟩

/-- The gated convolution over the two stored rows and the new one. -/
def aC (n : Fin 128) (j : Fin 1024) : EReal :=
  zC X M W n ⟨j.val, by omega⟩
    * (CW (ix2 0 j) * ST (ix4 0 n 0 j) + CW (ix2 1 j) * ST (ix4 0 n 1 j) + CW (ix2 2 j) * pC X M W n j)

/-- The residual sum a sample's normalization takes. -/
def vC (n : Fin 128) (j : Fin 1024) : EReal :=
  Ideal.ofBits FTy.f32 1068827891#32 * X (ix2 n j) + modC M n 2 j * ∑ k : Fin 1024, aC X M W CW ST n k * WO (ix2 k j)

/-- The mixer's rows. -/
def outC : Vec Ideal S128x1024 .f32 := fun y => lnR (vC X M W CW ST WO (y 0)) (G (ix2 0 (y 1))) (B (ix2 0 (y 1))) (y 1)

/-- The two rows the next token's convolution reads: the newer of the stored ones, and the new one. -/
def stateC : Vec Ideal S1x128x2x1024 .f32 := fun y => if (y 2).val < 1 then ST (ix4 0 (y 1) 1 (y 3)) else pC X M W (y 1) (y 3)

end Math

/-! ## The payloads -/

section Pay

variable (x : Vec Ideal S128x1024 .f32) (mb : Vec Ideal S128x3072 .f32) (w : Vec Ideal S1024x3072 .bf16) (cw : Vec Ideal S3x1024 .f32)
  (s0 s1 : Vec Ideal S128x1024 .f32) (wo : Vec Ideal S1024x1024 .bf16) (g b : Vec Ideal S1x1024 .f32)
  (M : Vec Ideal S136x12288 .f32) (ST : Vec Ideal S1x128x2x1024 .f32)
  (hM : ∀ (n : Fin 128) (k : Fin 3072), mb (ix2 n k) = M (ix2 ⟨n.val, by omega⟩ ⟨6144 + k.val, by omega⟩))

include hM

theorem mod_apply (n : Fin 128) (a : Fin 3) (k : Fin 1024) (q : Fin 3072) (hq : q.val = 1024 * a.val + k.val) : mb (ix2 n q) = modC M n a k := by
  rw [hM]
  exact congrArg M (ix2_congr rfl (Fin.ext (by show 6144 + q.val = 6144 + 1024 * a.val + k.val; omega)))

theorem h_apply (n : Fin 128) (k : Fin 1024) : hC x M n k = x (ix2 n k) * (1 + mb (ix2 n ⟨1024 + k.val, by omega⟩)) + mb (ix2 n ⟨k.val, by omega⟩) := by
  unfold hC
  rw [mod_apply mb M hM n 1 k ⟨1024 + k.val, by omega⟩ rfl, mod_apply mb M hM n 0 k ⟨k.val, by omega⟩ (by simp)]

theorem z_apply (n : Fin 128) (j : Fin 3072) : k0_pay3 mb x w (ix2 n j) = zC x M w n j := by
  unfold zC
  simp only [h_apply x mb M hM]
  pointwise [k0_pay3]

theorem p_apply (n : Fin 128) (j : Fin 1024) : k0_pay4 mb x w (ix2 n j) = pC x M w n j := by
  unfold pC
  simp only [← z_apply x mb w M hM]
  pointwise [k0_pay4]

theorem gate_apply (n : Fin 128) (j : Fin 1024) : k0_pay2 mb (ix2 n j) = modC M n 2 j := by
  rw [← mod_apply mb M hM n 2 j ⟨2048 + j.val, by omega⟩ rfl]
  pointwise [k0_pay2]

theorem proj_apply (h0 : ∀ n j, s0 (ix2 n j) = ST (ix4 0 n 0 j)) (h1 : ∀ n j, s1 (ix2 n j) = ST (ix4 0 n 1 j)) (n : Fin 128) (j : Fin 1024) :
    k0_pay5 mb x w cw s0 s1 wo (ix2 n j) = ∑ k : Fin 1024, aC x M w cw ST n k * wo (ix2 k j) := by
  unfold aC
  simp only [← p_apply x mb w M hM, ← z_apply x mb w M hM, ← h0, ← h1]
  pointwise [k0_pay5]

theorem out_apply (h0 : ∀ n j, s0 (ix2 n j) = ST (ix4 0 n 0 j)) (h1 : ∀ n j, s1 (ix2 n j) = ST (ix4 0 n 1 j)) (n : Fin 128) (j : Fin 1024) :
    k0_pay1 (k0_pay2 mb) x (k0_pay5 mb x w cw s0 s1 wo) k0_pay6 g b (ix2 n j) = outC x M w cw ST wo g b (ix2 n j) := by
  show _ = lnR (vC x M w cw ST wo n) (g (ix2 0 j)) (b (ix2 0 j)) j
  unfold lnR meanR vC
  simp only [← proj_apply x mb w cw s0 s1 wo M ST hM h0 h1, ← gate_apply mb M hM]
  pointwise [k0_pay1, k0_pay6]

end Pay

/-! ## What the point reads -/

variable (m : (ℓ : Loc nD τ sig) → Buf (Elt Ideal) ℓ) (ρ : Dev nD → PrngReg)

abbrev aX (c : Dev nD) : Vec Ideal S128x1024 .f32 := m ((c.tc : Thread nD τ).loc main_arg0)
abbrev aM (c : Dev nD) : Vec Ideal S136x12288 .f32 := m ((c.tc : Thread nD τ).loc main_arg1)
abbrev aW (c : Dev nD) : Vec Ideal S1024x3072 .bf16 := m ((c.tc : Thread nD τ).loc main_arg2)
abbrev aCW (c : Dev nD) : Vec Ideal S3x1024 .f32 := m ((c.tc : Thread nD τ).loc main_arg3)
abbrev aST (c : Dev nD) : Vec Ideal S1x128x2x1024 .f32 := m ((c.tc : Thread nD τ).loc main_arg4)
abbrev aWO (c : Dev nD) : Vec Ideal S1024x1024 .bf16 := m ((c.tc : Thread nD τ).loc main_arg5)
abbrev aG (c : Dev nD) : Vec Ideal S1x1024 .f32 := m ((c.tc : Thread nD τ).loc main_arg6)
abbrev aB (c : Dev nD) : Vec Ideal S1x1024 .f32 := m ((c.tc : Thread nD τ).loc main_arg7)

theorem idx : ∀ t : Fin cfg0.N, win0_0.index t = ![0, 0] ∧ win0_1.index t = ![0, 2] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem blk_x (c : Dev nD) (t : Fin cfg0.N) : iblk m c 0 t = aX m c := by
  funext y
  blk_simp [iblk, idx t, V_main_arg0]
  blk_ext! <;> simp only [idx t] <;> first | rfl | simp

theorem blk_m (c : Dev nD) (t : Fin cfg0.N) (n : Fin 128) (k : Fin 3072) :
    X0_1 m c t (ix2 n k) = aM m c (ix2 ⟨n.val, by omega⟩ ⟨6144 + k.val, by omega⟩) := by
  unfold X0_1 Pipeline.Window.fill
  rw [dif_pos (moved0_1 t _)]
  blk_simp [iblk, idx t, V_main_arg1]
  blk_ext! <;> simp only [idx t] <;> first | rfl | simp

theorem blk_w (c : Dev nD) (t : Fin cfg0.N) : iblk m c 2 t = aW m c := by
  funext y
  blk_simp [iblk, idx t, V_main_arg2]
  blk_ext! <;> simp only [idx t] <;> first | rfl | simp

theorem blk_cw (c : Dev nD) (t : Fin cfg0.N) : iblk m c 3 t = aCW m c := by
  funext y
  blk_simp [iblk, idx t, V_main_arg3]
  blk_ext! <;> simp only [idx t] <;> first | rfl | simp

theorem old_rows (c : Dev nD) (n : Fin 128) (j : Fin 1024) : V m c main_v1 (ix2 n j) = aST m c (ix4 0 n 0 j) := by
  show StableHlo.after hostOps0 (fun b => m (c, b)) (Proc.tc.devRef main_v1) (ix2 n j) = _
  after_results_simp
  pointwise

theorem new_rows (c : Dev nD) (n : Fin 128) (j : Fin 1024) : V m c main_v3 (ix2 n j) = aST m c (ix4 0 n 1 j) := by
  show StableHlo.after hostOps0 (fun b => m (c, b)) (Proc.tc.devRef main_v3) (ix2 n j) = _
  after_results_simp
  pointwise

theorem blk_s0 (c : Dev nD) (t : Fin cfg0.N) (n : Fin 128) (j : Fin 1024) : iblk m c 4 t (ix2 n j) = aST m c (ix4 0 n 0 j) := by
  rw [← old_rows]
  blk_simp [iblk, idx t]
  blk_ext! <;> simp only [idx t] <;> first | rfl | simp

theorem blk_s1 (c : Dev nD) (t : Fin cfg0.N) (n : Fin 128) (j : Fin 1024) : iblk m c 5 t (ix2 n j) = aST m c (ix4 0 n 1 j) := by
  rw [← new_rows]
  blk_simp [iblk, idx t]
  blk_ext! <;> simp only [idx t] <;> first | rfl | simp

theorem blk_wo (c : Dev nD) (t : Fin cfg0.N) : iblk m c 6 t = aWO m c := by
  funext y
  blk_simp [iblk, idx t, V_main_arg5]
  blk_ext! <;> simp only [idx t] <;> first | rfl | simp

theorem blk_g (c : Dev nD) (t : Fin cfg0.N) : iblk m c 7 t = aG m c := by
  funext y
  blk_simp [iblk, idx t, V_main_arg6]
  blk_ext! <;> simp only [idx t] <;> first | rfl | simp

theorem blk_b (c : Dev nD) (t : Fin cfg0.N) : iblk m c 8 t = aB m c := by
  funext y
  blk_simp [iblk, idx t, V_main_arg7]
  blk_ext! <;> simp only [idx t] <;> first | rfl | simp

/-! ## The two arrays the launch writes -/

theorem zero2 : (![0, 0] : Fin 2 → ℕ) = fun _ => 0 := by funext a; fin_cases a <;> rfl

theorem arr9 (c : Dev nD) : (dats m 0 c).arrAt 9 cfg0.N = outC (aX m c) (aM m c) (aW m c) (aCW m c) (aST m c) (aWO m c) (aG m c) (aB m c) := by
  refine (dats m 0 c).arrAt_eq_of_after_last 9 ⟨0, by decide⟩ (by decide +kernel) _ fun j => ?_
  refine (congrFun (after0_9 m c _) _).trans ?_
  unfold outsAt0 out0_A_9
  dsimp only
  rw [View.read_writes_eq_canon _ _ _ (cover0_A_9 _ _ _ _ _ _ _ _ _ _ _ _ _ _ _ _ _ _ _ _ _ _ _ _ _ _ _ _ _ _ _ _ _)]
  unfold kernelRun0_A
  dsimp only
  sl_unfold_words
  rw [View.canon_unit_zero zero2]
  simp only [View.readAt_eq_ld, (hs0_0 ⟨0, by decide⟩).read_unread, (hs0_1 ⟨0, by decide⟩).read_unread, (hs0_2 ⟨0, by decide⟩).read_unread, (hs0_3 ⟨0, by decide⟩).read_unread, (hs0_4 ⟨0, by decide⟩).read_unread, (hs0_5 ⟨0, by decide⟩).read_unread, (hs0_6 ⟨0, by decide⟩).read_unread, (hs0_7 ⟨0, by decide⟩).read_unread, (hs0_8 ⟨0, by decide⟩).read_unread, View.ld_unit_zero (S := S128x1024) zero2, View.ld_unit_zero (S := S128x3072) zero2, View.ld_unit_zero (S := S1024x3072) zero2, View.ld_unit_zero (S := S1024x1024) zero2, View.ld_unit_zero (S := S1x1024) zero2, View.ld_unit_zero (S := S3x1024) zero2]
  rw [blk_x, blk_w, blk_cw, blk_wo, blk_g, blk_b]
  obtain ⟨n, k, rfl⟩ : ∃ (n : Fin 128) (k : Fin 1024), j = ix2 n k := ⟨j 0, j 1, eq_ix2 j⟩
  exact out_apply _ _ _ _ _ _ _ _ _ (aM m c) (aST m c) (blk_m m c _) (blk_s0 m c _) (blk_s1 m c _) n k

theorem arr10 (c : Dev nD) : (dats m 0 c).arrAt 10 cfg0.N = fun y => pC (aX m c) (aM m c) (aW m c) (y 0) (y 1) := by
  refine (dats m 0 c).arrAt_eq_of_after_last 10 ⟨0, by decide⟩ (by decide +kernel) _ fun j => ?_
  refine (congrFun (after0_10 m c _) _).trans ?_
  unfold outsAt0 out0_A_10
  dsimp only
  rw [View.read_writes_eq_canon _ _ _ (cover0_A_10 _ _ _ _ _ _ _ _ _ _ _ _ _ _ _ _ _ _ _ _ _ _ _ _ _ _ _ _ _ _ _ _ _)]
  unfold kernelRun0_A
  dsimp only
  sl_unfold_words
  rw [View.canon_unit_zero zero2]
  simp only [View.readAt_eq_ld, (hs0_0 ⟨0, by decide⟩).read_unread, (hs0_1 ⟨0, by decide⟩).read_unread, (hs0_2 ⟨0, by decide⟩).read_unread, View.ld_unit_zero (S := S128x1024) zero2, View.ld_unit_zero (S := S128x3072) zero2, View.ld_unit_zero (S := S1024x3072) zero2]
  rw [blk_x, blk_w]
  obtain ⟨n, k, rfl⟩ : ∃ (n : Fin 128) (k : Fin 1024), j = ix2 n k := ⟨j 0, j 1, eq_ix2 j⟩
  exact p_apply _ _ _ (aM m c) (blk_m m c _) n k

end Cert.SampleConv
-- ==== Proof.Sample.ConvRef.lean ====
module

public import proofs.«01_k».proof.Proof.Sample.Conv
public import proofs.«01_k».proof.Proof.Gen.Reference3Ideal.Run

/-! # The reference's two results on the sample batch are the same functions of the arguments -/

@[expose] public section

set_option maxRecDepth 16384

noncomputable section

namespace Cert.SampleConv

open Cert.Reference3Ideal Cert.Reference3Ideal.Gen Cert.Reference3Ideal.Value
open Cert.SConv (meanR lnR ix2_congr ix3_congr)
open Idealize.ShloMosaic Idealize.ShloMosaic.TcCoe Idealize.ShloMosaic.Tactic
open Idealize.SL Idealize.SL.RA Idealize.SL.BI Idealize.SL.Sem

variable (X : FVec Ideal S128x1024 .f32) (M : FVec Ideal S136x12288 .f32) (W : FVec Ideal S1024x3072 .bf16) (CW : FVec Ideal S3x1024 .f32)
  (ST : FVec Ideal S1x128x2x1024 .f32) (WO : FVec Ideal S1024x1024 .bf16) (G B : FVec Ideal S1x1024 .f32)

/-- One of the three modulation vectors of the mixer, every sample's. -/
def refMod (o : ℕ) (h : S128x2x2x3x1024.Slices ![0, 1, 0, o, 0] S128x1x1x1x1024) : FVec Ideal S128x1x1024 .f32 :=
  broadcastInDim S128x1x1024 ![0, 2] bcast_S128x1024_S128x1x1024_0_2 (shapeCast _ (extractStridedSlice S128x1x1x1x1024 ![0, 1, 0, o, 0] (shapeCast _ (extractStridedSlice S128x12288 ![0, 0] M slices_S136x12288_S128x12288_0_0) shapeCasts_S128x12288_S128x2x2x3x1024) h) shapeCasts_S128x1x1x1x1024_S128x1024)

theorem refMod_apply (a : Fin 3) (h : S128x2x2x3x1024.Slices ![0, 1, 0, a.val, 0] S128x1x1x1x1024) (n : Fin 128) (k : Fin 1024) :
    refMod M a.val h (ix3 n 0 k) = modC M n a k := by
  unfold modC
  pointwise [refMod]
  refine congrArg M (ix2_congr rfl (Fin.ext ?_))
  show _ = 6144 + 1024 * a.val + k.val
  first | omega | (simp; omega)

/-- The modulated rows. -/
def refH : FVec Ideal S128x1x1024 .f32 :=
  addf (mulf (shapeCast _ X shapeCasts_S128x1024_S128x1x1024) (addf (broadcastInDim S128x1x1024 ![] bcast_S_S128x1x1024 (constant S_ .f32 0x3F800000#32)) (refMod M 1 slices_S128x2x2x3x1024_S128x1x1x1x1024_0_1_0_1_0))) (refMod M 0 slices_S128x2x2x3x1024_S128x1x1x1x1024_0_1_0_0_0)

theorem refH_apply (n : Fin 128) (k : Fin 1024) : refH X M (ix3 n 0 k) = hC X M n k := by
  unfold hC
  rw [← refMod_apply M 0 slices_S128x2x2x3x1024_S128x1x1x1x1024_0_1_0_0_0, ← refMod_apply M 1 slices_S128x2x2x3x1024_S128x1x1x1x1024_0_1_0_1_0]
  pointwise [refH]

/-- The rows' projections. -/
def refZ : FVec Ideal S128x1x3072 .f32 :=
  Host.dotGeneral dot_S128x1x1024_S1024x3072_S128x1x3072_2_0_01_1_n_n none (refH X M) (extf .f32 W bitsLt_bf16_f32)

theorem refZ_apply (n : Fin 128) (j : Fin 3072) : refZ X M W (ix3 n 0 j) = zC X M W n j := by
  unfold zC
  simp only [← refH_apply]
  pointwise [refZ]

/-- The new row of the convolution's input. -/
def refP : FVec Ideal S128x1x1024 .f32 :=
  mulf (extractStridedSlice S128x1x1024 ![0, 0, 1024] (refZ X M W) slices_S128x1x3072_S128x1x1024_0_0_1024) (extractStridedSlice S128x1x1024 ![0, 0, 2048] (refZ X M W) slices_S128x1x3072_S128x1x1024_0_0_2048)

theorem refP_apply (n : Fin 128) (j : Fin 1024) : refP X M W (ix3 n 0 j) = pC X M W n j := by
  unfold pC
  simp only [← refZ_apply]
  pointwise [refP]

/-- The stored rows and the new one. -/
def refE : FVec Ideal S128x3x1024 .f32 :=
  concatenate S128x3x1024 1 [⟨S128x2x1024, (shapeCast _ ST shapeCasts_S1x128x2x1024_S128x2x1024)⟩, ⟨S128x1x1024, (refP X M W)⟩] concatenates_S128x2x1024_S128x1x1024_S128x3x1024_d1

theorem refE_apply0 (n : Fin 128) (j : Fin 1024) : refE X M W ST (ix3 n 0 j) = ST (ix4 0 n 0 j) := by
  pointwise [refE]

theorem refE_apply1 (n : Fin 128) (j : Fin 1024) : refE X M W ST (ix3 n 1 j) = ST (ix4 0 n 1 j) := by
  pointwise [refE]

theorem refE_apply2 (n : Fin 128) (j : Fin 1024) : refE X M W ST (ix3 n 2 j) = pC X M W n j := by
  rw [← refP_apply]
  pointwise [refE]

/-- The gated convolution. -/
def refA : FVec Ideal S128x1x1024 .f32 :=
  mulf (extractStridedSlice S128x1x1024 ![0, 0, 0] (refZ X M W) slices_S128x1x3072_S128x1x1024_0_0_0) (addf (addf (addf (broadcastInDim S128x1x1024 ![] bcast_S_S128x1x1024 (constant S_ .f32 0x00000000#32)) (mulf (broadcastInDim S128x1x1024 ![0, 1, 2] bcast_S1x1x1024_S128x1x1024_0_1_2 (broadcastInDim S1x1x1024 ![2] bcast_S1024_S1x1x1024_2 (shapeCast _ (extractStridedSlice S1x1024 ![0, 0] CW slices_S3x1024_S1x1024_0_0) shapeCasts_S1x1024_S1024))) (extractStridedSlice S128x1x1024 ![0, 0, 0] (refE X M W ST) slices_S128x3x1024_S128x1x1024_0_0_0))) (mulf (broadcastInDim S128x1x1024 ![0, 1, 2] bcast_S1x1x1024_S128x1x1024_0_1_2 (broadcastInDim S1x1x1024 ![2] bcast_S1024_S1x1x1024_2 (shapeCast _ (extractStridedSlice S1x1024 ![1, 0] CW slices_S3x1024_S1x1024_1_0) shapeCasts_S1x1024_S1024))) (extractStridedSlice S128x1x1024 ![0, 1, 0] (refE X M W ST) slices_S128x3x1024_S128x1x1024_0_1_0))) (mulf (broadcastInDim S128x1x1024 ![0, 1, 2] bcast_S1x1x1024_S128x1x1024_0_1_2 (broadcastInDim S1x1x1024 ![2] bcast_S1024_S1x1x1024_2 (shapeCast _ (extractStridedSlice S1x1024 ![2, 0] CW slices_S3x1024_S1x1024_2_0) shapeCasts_S1x1024_S1024))) (extractStridedSlice S128x1x1024 ![0, 2, 0] (refE X M W ST) slices_S128x3x1024_S128x1x1024_0_2_0)))

theorem refA_apply (n : Fin 128) (j : Fin 1024) : refA X M W CW ST (ix3 n 0 j) = aC X M W CW ST n j := by
  unfold aC
  rw [← refZ_apply, ← refE_apply0 X M W ST, ← refE_apply1 X M W ST, ← refE_apply2 X M W ST]
  pointwise [refA]

/-- The residual sums. -/
def refV : FVec Ideal S128x1x1024 .f32 :=
  addf (mulf (broadcastInDim S128x1x1024 ![] bcast_S_S128x1x1024 (constant S_ .f32 0x3FB504F3#32)) (shapeCast _ X shapeCasts_S128x1024_S128x1x1024)) (mulf (refMod M 2 slices_S128x2x2x3x1024_S128x1x1x1x1024_0_1_0_2_0) (Host.dotGeneral dot_S128x1x1024_S1024x1024_S128x1x1024_2_0_01_1_n_n none (refA X M W CW ST) (extf .f32 WO bitsLt_bf16_f32)))

theorem refV_apply (n : Fin 128) (j : Fin 1024) : refV X M W CW ST WO (ix3 n 0 j) = vC X M W CW ST WO n j := by
  unfold vC
  simp only [← refA_apply]
  rw [← refMod_apply M 2 slices_S128x2x2x3x1024_S128x1x1x1x1024_0_1_0_2_0]
  pointwise [refV]

/-- The normalization of every row. -/
def refLN (V : FVec Ideal S128x1x1024 .f32) : FVec Ideal S128x1024 .f32 :=
  shapeCast _ (addf (mulf (mulf (subf V (broadcastInDim S128x1x1024 ![0, 1, 2] bcast_S128x1x1_S128x1x1024_0_1_2 (Host.divf (broadcastInDim S128x1x1 ![0, 1] bcast_S128x1_S128x1x1_0_1 (Host.reduceAdd V (constant S_ .f32 0x00000000#32) reducesTo_S128x1x1024_S128x1_d2 h_S_)) (broadcastInDim S128x1x1 ![] bcast_S_S128x1x1 (constant S_ .f32 0x44800000#32))))) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (subf V (broadcastInDim S128x1x1024 ![0, 1, 2] bcast_S128x1x1_S128x1x1024_0_1_2 (Host.divf (broadcastInDim S128x1x1 ![0, 1] bcast_S128x1_S128x1x1_0_1 (Host.reduceAdd V (constant S_ .f32 0x00000000#32) reducesTo_S128x1x1024_S128x1_d2 h_S_)) (broadcastInDim S128x1x1 ![] bcast_S_S128x1x1 (constant S_ .f32 0x44800000#32))))) (subf V (broadcastInDim S128x1x1024 ![0, 1, 2] bcast_S128x1x1_S128x1x1024_0_1_2 (Host.divf (broadcastInDim S128x1x1 ![0, 1] bcast_S128x1_S128x1x1_0_1 (Host.reduceAdd V (constant S_ .f32 0x00000000#32) reducesTo_S128x1x1024_S128x1_d2 h_S_)) (broadcastInDim S128x1x1 ![] bcast_S_S128x1x1 (constant S_ .f32 0x44800000#32)))))) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x3727C5AC#32)))))) (broadcastInDim S128x1x1024 ![0, 1, 2] bcast_S1x1x1024_S128x1x1024_0_1_2 (broadcastInDim S1x1x1024 ![2] bcast_S1024_S1x1x1024_2 (shapeCast _ G shapeCasts_S1x1024_S1024)))) (broadcastInDim S128x1x1024 ![0, 1, 2] bcast_S1x1x1024_S128x1x1024_0_1_2 (broadcastInDim S1x1x1024 ![2] bcast_S1024_S1x1x1024_2 (shapeCast _ B shapeCasts_S1x1024_S1024)))) shapeCasts_S128x1x1024_S128x1024

theorem refLN_apply (V : FVec Ideal S128x1x1024 .f32) (n : Fin 128) (j : Fin 1024) :
    refLN G B V (ix2 n j) = lnR (fun k => V (ix3 n 0 k)) (G (ix2 0 j)) (B (ix2 0 j)) j := by
  unfold lnR meanR
  pointwise [refLN]

theorem out_eq : refLN G B (refV X M W CW ST WO) = outC X M W CW ST WO G B := by
  funext y
  obtain ⟨n, j, rfl⟩ : ∃ (n : Fin 128) (j : Fin 1024), y = ix2 n j := ⟨y 0, y 1, eq_ix2 y⟩
  rw [refLN_apply]
  simp only [refV_apply]
  rfl

/-- The last two of the three rows. -/
def refState : FVec Ideal S1x128x2x1024 .f32 :=
  broadcastInDim S1x128x2x1024 ![1, 2, 3] bcast_S128x2x1024_S1x128x2x1024_1_2_3 (extractStridedSlice S128x2x1024 ![0, 1, 0] (refE X M W ST) slices_S128x3x1024_S128x2x1024_0_1_0)

theorem state_eq : refState X M W ST = stateC X M W ST := by
  funext y
  obtain ⟨u, n, r, j, rfl⟩ : ∃ (u : Fin 1) (n : Fin 128) (r : Fin 2) (j : Fin 1024), y = ix4 u n r j := ⟨y 0, y 1, y 2, y 3, eq_ix4 y⟩
  show _ = if r.val < 1 then ST (ix4 0 n 1 j) else pC X M W n j
  rw [← refE_apply1 X M W ST, ← refE_apply2 X M W ST]
  fin_cases r
  · pointwise [refState]
  · pointwise [refState]

variable (m : (ℓ : Loc nD τ sig) → Buf (Elt Ideal) ℓ) (c : Dev nD)

theorem res_eq : res_main_v80 m c = outC (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) :=
  Eq.trans (by unfold res_main_v80 refLN refV refA refE refP refZ refH refMod; rfl) (out_eq _ _ _ _ _ _ _ _)

end Cert.SampleConv
-- ==== Proof.Sample.ConvClaims.lean ====
module

public import proofs.«01_k».proof.Defs
public import proofs.«01_k».proof.Proof.Sample.ConvRef
public import Idealize.ShloMosaic.Lib.Claim

/-! # The claims of the short convolution over the sample batch -/

@[expose] public section

noncomputable section

namespace Cert.SampleConv

open Idealize.ShloMosaic Idealize.ShloMosaic.TcCoe Idealize.ShloMosaic.Tactic Idealize.SL.Sem
open Cert.Kernel3Ideal.Gen (W_main_arg4 dats)

/-- The reference writes no argument, and has no semaphore. -/
theorem reference_quiescent : Cert.quiescent_Reference3Ideal (hReference3Ideal := Cert.Reference3Ideal.Gen.facts) := fun m g _ =>
  (θ_run Cert.Reference3Ideal.defs _ _).mono (fun r h => ⟨fun c => (h c).2.2, Idealize.ShloMosaic.sem_eq_zero_of_no_sems (by decide) r.2⟩)
    (Cert.Reference3Ideal.Value.run m g)

open Cert.Kernel3Ideal Cert.Kernel3Ideal.Gen in
/-- The state the launch's host line stacks: the newer stored rows, and the rows the launch wrote. -/
theorem kernel_state (m : (ℓ : Loc nD τ sig) → Buf (Elt Ideal) ℓ) (c : Dev nD) :
    Pipeline.afterTail₀ cfgs (dats m) 0 (V0 m) [hostOps1] c main_v8 = stateC (aX m c) (aM m c) (aW m c) (aST m c) := by
  show StableHlo.after hostOps1 (Pipeline.withArrays spec0 c (V0 m c) fun w => (dats m 0 c).arrAt w cfg0.N) (Proc.tc.devRef main_v8) = _
  have hinj : Function.Injective (Pipeline.arrRef spec0) := by decide +kernel
  have h3 : (Pipeline.withArrays spec0 c (V0 m c) fun w => (dats m 0 c).arrAt w cfg0.N) (Proc.tc.devRef main_v3) = V m c main_v3 :=
    (Pipeline.withArrays_arr spec0 hinj c _ _ 5).trans (((dats m 0 c).arrAt_in 5 rfl _).trans (A_eq m c 5))
  have h4 : (Pipeline.withArrays spec0 c (V0 m c) fun w => (dats m 0 c).arrAt w cfg0.N) (Proc.tc.devRef main_v4_1) = (dats m 0 c).arrAt 10 cfg0.N :=
    Pipeline.withArrays_arr spec0 hinj c _ _ 10
  rw [arr10 m c] at h4
  revert h3 h4
  generalize (Pipeline.withArrays spec0 c (V0 m c) fun w => (dats m 0 c).arrAt w cfg0.N) = σ
  intro h3 h4
  have hr := new_rows m c
  generalize V m c main_v3 = new at h3 hr
  refine Eq.trans (b := broadcastInDim S1x128x2x1024 ![1, 2, 3] bcast_S128x2x1024_S1x128x2x1024_1_2_3 (concatenate S128x2x1024 1
    [⟨S128x1x1024, broadcastInDim S128x1x1024 ![0, 2] bcast_S128x1024_S128x1x1024_0_2 (σ (Proc.tc.devRef main_v3))⟩,
     ⟨S128x1x1024, broadcastInDim S128x1x1024 ![0, 2] bcast_S128x1024_S128x1x1024_0_2 (σ (Proc.tc.devRef main_v4_1))⟩]
    concatenates_S128x1x1024_S128x1x1024_S128x2x1024_d1)) (by after_results_simp; rfl) ?_
  rw [h3, h4]
  funext y
  obtain ⟨u, n, r, j, rfl⟩ : ∃ (u : Fin 1) (n : Fin 128) (r : Fin 2) (j : Fin 1024), y = ix4 u n r j := ⟨y 0, y 1, y 2, y 3, eq_ix4 y⟩
  show _ = if r.val < 1 then aST m c (ix4 0 n 1 j) else pC (aX m c) (aM m c) (aW m c) n j
  rw [← hr]
  fin_cases r
  · pointwise
  · pointwise

/-- Kernel and reference end with the same two arrays: `outC` and `stateC` of the arguments. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => outC (aX m c) (aM m c) (aW m c) (aCW m c) (aST m c) (aWO m c) (aG m c) (aB m c), fun c => stateC (aX m c) (aM m c) (aW m c) (aST m c), ?_, ?_⟩
  · run_from Cert.Kernel3Ideal.Gen.run_main m g
    all_goals first
      | exact arr9 m c
      | exact kernel_state m c
      | exact W_main_arg4 m (dats m) c
  · refine (θ_run Cert.Reference3Ideal.defs _ _).mono (fun r h c => ?_) (Cert.Reference3Ideal.Value.run m' g')
    obtain ⟨h0, h1, h2⟩ := h c
    obtain ⟨a0, a1, a2, a3, a4, a5, a6, a7⟩ := hargs c
    refine ⟨h0.trans ((res_eq m' c).trans ?_), h1.trans (Eq.trans ?_ (state_eq (aX m c) (aM m c) (aW m c) (aST m c))), h2⟩
    · rw [a0, a1, a2, a3, a4, a5, a6, a7]
    · rw [a0, a1, a2, a4]; rfl

end Cert.SampleConv
-- ==== Proof.lean ====
/- The claims, put together: the frames, the short convolution's results (Proof/SConv), the feed-forward layer's (Proof/Ffn) and the sample batch's short
convolution's (Proof/Sample). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.SConv.Free
public import proofs.«01_k».proof.Proof.SConv.Claims
public import proofs.«01_k».proof.Proof.Ffn.Free
public import proofs.«01_k».proof.Proof.Ffn.Claims
public import proofs.«01_k».proof.Proof.Sample.ConvClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.SConv.Free.frame m ρ, fun m ρ _ => Cert.SConv.frame m ρ, Cert.SConv.reference_quiescent,
  fun m ρ _ => Cert.Ffn.Free.frame m ρ, fun m ρ _ => Cert.Ffn.frame m ρ, Cert.Ffn.reference_quiescent,
  fun m ρ _ => Cert.Kernel3.Gen.frame m ρ, fun m ρ _ => Cert.Kernel3Ideal.Gen.frame m ρ, Cert.SampleConv.reference_quiescent,
  trivial, Cert.SConv.algebraic, Cert.Ffn.preserves, Cert.Ffn.algebraic, trivial, Cert.SampleConv.algebraic⟩

end Cert.Proof

end
